-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v27_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v71) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_v51) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_v42) = v4 c
          ∧ r.2.mem ((c.tc : Thread Cert.Reference4Ideal.nD Cert.Reference4Ideal.τ).loc Cert.Reference4Ideal.main_v52) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)) (v8 : (c : Dev Cert.Kernel5Ideal.nD) → Buf (Elt Ideal) ((c.tc : Thread Cert.Kernel5Ideal.nD Cert.Kernel5Ideal.τ).loc Cert.Kernel5Ideal.main_v0_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_v0_7) = v7 c
          ∧ r.2.mem ((c.tc : Thread Cert.Kernel5Ideal.nD Cert.Kernel5Ideal.τ).loc Cert.Kernel5Ideal.main_v0_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v56) = v1 c
          ∧ r.2.mem ((c.tc : Thread Cert.Reference5Ideal.nD Cert.Reference5Ideal.τ).loc Cert.Reference5Ideal.main_v58) = v2 c
          ∧ r.2.mem ((c.tc : Thread Cert.Reference5Ideal.nD Cert.Reference5Ideal.τ).loc Cert.Reference5Ideal.main_v59) = v3 c
          ∧ r.2.mem ((c.tc : Thread Cert.Reference5Ideal.nD Cert.Reference5Ideal.τ).loc Cert.Reference5Ideal.main_v49) = v4 c
          ∧ r.2.mem ((c.tc : Thread Cert.Reference5Ideal.nD Cert.Reference5Ideal.τ).loc Cert.Reference5Ideal.main_v50) = v5 c
          ∧ r.2.mem ((c.tc : Thread Cert.Reference5Ideal.nD Cert.Reference5Ideal.τ).loc Cert.Reference5Ideal.main_v51) = v6 c
          ∧ r.2.mem ((c.tc : Thread Cert.Reference5Ideal.nD Cert.Reference5Ideal.τ).loc Cert.Reference5Ideal.main_v60) = v7 c
          ∧ r.2.mem ((c.tc : Thread Cert.Reference5Ideal.nD Cert.Reference5Ideal.τ).loc Cert.Reference5Ideal.main_v61) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)) (v4 : (c : Dev Cert.Kernel6Ideal.nD) → Buf (Elt Ideal) ((c.tc : Thread Cert.Kernel6Ideal.nD Cert.Kernel6Ideal.τ).loc Cert.Kernel6Ideal.main_v9_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_v9_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_v30) = v2 c
          ∧ r.2.mem ((c.tc : Thread Cert.Reference6Ideal.nD Cert.Reference6Ideal.τ).loc Cert.Reference6Ideal.main_v31) = v3 c
          ∧ r.2.mem ((c.tc : Thread Cert.Reference6Ideal.nD Cert.Reference6Ideal.τ).loc Cert.Reference6Ideal.main_v39) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v57) = v0 c
          ∧ r.2.mem ((c.tc : Thread Cert.Reference8Ideal.nD Cert.Reference8Ideal.τ).loc Cert.Reference8Ideal.main_v39) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S33792x512 : Shape := ⟨2, ![33792, 512]⟩
abbrev S33792x1024 : Shape := ⟨2, ![33792, 1024]⟩
abbrev S1x256 : Shape := ⟨2, ![1, 256]⟩
abbrev S8x4x128x256 : Shape := ⟨4, ![8, 4, 128, 256]⟩
abbrev S384x512 : Shape := ⟨2, ![384, 512]⟩
abbrev S384x1024 : Shape := ⟨2, ![384, 1024]⟩
abbrev S1x4x128x256 : Shape := ⟨4, ![1, 4, 128, 256]⟩
abbrev S4x256x128 : Shape := ⟨3, ![4, 256, 128]⟩
abbrev S256x128 : Shape := ⟨2, ![256, 128]⟩
abbrev S1x256x128 : Shape := ⟨3, ![1, 256, 128]⟩
abbrev S64x64 : Shape := ⟨2, ![64, 64]⟩
abbrev S64x512 : Shape := ⟨2, ![64, 512]⟩
abbrev S64x1024 : Shape := ⟨2, ![64, 1024]⟩
abbrev S1x512 : Shape := ⟨2, ![1, 512]⟩
abbrev S64x256 : Shape := ⟨2, ![64, 256]⟩
abbrev S64x128 : Shape := ⟨2, ![64, 128]⟩
abbrev S1x128 : Shape := ⟨2, ![1, 128]⟩
abbrev S64 : Shape := ⟨1, ![64]⟩
abbrev S64x1 : Shape := ⟨2, ![64, 1]⟩
abbrev S128x256 : Shape := ⟨2, ![128, 256]⟩
abbrev S1x1x128x256 : Shape := ⟨4, ![1, 1, 128, 256]⟩

abbrev nBuf : Space → Nat
  | .hbm => 8
  | .vmem => 16
  | .smem => 0
  | _ => 0

abbrev bufTy : (tb : Table) → Fin (tcTables nBuf tb) → BufTy
  | .hbm, ⟨0, _⟩ => ⟨S33792x512, .f32⟩
  | .hbm, ⟨1, _⟩ => ⟨S33792x512, .f32⟩
  | .hbm, ⟨2, _⟩ => ⟨S33792x1024, .bf16⟩
  | .hbm, ⟨3, _⟩ => ⟨S33792x1024, .f32⟩
  | .hbm, ⟨4, _⟩ => ⟨S33792x512, .f32⟩
  | .hbm, ⟨5, _⟩ => ⟨S1x256, .f32⟩
  | .hbm, ⟨6, _⟩ => ⟨S33792x1024, .bf16⟩
  | .hbm, ⟨7, _⟩ => ⟨S8x4x128x256, .f32⟩
  | .local _ .vmem, ⟨0, _⟩ => ⟨S384x512, .f32⟩
  | .local _ .vmem, ⟨1, _⟩ => ⟨S384x512, .f32⟩
  | .local _ .vmem, ⟨2, _⟩ => ⟨S384x512, .f32⟩
  | .local _ .vmem, ⟨3, _⟩ => ⟨S384x512, .f32⟩
  | .local _ .vmem, ⟨4, _⟩ => ⟨S384x1024, .bf16⟩
  | .local _ .vmem, ⟨5, _⟩ => ⟨S384x1024, .bf16⟩
  | .local _ .vmem, ⟨6, _⟩ => ⟨S384x1024, .f32⟩
  | .local _ .vmem, ⟨7, _⟩ => ⟨S384x1024, .f32⟩
  | .local _ .vmem, ⟨8, _⟩ => ⟨S384x512, .f32⟩
  | .local _ .vmem, ⟨9, _⟩ => ⟨S384x512, .f32⟩
  | .local _ .vmem, ⟨10, _⟩ => ⟨S1x256, .f32⟩
  | .local _ .vmem, ⟨11, _⟩ => ⟨S384x1024, .bf16⟩
  | .local _ .vmem, ⟨12, _⟩ => ⟨S384x1024, .bf16⟩
  | .local _ .vmem, ⟨13, _⟩ => ⟨S1x4x128x256, .f32⟩
  | .local _ .vmem, ⟨14, _⟩ => ⟨S1x4x128x256, .f32⟩
  | .local _ .vmem, ⟨15, _⟩ => ⟨S4x256x128, .f32⟩
  | _, _ => ⟨S33792x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 11], ![false, false]⟩

def k0_mult1 : BitVec 32 :=
  let c6_i32 : BitVec 32 := 6#32
  let c0_i32_3 : BitVec 32 := 0#32
  let v10 : BitVec 32 := Scalar.muli c6_i32 c0_i32_3
  let c0_i32_4 : BitVec 32 := 0#32
  let v11 : BitVec 32 := Scalar.addi v10 c0_i32_4
  let c64_i32 : BitVec 32 := 64#32
  let v12 : BitVec 32 := Scalar.muli v11 c64_i32
  v12
def k0_off1 (c0_i32_4 : BitVec 32) : Fin 2 → Nat :=
  let c6_i32 : BitVec 32 := 6#32
  let c0_i32_3 : BitVec 32 := 0#32
  let v10 : BitVec 32 := Scalar.muli c6_i32 c0_i32_3
  let v11 : BitVec 32 := Scalar.addi v10 c0_i32_4
  let c64_i32 : BitVec 32 := 64#32
  let v12 : BitVec 32 := Scalar.muli v11 c64_i32
  let v13 : BitVec 32 := v12
  let v24 : Index := Scalar.indexCast v13
  let c0_5 : Index := 0#32
  ![v24.toNat, 0]
def k0_off2 (c0_i32_4 : BitVec 32) : Fin 2 → Nat :=
  let c6_i32 : BitVec 32 := 6#32
  let c0_i32_3 : BitVec 32 := 0#32
  let v10 : BitVec 32 := Scalar.muli c6_i32 c0_i32_3
  let v11 : BitVec 32 := Scalar.addi v10 c0_i32_4
  let c64_i32 : BitVec 32 := 64#32
  let v12 : BitVec 32 := Scalar.muli v11 c64_i32
  let v13 : BitVec 32 := v12
  let v36 : Index := Scalar.indexCast v13
  let c0_11 : Index := 0#32
  ![v36.toNat, 0]
def k0_mult2 : BitVec 32 :=
  let c6_i32_69 : BitVec 32 := 6#32
  let c0_i32_3 : BitVec 32 := 0#32
  let v203 : BitVec 32 := Scalar.muli c6_i32_69 c0_i32_3
  let c1_i32 : BitVec 32 := 1#32
  let v204 : BitVec 32 := Scalar.addi v203 c1_i32
  let c64_i32_70 : BitVec 32 := 64#32
  let v205 : BitVec 32 := Scalar.muli v204 c64_i32_70
  v205
def k0_mult3 : BitVec 32 :=
  let c6_i32_141 : BitVec 32 := 6#32
  let c0_i32_3 : BitVec 32 := 0#32
  let v396 : BitVec 32 := Scalar.muli c6_i32_141 c0_i32_3
  let c2_i32 : BitVec 32 := 2#32
  let v397 : BitVec 32 := Scalar.addi v396 c2_i32
  let c64_i32_142 : BitVec 32 := 64#32
  let v398 : BitVec 32 := Scalar.muli v397 c64_i32_142
  v398
def k0_mult4 : BitVec 32 :=
  let c6_i32_213 : BitVec 32 := 6#32
  let c0_i32_3 : BitVec 32 := 0#32
  let v589 : BitVec 32 := Scalar.muli c6_i32_213 c0_i32_3
  let c3_i32 : BitVec 32 := 3#32
  let v590 : BitVec 32 := Scalar.addi v589 c3_i32
  let c64_i32_214 : BitVec 32 := 64#32
  let v591 : BitVec 32 := Scalar.muli v590 c64_i32_214
  v591
def k0_mult5 : BitVec 32 :=
  let c6_i32_285 : BitVec 32 := 6#32
  let c0_i32_3 : BitVec 32 := 0#32
  let v782 : BitVec 32 := Scalar.muli c6_i32_285 c0_i32_3
  let c4_i32 : BitVec 32 := 4#32
  let v783 : BitVec 32 := Scalar.addi v782 c4_i32
  let c64_i32_286 : BitVec 32 := 64#32
  let v784 : BitVec 32 := Scalar.muli v783 c64_i32_286
  v784
def k0_mult6 : BitVec 32 :=
  let c6_i32_357 : BitVec 32 := 6#32
  let c0_i32_3 : BitVec 32 := 0#32
  let v975 : BitVec 32 := Scalar.muli c6_i32_357 c0_i32_3
  let c5_i32 : BitVec 32 := 5#32
  let v976 : BitVec 32 := Scalar.addi v975 c5_i32
  let c64_i32_358 : BitVec 32 := 64#32
  let v977 : BitVec 32 := Scalar.muli v976 c64_i32_358
  v977
def k0_cond2 (i : grid0.Coords) : BitVec 1 :=
  let arg1 : BitVec 32 := BitVec.ofNat 32 (i 1).val
  let c10_i32 : BitVec 32 := 10#32
  let v1168 : BitVec 1 := Scalar.cmpi .eq arg1 c10_i32
  let v1169 : BitVec 32 := Scalar.extui v1168
  let c0_i32_430 : BitVec 32 := 0#32
  let v1170 : BitVec 1 := Scalar.cmpi .ne v1169 c0_i32_430
  v1170

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S33792x512 : Shape := ⟨2, ![33792, 512]⟩
abbrev S33792x1024 : Shape := ⟨2, ![33792, 1024]⟩
abbrev S1x256 : Shape := ⟨2, ![1, 256]⟩
abbrev S4224 : Shape := ⟨1, ![4224]⟩
abbrev S_ : Shape := ⟨0, ![]⟩
abbrev S1x4224x1 : Shape := ⟨3, ![1, 4224, 1]⟩
abbrev S8x66x64x4x128 : Shape := ⟨5, ![8, 66, 64, 4, 128]⟩
abbrev S66x8x64x4x128 : Shape := ⟨5, ![66, 8, 64, 4, 128]⟩
abbrev S8x4224x512 : Shape := ⟨3, ![8, 4224, 512]⟩
abbrev S8x66x64x4x256 : Shape := ⟨5, ![8, 66, 64, 4, 256]⟩
abbrev S66x8x64x4x256 : Shape := ⟨5, ![66, 8, 64, 4, 256]⟩
abbrev S64x64 : Shape := ⟨2, ![64, 64]⟩
abbrev S8x4x128x256 : Shape := ⟨4, ![8, 4, 128, 256]⟩
abbrev S1x8x64x4x128 : Shape := ⟨5, ![1, 8, 64, 4, 128]⟩
abbrev S8x64x4x128 : Shape := ⟨4, ![8, 64, 4, 128]⟩
abbrev S1x8x64x4x256 : Shape := ⟨5, ![1, 8, 64, 4, 256]⟩
abbrev S8x64x4x256 : Shape := ⟨4, ![8, 64, 4, 256]⟩
abbrev S8x1x4x128 : Shape := ⟨4, ![8, 1, 4, 128]⟩
abbrev S8x4x64x64 : Shape := ⟨4, ![8, 4, 64, 64]⟩
abbrev S8x4x256x64 : Shape := ⟨4, ![8, 4, 256, 64]⟩
abbrev S8x4x128 : Shape := ⟨3, ![8, 4, 128]⟩
abbrev S8x4x128x1 : Shape := ⟨4, ![8, 4, 128, 1]⟩
abbrev S8x4224x4x256 : Shape := ⟨4, ![8, 4224, 4, 256]⟩
abbrev S8x4224x4 : Shape := ⟨3, ![8, 4224, 4]⟩
abbrev S8x4224x4x1 : Shape := ⟨4, ![8, 4224, 4, 1]⟩
abbrev S256 : Shape := ⟨1, ![256]⟩
abbrev S1x1x1x256 : Shape := ⟨4, ![1, 1, 1, 256]⟩

abbrev nBuf : Space → Nat
  | .hbm => 159
  | .vmem => 0
  | .smem => 0
  | _ => 0

abbrev hbmTy0_0 (i : Nat) : BufTy := match i % 128 with
  | 0 => ⟨S33792x512, .f32⟩
  | 1 => ⟨S33792x512, .f32⟩
  | 2 => ⟨S33792x1024, .bf16⟩
  | 3 => ⟨S33792x1024, .f32⟩
  | 4 => ⟨S33792x512, .f32⟩
  | 5 => ⟨S1x256, .f32⟩
  | 6 => ⟨S4224, .i32⟩
  | 7 => ⟨S_, .i32⟩
  | 8 => ⟨S4224, .i32⟩
  | 9 => ⟨S4224, .i1⟩
  | 10 => ⟨S_, .i32⟩
  | 11 => ⟨S4224, .i32⟩
  | 12 => ⟨S4224, .i1⟩
  | 13 => ⟨S4224, .i1⟩
  | 14 => ⟨S1x4224x1, .i1⟩
  | 15 => ⟨S_, .f32⟩
  | 16 => ⟨S33792x512, .f32⟩
  | 17 => ⟨S33792x512, .f32⟩
  | 18 => ⟨S8x66x64x4x128, .f32⟩
  | 19 => ⟨S66x8x64x4x128, .f32⟩
  | 20 => ⟨S8x4224x512, .f32⟩
  | 21 => ⟨S_, .f32⟩
  | 22 => ⟨S_, .f32⟩
  | 23 => ⟨S8x4224x512, .i1⟩
  | 24 => ⟨S8x4224x512, .f32⟩
  | 25 => ⟨S8x4224x512, .f32⟩
  | 26 => ⟨S8x66x64x4x128, .f32⟩
  | 27 => ⟨S66x8x64x4x128, .f32⟩
  | 28 => ⟨S33792x1024, .f32⟩
  | 29 => ⟨S8x66x64x4x256, .f32⟩
  | 30 => ⟨S66x8x64x4x256, .f32⟩
  | 31 => ⟨S8x4224x512, .f32⟩
  | 32 => ⟨S_, .f32⟩
  | 33 => ⟨S_, .f32⟩
  | 34 => ⟨S8x4224x512, .i1⟩
  | 35 => ⟨S8x4224x512, .f32⟩
  | 36 => ⟨S8x4224x512, .f32⟩
  | 37 => ⟨S8x66x64x4x128, .f32⟩
  | 38 => ⟨S66x8x64x4x128, .f32⟩
  | 39 => ⟨S_, .f32⟩
  | 40 => ⟨S_, .f32⟩
  | 41 => ⟨S66x8x64x4x128, .f32⟩
  | 42 => ⟨S_, .i1⟩
  | 43 => ⟨S64x64, .i1⟩
  | 44 => ⟨S64x64, .i32⟩
  | 45 => ⟨S_, .i32⟩
  | 46 => ⟨S64x64, .i32⟩
  | 47 => ⟨S64x64, .i32⟩
  | 48 => ⟨S64x64, .i32⟩
  | 49 => ⟨S64x64, .i1⟩
  | 50 => ⟨S_, .i1⟩
  | 51 => ⟨S64x64, .i1⟩
  | 52 => ⟨S64x64, .i1⟩
  | 53 => ⟨S_, .f32⟩
  | 54 => ⟨S8x4x128x256, .f32⟩
  | 55 => ⟨S_, .f32⟩
  | 56 => ⟨S66x8x64x4x256, .f32⟩
  | 57 => ⟨S_, .i32⟩
  | 58 => ⟨S66x8x64x4x128, .f32⟩
  | 59 => ⟨S66x8x64x4x128, .f32⟩
  | 60 => ⟨S66x8x64x4x256, .f32⟩
  | 61 => ⟨S66x8x64x4x128, .f32⟩
  | 62 => ⟨S64x64, .i1⟩
  | 63 => ⟨S_, .i32⟩
  | 64 => ⟨S8x4x128x256, .f32⟩
  | 65 => ⟨S66x8x64x4x256, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S1x8x64x4x128, .f32⟩
  | 73 => ⟨S8x64x4x128, .f32⟩
  | 74 => ⟨S_, .i32⟩
  | 75 => ⟨S_, .i32⟩
  | 76 => ⟨S_, .i32⟩
  | 77 => ⟨S_, .i32⟩
  | 78 => ⟨S1x8x64x4x128, .f32⟩
  | 79 => ⟨S8x64x4x128, .f32⟩
  | 80 => ⟨S_, .i32⟩
  | 81 => ⟨S_, .i32⟩
  | 82 => ⟨S_, .i32⟩
  | 83 => ⟨S_, .i32⟩
  | 84 => ⟨S1x8x64x4x256, .f32⟩
  | 85 => ⟨S8x64x4x256, .f32⟩
  | 86 => ⟨S_, .i32⟩
  | 87 => ⟨S_, .i32⟩
  | 88 => ⟨S_, .i32⟩
  | 89 => ⟨S_, .i32⟩
  | 90 => ⟨S1x8x64x4x128, .f32⟩
  | 91 => ⟨S8x64x4x128, .f32⟩
  | 92 => ⟨S8x64x4x128, .f32⟩
  | 93 => ⟨S8x64x4x128, .f32⟩
  | 94 => ⟨S8x64x4x128, .f32⟩
  | 95 => ⟨S8x64x4x128, .f32⟩
  | 96 => ⟨S8x64x4x128, .f32⟩
  | 97 => ⟨S8x1x4x128, .f32⟩
  | 98 => ⟨S8x4x64x64, .f32⟩
  | 99 => ⟨S_, .f32⟩
  | 100 => ⟨S_, .f32⟩
  | 101 => ⟨S8x4x64x64, .i1⟩
  | 102 => ⟨S8x4x64x64, .f32⟩
  | 103 => ⟨S8x4x64x64, .f32⟩
  | 104 => ⟨S8x4x256x64, .f32⟩
  | 105 => ⟨S8x64x4x256, .f32⟩
  | 106 => ⟨S8x4x256x64, .f32⟩
  | 107 => ⟨S8x64x4x256, .f32⟩
  | 108 => ⟨S8x64x4x128, .f32⟩
  | 109 => ⟨S8x64x4x128, .f32⟩
  | 110 => ⟨S8x64x4x128, .f32⟩
  | 111 => ⟨S8x64x4x128, .f32⟩
  | 112 => ⟨S8x4x128x256, .f32⟩
  | 113 => ⟨S8x4x128, .f32⟩
  | 114 => ⟨S8x4x128, .f32⟩
  | 115 => ⟨S8x4x128x1, .f32⟩
  | 116 => ⟨S8x4x128x256, .f32⟩
  | 117 => ⟨S8x4x128x256, .f32⟩
  | 118 => ⟨S8x4x128x256, .f32⟩
  | 119 => ⟨S8x64x4x256, .f32⟩
  | 120 => ⟨S1x8x64x4x256, .f32⟩
  | 121 => ⟨S_, .i32⟩
  | 122 => ⟨S_, .i32⟩
  | 123 => ⟨S_, .i32⟩
  | 124 => ⟨S_, .i32⟩
  | 125 => ⟨S66x8x64x4x256, .f32⟩
  | 126 => ⟨S_, .i32⟩
  | 127 => ⟨S_, .i32⟩
  | _ => ⟨S33792x512, .f32⟩

abbrev hbmTy0_1 (i : Nat) : BufTy := match i % 128 with
  | 0 => ⟨S8x66x64x4x256, .f32⟩
  | 1 => ⟨S8x4224x4x256, .f32⟩
  | 2 => ⟨S8x4224x4x256, .f32⟩
  | 3 => ⟨S_, .f32⟩
  | 4 => ⟨S8x4224x4, .f32⟩
  | 5 => ⟨S8x4224x4x1, .f32⟩
  | 6 => ⟨S_, .f32⟩
  | 7 => ⟨S8x4224x4x1, .f32⟩
  | 8 => ⟨S8x4224x4x1, .f32⟩
  | 9 => ⟨S_, .f32⟩
  | 10 => ⟨S8x4224x4x1, .f32⟩
  | 11 => ⟨S8x4224x4x1, .f32⟩
  | 12 => ⟨S8x4224x4x1, .f32⟩
  | 13 => ⟨S8x4224x4x256, .f32⟩
  | 14 => ⟨S8x4224x4x256, .f32⟩
  | 15 => ⟨S256, .f32⟩
  | 16 => ⟨S1x1x1x256, .f32⟩
  | 17 => ⟨S8x4224x4x256, .f32⟩
  | 18 => ⟨S8x4224x4x256, .f32⟩
  | 19 => ⟨S33792x1024, .f32⟩
  | 20 => ⟨S33792x1024, .f32⟩
  | 21 => ⟨S33792x1024, .f32⟩
  | 22 => ⟨S_, .f32⟩
  | 23 => ⟨S33792x1024, .f32⟩
  | 24 => ⟨S33792x1024, .f32⟩
  | 25 => ⟨S_, .f32⟩
  | 26 => ⟨S33792x1024, .f32⟩
  | 27 => ⟨S33792x1024, .f32⟩
  | 28 => ⟨S33792x1024, .f32⟩
  | 29 => ⟨S33792x1024, .f32⟩
  | 30 => ⟨S33792x1024, .bf16⟩
  | _ => ⟨S33792x512, .f32⟩

abbrev hbmTy (i : Nat) : BufTy := match i / 128 with
  | 0 => hbmTy0_0 i
  | 1 => hbmTy0_1 i
  | _ => ⟨S33792x512, .f32⟩

abbrev bufTy : (tb : Table) → Fin (tcTables nBuf tb) → BufTy
  | .hbm, ⟨i, _⟩ => hbmTy i
  | _, _ => ⟨S33792x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call2_call0_cst : Ref sig .tc := ⟨.hbm, 39, rfl⟩
abbrev main_call2_call0_v0 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_call3_v0 : Ref sig .tc := ⟨.hbm, 44, rfl⟩
abbrev main_call3_c : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_c_0 : Ref sig .tc := ⟨.hbm, 50, rfl⟩
abbrev main_call3_v5 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_cst_5 : Ref sig .tc := ⟨.hbm, 55, rfl⟩
abbrev main_v26 : Ref sig .tc := ⟨.hbm, 56, rfl⟩
abbrev main_c_6 : Ref sig .tc := ⟨.hbm, 57, rfl⟩
abbrev main_v27_0 : Ref sig .tc := ⟨.hbm, 58, rfl⟩
abbrev main_v27_1 : Ref sig .tc := ⟨.hbm, 59, rfl⟩
abbrev main_v27_2 : Ref sig .tc := ⟨.hbm, 60, rfl⟩
abbrev main_v27_3 : Ref sig .tc := ⟨.hbm, 61, rfl⟩
abbrev main_v27_4 : Ref sig .tc := ⟨.hbm, 62, rfl⟩
abbrev main_v27_5 : Ref sig .tc := ⟨.hbm, 63, rfl⟩
abbrev main_v27_6 : Ref sig .tc := ⟨.hbm, 64, rfl⟩
abbrev main_v27_7 : Ref sig .tc := ⟨.hbm, 65, rfl⟩
abbrev main_while0c_c_17 : Ref sig .tc := ⟨.hbm, 66, rfl⟩
abbrev main_while0c_v48 : Ref sig .tc := ⟨.hbm, 67, rfl⟩
abbrev main_while0b_call4_c : Ref sig .tc := ⟨.hbm, 68, rfl⟩
abbrev main_while0b_call4_c_0 : Ref sig .tc := ⟨.hbm, 69, rfl⟩
abbrev main_while0b_call4_c_1 : Ref sig .tc := ⟨.hbm, 70, rfl⟩
abbrev main_while0b_call4_c_2 : Ref sig .tc := ⟨.hbm, 71, rfl⟩
abbrev main_while0b_call4_v0 : Ref sig .tc := ⟨.hbm, 72, rfl⟩
abbrev main_while0b_v48 : Ref sig .tc := ⟨.hbm, 73, rfl⟩
abbrev main_while0b_call5_c : Ref sig .tc := ⟨.hbm, 74, rfl⟩
abbrev main_while0b_call5_c_0 : Ref sig .tc := ⟨.hbm, 75, rfl⟩
abbrev main_while0b_call5_c_1 : Ref sig .tc := ⟨.hbm, 76, rfl⟩
abbrev main_while0b_call5_c_2 : Ref sig .tc := ⟨.hbm, 77, rfl⟩
abbrev main_while0b_call5_v0 : Ref sig .tc := ⟨.hbm, 78, rfl⟩
abbrev main_while0b_v49 : Ref sig .tc := ⟨.hbm, 79, rfl⟩
abbrev main_while0b_call6_c : Ref sig .tc := ⟨.hbm, 80, rfl⟩
abbrev main_while0b_call6_c_0 : Ref sig .tc := ⟨.hbm, 81, rfl⟩
abbrev main_while0b_call6_c_1 : Ref sig .tc := ⟨.hbm, 82, rfl⟩
abbrev main_while0b_call6_c_2 : Ref sig .tc := ⟨.hbm, 83, rfl⟩
abbrev main_while0b_call6_v0 : Ref sig .tc := ⟨.hbm, 84, rfl⟩
abbrev main_while0b_v50 : Ref sig .tc := ⟨.hbm, 85, rfl⟩
abbrev main_while0b_call7_c : Ref sig .tc := ⟨.hbm, 86, rfl⟩
abbrev main_while0b_call7_c_0 : Ref sig .tc := ⟨.hbm, 87, rfl⟩
abbrev main_while0b_call7_c_1 : Ref sig .tc := ⟨.hbm, 88, rfl⟩
abbrev main_while0b_call7_c_2 : Ref sig .tc := ⟨.hbm, 89, rfl⟩
abbrev main_while0b_call7_v0 : Ref sig .tc := ⟨.hbm, 90, rfl⟩
abbrev main_while0b_v51 : Ref sig .tc := ⟨.hbm, 91, rfl⟩
abbrev main_while0b_v52 : Ref sig .tc := ⟨.hbm, 92, rfl⟩
abbrev main_while0b_v53 : Ref sig .tc := ⟨.hbm, 93, rfl⟩
abbrev main_while0b_v54 : Ref sig .tc := ⟨.hbm, 94, rfl⟩
abbrev main_while0b_v55 : Ref sig .tc := ⟨.hbm, 95, rfl⟩
abbrev main_while0b_v56 : Ref sig .tc := ⟨.hbm, 96, rfl⟩
abbrev main_while0b_v57 : Ref sig .tc := ⟨.hbm, 97, rfl⟩
abbrev main_while0b_v58 : Ref sig .tc := ⟨.hbm, 98, rfl⟩
abbrev main_while0b_cst_17 : Ref sig .tc := ⟨.hbm, 99, rfl⟩
abbrev main_while0b_call8_v0 : Ref sig .tc := ⟨.hbm, 100, rfl⟩
abbrev main_while0b_call8_v1 : Ref sig .tc := ⟨.hbm, 101, rfl⟩
abbrev main_while0b_call8_v2 : Ref sig .tc := ⟨.hbm, 102, rfl⟩
abbrev main_while0b_v59 : Ref sig .tc := ⟨.hbm, 103, rfl⟩
abbrev main_while0b_v60 : Ref sig .tc := ⟨.hbm, 104, rfl⟩
abbrev main_while0b_v61 : Ref sig .tc := ⟨.hbm, 105, rfl⟩
abbrev main_while0b_v62 : Ref sig .tc := ⟨.hbm, 106, rfl⟩
abbrev main_while0b_v63 : Ref sig .tc := ⟨.hbm, 107, rfl⟩
abbrev main_while0b_v64 : Ref sig .tc := ⟨.hbm, 108, rfl⟩
abbrev main_while0b_v65 : Ref sig .tc := ⟨.hbm, 109, rfl⟩
abbrev main_while0b_v66 : Ref sig .tc := ⟨.hbm, 110, rfl⟩
abbrev main_while0b_v67 : Ref sig .tc := ⟨.hbm, 111, rfl⟩
abbrev main_while0b_v68 : Ref sig .tc := ⟨.hbm, 112, rfl⟩
abbrev main_while0b_v69 : Ref sig .tc := ⟨.hbm, 113, rfl⟩
abbrev main_while0b_v70 : Ref sig .tc := ⟨.hbm, 114, rfl⟩
abbrev main_while0b_v71 : Ref sig .tc := ⟨.hbm, 115, rfl⟩
abbrev main_while0b_v72 : Ref sig .tc := ⟨.hbm, 116, rfl⟩
abbrev main_while0b_v73 : Ref sig .tc := ⟨.hbm, 117, rfl⟩
abbrev main_while0b_v74 : Ref sig .tc := ⟨.hbm, 118, rfl⟩
abbrev main_while0b_v75 : Ref sig .tc := ⟨.hbm, 119, rfl⟩
abbrev main_while0b_call9_v0 : Ref sig .tc := ⟨.hbm, 120, rfl⟩
abbrev main_while0b_call9_c : Ref sig .tc := ⟨.hbm, 121, rfl⟩
abbrev main_while0b_call9_c_0 : Ref sig .tc := ⟨.hbm, 122, rfl⟩
abbrev main_while0b_call9_c_1 : Ref sig .tc := ⟨.hbm, 123, rfl⟩
abbrev main_while0b_call9_c_2 : Ref sig .tc := ⟨.hbm, 124, rfl⟩
abbrev main_while0b_v76 : Ref sig .tc := ⟨.hbm, 125, rfl⟩
abbrev main_while0b_c_18 : Ref sig .tc := ⟨.hbm, 126, rfl⟩
abbrev main_while0b_v77 : Ref sig .tc := ⟨.hbm, 127, rfl⟩
abbrev main_v28 : Ref sig .tc := ⟨.hbm, 128, rfl⟩
abbrev main_v29 : Ref sig .tc := ⟨.hbm, 129, rfl⟩
abbrev main_v30 : Ref sig .tc := ⟨.hbm, 130, rfl⟩
abbrev main_cst_7 : Ref sig .tc := ⟨.hbm, 131, rfl⟩
abbrev main_v31 : Ref sig .tc := ⟨.hbm, 132, rfl⟩
abbrev main_v32 : Ref sig .tc := ⟨.hbm, 133, rfl⟩
abbrev main_cst_8 : Ref sig .tc := ⟨.hbm, 134, rfl⟩
abbrev main_v33 : Ref sig .tc := ⟨.hbm, 135, rfl⟩
abbrev main_v34 : Ref sig .tc := ⟨.hbm, 136, rfl⟩
abbrev main_cst_9 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_call10_v0 : Ref sig .tc := ⟨.hbm, 148, rfl⟩
abbrev main_call10_v1 : Ref sig .tc := ⟨.hbm, 149, rfl⟩
abbrev main_call10_cst : Ref sig .tc := ⟨.hbm, 150, rfl⟩
abbrev main_call10_v2 : Ref sig .tc := ⟨.hbm, 151, rfl⟩
abbrev main_call10_v3 : Ref sig .tc := ⟨.hbm, 152, rfl⟩
abbrev main_call10_cst_0 : Ref sig .tc := ⟨.hbm, 153, rfl⟩
abbrev main_call10_v4 : Ref sig .tc := ⟨.hbm, 154, rfl⟩
abbrev main_call10_v5 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩

abbrev nD : Nat := 1
abbrev τ : Topo := Topo.v7x

variable {F : FTy → Type} [FloatOps F]

abbrev main_while0_count : Scf.Loop 32 := ⟨0#32, 66#32, 1#32⟩
-- ==== Kernel2.lean ====
abbrev S8x4224x1024 : Shape := ⟨3, ![8, 4224, 1024]⟩
abbrev S1024x4096 : Shape := ⟨2, ![1024, 4096]⟩
abbrev S4096x1024 : Shape := ⟨2, ![4096, 1024]⟩
abbrev S1x1024 : Shape := ⟨2, ![1, 1024]⟩
abbrev S33792x1024 : Shape := ⟨2, ![33792, 1024]⟩
abbrev S8x4096x1024 : Shape := ⟨3, ![8, 4096, 1024]⟩
abbrev S512x1024 : Shape := ⟨2, ![512, 1024]⟩
abbrev S1x512x1024 : Shape := ⟨3, ![1, 512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x4224x1024, .f32⟩
  | .hbm, ⟨1, _⟩ => ⟨S1024x4096, .bf16⟩
  | .hbm, ⟨2, _⟩ => ⟨S4096x1024, .bf16⟩
  | .hbm, ⟨3, _⟩ => ⟨S1x1024, .f32⟩
  | .hbm, ⟨4, _⟩ => ⟨S1x1024, .f32⟩
  | .hbm, ⟨5, _⟩ => ⟨S33792x1024, .f32⟩
  | .hbm, ⟨6, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c4224_i32 : BitVec 32 := 4224#32
  let v0 : BitVec 32 := Scalar.muli arg0 c4224_i32
  let c64_i32 : BitVec 32 := 64#32
  let v1 : BitVec 32 := Scalar.addi v0 c64_i32
  let arg1 : BitVec 32 := BitVec.ofNat 32 (i 1).val
  let c512_i32 : BitVec 32 := 512#32
  let v2 : BitVec 32 := Scalar.muli arg1 c512_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c4224_i32 : BitVec 32 := 4224#32
  let v0 : BitVec 32 := Scalar.muli arg0 c4224_i32
  let c64_i32 : BitVec 32 := 64#32
  let v1 : BitVec 32 := Scalar.addi v0 c64_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x4224x1024 : Shape := ⟨3, ![8, 4224, 1024]⟩
abbrev S1024x4096 : Shape := ⟨2, ![1024, 4096]⟩
abbrev S4096x1024 : Shape := ⟨2, ![4096, 1024]⟩
abbrev S1x1024 : Shape := ⟨2, ![1, 1024]⟩
abbrev S8x4096x1024 : Shape := ⟨3, ![8, 4096, 1024]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S1024x4096, .bf16⟩
  | .hbm, ⟨2, _⟩ => ⟨S4096x1024, .bf16⟩
  | .hbm, ⟨3, _⟩ => ⟨S1x1024, .f32⟩
  | .hbm, ⟨4, _⟩ => ⟨S1x1024, .f32⟩
  | .hbm, ⟨5, _⟩ => ⟨S8x4096x1024, .f32⟩
  | .hbm, ⟨6, _⟩ => ⟨S1024x4096, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S8x4096x4096, .f32⟩
  | .hbm, ⟨12, _⟩ => ⟨S4096x1024, .f32⟩
  | .hbm, ⟨13, _⟩ => ⟨S8x4096x1024, .f32⟩
  | .hbm, ⟨14, _⟩ => ⟨S_, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1, .f32⟩
  | .hbm, ⟨39, _⟩ => ⟨S8x4096x1024, .f32⟩
  | .hbm, ⟨40, _⟩ => ⟨S8x4096x1024, .f32⟩
  | .hbm, ⟨41, _⟩ => ⟨S1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S1024, .f32⟩
  | .hbm, ⟨46, _⟩ => ⟨S1x1x1024, .f32⟩
  | .hbm, ⟨47, _⟩ => ⟨S8x4096x1024, .f32⟩
  | .hbm, ⟨48, _⟩ => ⟨S8x4096x1024, .f32⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel3.lean ====
abbrev S33792x1024 : Shape := ⟨2, ![33792, 1024]⟩
abbrev S33792x2048 : Shape := ⟨2, ![33792, 2048]⟩
abbrev S1x1024 : Shape := ⟨2, ![1, 1024]⟩
abbrev S1024x1024 : Shape := ⟨2, ![1024, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S33792x1024, .f32⟩
  | .hbm, ⟨1, _⟩ => ⟨S33792x1024, .bf16⟩
  | .hbm, ⟨2, _⟩ => ⟨S33792x1024, .bf16⟩
  | .hbm, ⟨3, _⟩ => ⟨S33792x2048, .bf16⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S33792x1024 : Shape := ⟨2, ![33792, 1024]⟩
abbrev S33792x2048 : Shape := ⟨2, ![33792, 2048]⟩
abbrev S1x1024 : Shape := ⟨2, ![1, 1024]⟩
abbrev S1024x1024 : Shape := ⟨2, ![1024, 1024]⟩
abbrev S33792x2x1024 : Shape := ⟨3, ![33792, 2, 1024]⟩
abbrev S33792x1x1024 : Shape := ⟨3, ![33792, 1, 1024]⟩
abbrev S_ : Shape := ⟨0, ![]⟩
abbrev S33792 : Shape := ⟨1, ![33792]⟩
abbrev S33792x1 : Shape := ⟨2, ![33792, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S33792x1024, .bf16⟩
  | .hbm, ⟨2, _⟩ => ⟨S33792x1024, .bf16⟩
  | .hbm, ⟨3, _⟩ => ⟨S33792x2048, .bf16⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S33792x2048, .f32⟩
  | .hbm, ⟨12, _⟩ => ⟨S33792x2x1024, .f32⟩
  | .hbm, ⟨13, _⟩ => ⟨S33792x1x1024, .f32⟩
  | .hbm, ⟨14, _⟩ => ⟨S33792x1024, .f32⟩
  | .hbm, ⟨15, _⟩ => ⟨S33792x1024, .f32⟩
  | .hbm, ⟨16, _⟩ => ⟨S1024x1024, .f32⟩
  | .hbm, ⟨17, _⟩ => ⟨S33792x1024, .f32⟩
  | .hbm, ⟨18, _⟩ => ⟨S33792x1024, .f32⟩
  | .hbm, ⟨19, _⟩ => ⟨S33792x1x1024, .f32⟩
  | .hbm, ⟨20, _⟩ => ⟨S33792x1024, .f32⟩
  | .hbm, ⟨21, _⟩ => ⟨S33792x1024, .f32⟩
  | .hbm, ⟨22, _⟩ => ⟨S1024x1024, .f32⟩
  | .hbm, ⟨23, _⟩ => ⟨S33792x1024, .f32⟩
  | .hbm, ⟨24, _⟩ => ⟨S33792x1024, .f32⟩
  | .hbm, ⟨25, _⟩ => ⟨S33792x1024, .f32⟩
  | .hbm, ⟨26, _⟩ => ⟨S_, .f32⟩
  | .hbm, ⟨27, _⟩ => ⟨S33792, .f32⟩
  | .hbm, ⟨28, _⟩ => ⟨S33792x1, .f32⟩
  | .hbm, ⟨29, _⟩ => ⟨S_, .f32⟩
  | .hbm, ⟨30, _⟩ => ⟨S33792x1, .f32⟩
  | .hbm, ⟨31, _⟩ => ⟨S33792x1, .f32⟩
  | .hbm, ⟨32, _⟩ => ⟨S33792x1024, .f32⟩
  | .hbm, ⟨33, _⟩ => ⟨S33792x1024, .f32⟩
  | .hbm, ⟨34, _⟩ => ⟨S33792x1024, .f32⟩
  | .hbm, ⟨35, _⟩ => ⟨S_, .f32⟩
  | .hbm, ⟨36, _⟩ => ⟨S33792, .f32⟩
  | .hbm, ⟨37, _⟩ => ⟨S33792x1, .f32⟩
  | .hbm, ⟨38, _⟩ => ⟨S_, .f32⟩
  | .hbm, ⟨39, _⟩ => ⟨S33792x1, .f32⟩
  | .hbm, ⟨40, _⟩ => ⟨S33792x1, .f32⟩
  | .hbm, ⟨41, _⟩ => ⟨S33792x1024, .f32⟩
  | .hbm, ⟨42, _⟩ => ⟨S33792x1024, .f32⟩
  | .hbm, ⟨43, _⟩ => ⟨S_, .f32⟩
  | .hbm, ⟨44, _⟩ => ⟨S33792x1, .f32⟩
  | .hbm, ⟨45, _⟩ => ⟨S33792x1, .f32⟩
  | .hbm, ⟨46, _⟩ => ⟨S33792x1, .f32⟩
  | .hbm, ⟨47, _⟩ => ⟨S33792x1024, .f32⟩
  | .hbm, ⟨48, _⟩ => ⟨S33792x1024, .f32⟩
  | .hbm, ⟨49, _⟩ => ⟨S1024, .f32⟩
  | .hbm, ⟨50, _⟩ => ⟨S1x1024, .f32⟩
  | .hbm, ⟨51, _⟩ => ⟨S33792x1024, .f32⟩
  | .hbm, ⟨52, _⟩ => ⟨S33792x1024, .f32⟩
  | .hbm, ⟨53, _⟩ => ⟨S1024, .f32⟩
  | .hbm, ⟨54, _⟩ => ⟨S1x1024, .f32⟩
  | .hbm, ⟨55, _⟩ => ⟨S33792x1024, .f32⟩
  | .hbm, ⟨56, _⟩ => ⟨S33792x1024, .f32⟩
  | .hbm, ⟨57, _⟩ => ⟨S_, .f32⟩
  | .hbm, ⟨58, _⟩ => ⟨S33792x1024, .f32⟩
  | .hbm, ⟨59, _⟩ => ⟨S33792x1024, .f32⟩
  | .hbm, ⟨60, _⟩ => ⟨S1024x1024, .f32⟩
  | .hbm, ⟨61, _⟩ => ⟨S33792x1024, .f32⟩
  | .hbm, ⟨62, _⟩ => ⟨S33792x1024, .f32⟩
  | .hbm, ⟨63, _⟩ => ⟨S_, .f32⟩
  | .hbm, ⟨64, _⟩ => ⟨S33792, .f32⟩
  | .hbm, ⟨65, _⟩ => ⟨S33792x1, .f32⟩
  | .hbm, ⟨66, _⟩ => ⟨S_, .f32⟩
  | .hbm, ⟨67, _⟩ => ⟨S33792x1, .f32⟩
  | .hbm, ⟨68, _⟩ => ⟨S33792x1, .f32⟩
  | .hbm, ⟨69, _⟩ => ⟨S33792x1024, .f32⟩
  | .hbm, ⟨70, _⟩ => ⟨S33792x1024, .f32⟩
  | .hbm, ⟨71, _⟩ => ⟨S33792x1024, .f32⟩
  | .hbm, ⟨72, _⟩ => ⟨S_, .f32⟩
  | .hbm, ⟨73, _⟩ => ⟨S33792, .f32⟩
  | .hbm, ⟨74, _⟩ => ⟨S33792x1, .f32⟩
  | .hbm, ⟨75, _⟩ => ⟨S_, .f32⟩
  | .hbm, ⟨76, _⟩ => ⟨S33792x1, .f32⟩
  | .hbm, ⟨77, _⟩ => ⟨S33792x1, .f32⟩
  | .hbm, ⟨78, _⟩ => ⟨S33792x1024, .f32⟩
  | .hbm, ⟨79, _⟩ => ⟨S33792x1024, .f32⟩
  | .hbm, ⟨80, _⟩ => ⟨S_, .f32⟩
  | .hbm, ⟨81, _⟩ => ⟨S33792x1, .f32⟩
  | .hbm, ⟨82, _⟩ => ⟨S33792x1, .f32⟩
  | .hbm, ⟨83, _⟩ => ⟨S33792x1, .f32⟩
  | .hbm, ⟨84, _⟩ => ⟨S33792x1024, .f32⟩
  | .hbm, ⟨85, _⟩ => ⟨S33792x1024, .f32⟩
  | .hbm, ⟨86, _⟩ => ⟨S1024, .f32⟩
  | .hbm, ⟨87, _⟩ => ⟨S1x1024, .f32⟩
  | .hbm, ⟨88, _⟩ => ⟨S33792x1024, .f32⟩
  | .hbm, ⟨89, _⟩ => ⟨S33792x1024, .f32⟩
  | .hbm, ⟨90, _⟩ => ⟨S1024, .f32⟩
  | .hbm, ⟨91, _⟩ => ⟨S1x1024, .f32⟩
  | .hbm, ⟨92, _⟩ => ⟨S33792x1024, .f32⟩
  | .hbm, ⟨93, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel4.lean ====
abbrev S33792x1024 : Shape := ⟨2, ![33792, 1024]⟩
abbrev S1x1024 : Shape := ⟨2, ![1, 1024]⟩
abbrev S1024x3072 : Shape := ⟨2, ![1024, 3072]⟩
abbrev S1024x128 : Shape := ⟨2, ![1024, 128]⟩
abbrev S128x512 : Shape := ⟨2, ![128, 512]⟩
abbrev S1x512 : Shape := ⟨2, ![1, 512]⟩
abbrev S1024x2048 : Shape := ⟨2, ![1024, 2048]⟩
abbrev S33792x512 : Shape := ⟨2, ![33792, 512]⟩
abbrev S33792x2048 : Shape := ⟨2, ![33792, 2048]⟩
abbrev S512x1024 : Shape := ⟨2, ![512, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S512x3072 : Shape := ⟨2, ![512, 3072]⟩
abbrev S512x128 : Shape := ⟨2, ![512, 128]⟩

abbrev nBuf : Space → Nat
  | .hbm => 14
  | .vmem => 21
  | .smem => 0
  | _ => 0

abbrev bufTy : (tb : Table) → Fin (tcTables nBuf tb) → BufTy
  | .hbm, ⟨0, _⟩ => ⟨S33792x1024, .f32⟩
  | .hbm, ⟨1, _⟩ => ⟨S1x1024, .f32⟩
  | .hbm, ⟨2, _⟩ => ⟨S1x1024, .f32⟩
  | .hbm, ⟨3, _⟩ => ⟨S1024x3072, .bf16⟩
  | .hbm, ⟨4, _⟩ => ⟨S1024x128, .bf16⟩
  | .hbm, ⟨5, _⟩ => ⟨S128x512, .bf16⟩
  | .hbm, ⟨6, _⟩ => ⟨S1x512, .f32⟩
  | .hbm, ⟨7, _⟩ => ⟨S1024x2048, .bf16⟩
  | .hbm, ⟨8, _⟩ => ⟨S33792x512, .f32⟩
  | .hbm, ⟨9, _⟩ => ⟨S33792x512, .f32⟩
  | .hbm, ⟨10, _⟩ => ⟨S33792x1024, .bf16⟩
  | .hbm, ⟨11, _⟩ => ⟨S33792x1024, .f32⟩
  | .hbm, ⟨12, _⟩ => ⟨S33792x512, .f32⟩
  | .hbm, ⟨13, _⟩ => ⟨S33792x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S1024x128, .bf16⟩
  | .local _ .vmem, ⟨6, _⟩ => ⟨S128x512, .bf16⟩
  | .local _ .vmem, ⟨7, _⟩ => ⟨S1x512, .f32⟩
  | .local _ .vmem, ⟨8, _⟩ => ⟨S1024x2048, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x512, .f32⟩
  | .local _ .vmem, ⟨18, _⟩ => ⟨S512x512, .f32⟩
  | .local _ .vmem, ⟨19, _⟩ => ⟨S512x2048, .bf16⟩
  | .local _ .vmem, ⟨20, _⟩ => ⟨S512x2048, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S33792x1024 : Shape := ⟨2, ![33792, 1024]⟩
abbrev S1x1024 : Shape := ⟨2, ![1, 1024]⟩
abbrev S1024x3072 : Shape := ⟨2, ![1024, 3072]⟩
abbrev S1024x128 : Shape := ⟨2, ![1024, 128]⟩
abbrev S128x512 : Shape := ⟨2, ![128, 512]⟩
abbrev S1x512 : Shape := ⟨2, ![1, 512]⟩
abbrev S1024x2048 : Shape := ⟨2, ![1024, 2048]⟩
abbrev S_ : Shape := ⟨0, ![]⟩
abbrev S33792 : Shape := ⟨1, ![33792]⟩
abbrev S33792x1 : Shape := ⟨2, ![33792, 1]⟩
abbrev S1024 : Shape := ⟨1, ![1024]⟩
abbrev S33792x3072 : Shape := ⟨2, ![33792, 3072]⟩
abbrev S33792x512 : Shape := ⟨2, ![33792, 512]⟩
abbrev S33792x128 : Shape := ⟨2, ![33792, 128]⟩
abbrev S512 : Shape := ⟨1, ![512]⟩
abbrev S33792x2048 : Shape := ⟨2, ![33792, 2048]⟩

abbrev nBuf : Space → Nat
  | .hbm => 84
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1x1024, .f32⟩
  | .hbm, ⟨2, _⟩ => ⟨S1x1024, .f32⟩
  | .hbm, ⟨3, _⟩ => ⟨S1024x3072, .bf16⟩
  | .hbm, ⟨4, _⟩ => ⟨S1024x128, .bf16⟩
  | .hbm, ⟨5, _⟩ => ⟨S128x512, .bf16⟩
  | .hbm, ⟨6, _⟩ => ⟨S1x512, .f32⟩
  | .hbm, ⟨7, _⟩ => ⟨S1024x2048, .bf16⟩
  | .hbm, ⟨8, _⟩ => ⟨S_, .f32⟩
  | .hbm, ⟨9, _⟩ => ⟨S33792, .f32⟩
  | .hbm, ⟨10, _⟩ => ⟨S33792x1, .f32⟩
  | .hbm, ⟨11, _⟩ => ⟨S_, .f32⟩
  | .hbm, ⟨12, _⟩ => ⟨S33792x1, .f32⟩
  | .hbm, ⟨13, _⟩ => ⟨S33792x1, .f32⟩
  | .hbm, ⟨14, _⟩ => ⟨S33792x1024, .f32⟩
  | .hbm, ⟨15, _⟩ => ⟨S33792x1024, .f32⟩
  | .hbm, ⟨16, _⟩ => ⟨S33792x1024, .f32⟩
  | .hbm, ⟨17, _⟩ => ⟨S_, .f32⟩
  | .hbm, ⟨18, _⟩ => ⟨S33792, .f32⟩
  | .hbm, ⟨19, _⟩ => ⟨S33792x1, .f32⟩
  | .hbm, ⟨20, _⟩ => ⟨S_, .f32⟩
  | .hbm, ⟨21, _⟩ => ⟨S33792x1, .f32⟩
  | .hbm, ⟨22, _⟩ => ⟨S33792x1, .f32⟩
  | .hbm, ⟨23, _⟩ => ⟨S33792x1024, .f32⟩
  | .hbm, ⟨24, _⟩ => ⟨S33792x1024, .f32⟩
  | .hbm, ⟨25, _⟩ => ⟨S_, .f32⟩
  | .hbm, ⟨26, _⟩ => ⟨S33792x1, .f32⟩
  | .hbm, ⟨27, _⟩ => ⟨S33792x1, .f32⟩
  | .hbm, ⟨28, _⟩ => ⟨S33792x1, .f32⟩
  | .hbm, ⟨29, _⟩ => ⟨S33792x1024, .f32⟩
  | .hbm, ⟨30, _⟩ => ⟨S33792x1024, .f32⟩
  | .hbm, ⟨31, _⟩ => ⟨S1024, .f32⟩
  | .hbm, ⟨32, _⟩ => ⟨S1x1024, .f32⟩
  | .hbm, ⟨33, _⟩ => ⟨S33792x1024, .f32⟩
  | .hbm, ⟨34, _⟩ => ⟨S33792x1024, .f32⟩
  | .hbm, ⟨35, _⟩ => ⟨S1024, .f32⟩
  | .hbm, ⟨36, _⟩ => ⟨S1x1024, .f32⟩
  | .hbm, ⟨37, _⟩ => ⟨S33792x1024, .f32⟩
  | .hbm, ⟨38, _⟩ => ⟨S33792x1024, .f32⟩
  | .hbm, ⟨39, _⟩ => ⟨S1024x3072, .f32⟩
  | .hbm, ⟨40, _⟩ => ⟨S33792x3072, .f32⟩
  | .hbm, ⟨41, _⟩ => ⟨S33792x512, .f32⟩
  | .hbm, ⟨42, _⟩ => ⟨S33792x512, .f32⟩
  | .hbm, ⟨43, _⟩ => ⟨S33792x1024, .f32⟩
  | .hbm, ⟨44, _⟩ => ⟨S33792x1024, .f32⟩
  | .hbm, ⟨45, _⟩ => ⟨S1024x128, .f32⟩
  | .hbm, ⟨46, _⟩ => ⟨S33792x128, .f32⟩
  | .hbm, ⟨47, _⟩ => ⟨S128x512, .f32⟩
  | .hbm, ⟨48, _⟩ => ⟨S33792x512, .f32⟩
  | .hbm, ⟨49, _⟩ => ⟨S512, .f32⟩
  | .hbm, ⟨50, _⟩ => ⟨S1x512, .f32⟩
  | .hbm, ⟨51, _⟩ => ⟨S33792x512, .f32⟩
  | .hbm, ⟨52, _⟩ => ⟨S33792x512, .f32⟩
  | .hbm, ⟨53, _⟩ => ⟨S33792x512, .f32⟩
  | .hbm, ⟨54, _⟩ => ⟨S_, .f32⟩
  | .hbm, ⟨55, _⟩ => ⟨S33792x512, .f32⟩
  | .hbm, ⟨56, _⟩ => ⟨S33792x512, .f32⟩
  | .hbm, ⟨57, _⟩ => ⟨S33792x512, .f32⟩
  | .hbm, ⟨58, _⟩ => ⟨S33792x512, .f32⟩
  | .hbm, ⟨59, _⟩ => ⟨S33792x512, .i1⟩
  | .hbm, ⟨60, _⟩ => ⟨S33792x512, .f32⟩
  | .hbm, ⟨61, _⟩ => ⟨S33792x512, .f32⟩
  | .hbm, ⟨62, _⟩ => ⟨S33792x512, .f32⟩
  | .hbm, ⟨63, _⟩ => ⟨S33792x512, .f32⟩
  | .hbm, ⟨64, _⟩ => ⟨S33792x512, .f32⟩
  | .hbm, ⟨65, _⟩ => ⟨S33792x512, .f32⟩
  | .hbm, ⟨66, _⟩ => ⟨S33792x512, .f32⟩
  | .hbm, ⟨67, _⟩ => ⟨S33792x512, .f32⟩
  | .hbm, ⟨68, _⟩ => ⟨S33792x512, .f32⟩
  | .hbm, ⟨69, _⟩ => ⟨S_, .f32⟩
  | .hbm, ⟨70, _⟩ => ⟨S33792x512, .f32⟩
  | .hbm, ⟨71, _⟩ => ⟨S33792x512, .f32⟩
  | .hbm, ⟨72, _⟩ => ⟨S1024x2048, .f32⟩
  | .hbm, ⟨73, _⟩ => ⟨S33792x2048, .f32⟩
  | .hbm, ⟨74, _⟩ => ⟨S33792x2048, .f32⟩
  | .hbm, ⟨75, _⟩ => ⟨S33792x2048, .f32⟩
  | .hbm, ⟨76, _⟩ => ⟨S_, .f32⟩
  | .hbm, ⟨77, _⟩ => ⟨S33792x2048, .f32⟩
  | .hbm, ⟨78, _⟩ => ⟨S33792x2048, .f32⟩
  | .hbm, ⟨79, _⟩ => ⟨S_, .f32⟩
  | .hbm, ⟨80, _⟩ => ⟨S33792x2048, .f32⟩
  | .hbm, ⟨81, _⟩ => ⟨S33792x2048, .f32⟩
  | .hbm, ⟨82, _⟩ => ⟨S33792x1024, .bf16⟩
  | .hbm, ⟨83, _⟩ => ⟨S33792x2048, .bf16⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_v0 : Ref sig .tc := ⟨.hbm, 53, rfl⟩
abbrev main_call0_call0_cst : Ref sig .tc := ⟨.hbm, 54, rfl⟩
abbrev main_call0_call0_v0 : Ref sig .tc := ⟨.hbm, 55, rfl⟩
abbrev main_call0_call0_v1 : Ref sig .tc := ⟨.hbm, 56, rfl⟩
abbrev main_call0_call0_v2 : Ref sig .tc := ⟨.hbm, 57, rfl⟩
abbrev main_call0_call0_v3 : Ref sig .tc := ⟨.hbm, 58, rfl⟩
abbrev main_call0_call0_v4 : Ref sig .tc := ⟨.hbm, 59, rfl⟩
abbrev main_call0_call0_v5 : Ref sig .tc := ⟨.hbm, 60, rfl⟩
abbrev main_call0_call0_v6 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_v9 : Ref sig .tc := ⟨.hbm, 64, rfl⟩
abbrev main_call0_call0_v10 : Ref sig .tc := ⟨.hbm, 65, rfl⟩
abbrev main_call0_call0_v11 : Ref sig .tc := ⟨.hbm, 66, rfl⟩
abbrev main_call0_v1 : Ref sig .tc := ⟨.hbm, 67, rfl⟩
abbrev main_v40 : Ref sig .tc := ⟨.hbm, 68, rfl⟩
abbrev main_cst_4 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_5 : Ref sig .tc := ⟨.hbm, 76, rfl⟩
abbrev main_v47 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== Kernel5.lean ====
abbrev S33792x1024 : Shape := ⟨2, ![33792, 1024]⟩
abbrev S1x1024 : Shape := ⟨2, ![1, 1024]⟩
abbrev S1024x1024 : Shape := ⟨2, ![1024, 1024]⟩
abbrev S512x1024 : Shape := ⟨2, ![512, 1024]⟩
abbrev S16x1024 : Shape := ⟨2, ![16, 1024]⟩
abbrev S1024x640 : Shape := ⟨2, ![1024, 640]⟩
abbrev S1024x33792 : Shape := ⟨2, ![1024, 33792]⟩
abbrev S512x33792 : Shape := ⟨2, ![512, 33792]⟩
abbrev S88x512x384 : Shape := ⟨3, ![88, 512, 384]⟩
abbrev S8x33792 : Shape := ⟨2, ![8, 33792]⟩
abbrev S33792x256 : Shape := ⟨2, ![33792, 256]⟩
abbrev S33792x64 : Shape := ⟨2, ![33792, 64]⟩
abbrev S768x1024 : Shape := ⟨2, ![768, 1024]⟩
abbrev S1024x768 : Shape := ⟨2, ![1024, 768]⟩
abbrev S512x768 : Shape := ⟨2, ![512, 768]⟩
abbrev S2x512x384 : Shape := ⟨3, ![2, 512, 384]⟩
abbrev S8x768 : Shape := ⟨2, ![8, 768]⟩
abbrev S768x256 : Shape := ⟨2, ![768, 256]⟩
abbrev S768x64 : Shape := ⟨2, ![768, 64]⟩
abbrev S768 : Shape := ⟨1, ![768]⟩
abbrev S768x1 : Shape := ⟨2, ![768, 1]⟩
abbrev S512x384 : Shape := ⟨2, ![512, 384]⟩
abbrev S1x512x384 : Shape := ⟨3, ![1, 512, 384]⟩
abbrev S16x768 : Shape := ⟨2, ![16, 768]⟩
abbrev S768x640 : Shape := ⟨2, ![768, 640]⟩

abbrev nBuf : Space → Nat
  | .hbm => 17
  | .vmem => 27
  | .smem => 0
  | _ => 0

abbrev bufTy : (tb : Table) → Fin (tcTables nBuf tb) → BufTy
  | .hbm, ⟨0, _⟩ => ⟨S33792x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S512x1024, .bf16⟩
  | .hbm, ⟨5, _⟩ => ⟨S512x1024, .bf16⟩
  | .hbm, ⟨6, _⟩ => ⟨S16x1024, .bf16⟩
  | .hbm, ⟨7, _⟩ => ⟨S1024x640, .bf16⟩
  | .hbm, ⟨8, _⟩ => ⟨S1024x33792, .bf16⟩
  | .hbm, ⟨9, _⟩ => ⟨S512x33792, .bf16⟩
  | .hbm, ⟨10, _⟩ => ⟨S88x512x384, .bf16⟩
  | .hbm, ⟨11, _⟩ => ⟨S8x33792, .f32⟩
  | .hbm, ⟨12, _⟩ => ⟨S33792x256, .f32⟩
  | .hbm, ⟨13, _⟩ => ⟨S33792x256, .f32⟩
  | .hbm, ⟨14, _⟩ => ⟨S33792x64, .f32⟩
  | .hbm, ⟨15, _⟩ => ⟨S33792x256, .bf16⟩
  | .hbm, ⟨16, _⟩ => ⟨S33792x64, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S16x1024, .bf16⟩
  | .local _ .vmem, ⟨8, _⟩ => ⟨S1024x640, .bf16⟩
  | .local _ .vmem, ⟨9, _⟩ => ⟨S1024x768, .bf16⟩
  | .local _ .vmem, ⟨10, _⟩ => ⟨S1024x768, .bf16⟩
  | .local _ .vmem, ⟨11, _⟩ => ⟨S512x768, .bf16⟩
  | .local _ .vmem, ⟨12, _⟩ => ⟨S512x768, .bf16⟩
  | .local _ .vmem, ⟨13, _⟩ => ⟨S2x512x384, .bf16⟩
  | .local _ .vmem, ⟨14, _⟩ => ⟨S2x512x384, .bf16⟩
  | .local _ .vmem, ⟨15, _⟩ => ⟨S8x768, .f32⟩
  | .local _ .vmem, ⟨16, _⟩ => ⟨S8x768, .f32⟩
  | .local _ .vmem, ⟨17, _⟩ => ⟨S768x256, .f32⟩
  | .local _ .vmem, ⟨18, _⟩ => ⟨S768x256, .f32⟩
  | .local _ .vmem, ⟨19, _⟩ => ⟨S768x256, .f32⟩
  | .local _ .vmem, ⟨20, _⟩ => ⟨S768x256, .f32⟩
  | .local _ .vmem, ⟨21, _⟩ => ⟨S768x64, .f32⟩
  | .local _ .vmem, ⟨22, _⟩ => ⟨S768x64, .f32⟩
  | .local _ .vmem, ⟨23, _⟩ => ⟨S768x256, .bf16⟩
  | .local _ .vmem, ⟨24, _⟩ => ⟨S768x256, .bf16⟩
  | .local _ .vmem, ⟨25, _⟩ => ⟨S768x64, .bf16⟩
  | .local _ .vmem, ⟨26, _⟩ => ⟨S768x64, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x640 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S768x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S768x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S768x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S768x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S768x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S33792x1024 : Shape := ⟨2, ![33792, 1024]⟩
abbrev S1x1024 : Shape := ⟨2, ![1, 1024]⟩
abbrev S1024x1024 : Shape := ⟨2, ![1024, 1024]⟩
abbrev S512x1024 : Shape := ⟨2, ![512, 1024]⟩
abbrev S16x1024 : Shape := ⟨2, ![16, 1024]⟩
abbrev S1024x640 : Shape := ⟨2, ![1024, 640]⟩
abbrev S_ : Shape := ⟨0, ![]⟩
abbrev S33792 : Shape := ⟨1, ![33792]⟩
abbrev S33792x1 : Shape := ⟨2, ![33792, 1]⟩
abbrev S1024 : Shape := ⟨1, ![1024]⟩
abbrev S1024x512 : Shape := ⟨2, ![1024, 512]⟩
abbrev S33792x512 : Shape := ⟨2, ![33792, 512]⟩
abbrev S88x384x4x128 : Shape := ⟨4, ![88, 384, 4, 128]⟩
abbrev S128 : Shape := ⟨1, ![128]⟩
abbrev S88x384x512 : Shape := ⟨3, ![88, 384, 512]⟩
abbrev S1024x16 : Shape := ⟨2, ![1024, 16]⟩
abbrev S33792x16 : Shape := ⟨2, ![33792, 16]⟩
abbrev S33792x8 : Shape := ⟨2, ![33792, 8]⟩
abbrev S33792x640 : Shape := ⟨2, ![33792, 640]⟩
abbrev S33792x256 : Shape := ⟨2, ![33792, 256]⟩
abbrev S33792x64 : Shape := ⟨2, ![33792, 64]⟩
abbrev S1024x33792 : Shape := ⟨2, ![1024, 33792]⟩
abbrev S512x33792 : Shape := ⟨2, ![512, 33792]⟩
abbrev S88x512x384 : Shape := ⟨3, ![88, 512, 384]⟩
abbrev S8x33792 : Shape := ⟨2, ![8, 33792]⟩

abbrev nBuf : Space → Nat
  | .hbm => 81
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S512x1024, .bf16⟩
  | .hbm, ⟨5, _⟩ => ⟨S512x1024, .bf16⟩
  | .hbm, ⟨6, _⟩ => ⟨S16x1024, .bf16⟩
  | .hbm, ⟨7, _⟩ => ⟨S1024x640, .bf16⟩
  | .hbm, ⟨8, _⟩ => ⟨S_, .f32⟩
  | .hbm, ⟨9, _⟩ => ⟨S33792, .f32⟩
  | .hbm, ⟨10, _⟩ => ⟨S33792x1, .f32⟩
  | .hbm, ⟨11, _⟩ => ⟨S_, .f32⟩
  | .hbm, ⟨12, _⟩ => ⟨S33792x1, .f32⟩
  | .hbm, ⟨13, _⟩ => ⟨S33792x1, .f32⟩
  | .hbm, ⟨14, _⟩ => ⟨S33792x1024, .f32⟩
  | .hbm, ⟨15, _⟩ => ⟨S33792x1024, .f32⟩
  | .hbm, ⟨16, _⟩ => ⟨S33792x1024, .f32⟩
  | .hbm, ⟨17, _⟩ => ⟨S_, .f32⟩
  | .hbm, ⟨18, _⟩ => ⟨S33792, .f32⟩
  | .hbm, ⟨19, _⟩ => ⟨S33792x1, .f32⟩
  | .hbm, ⟨20, _⟩ => ⟨S_, .f32⟩
  | .hbm, ⟨21, _⟩ => ⟨S33792x1, .f32⟩
  | .hbm, ⟨22, _⟩ => ⟨S33792x1, .f32⟩
  | .hbm, ⟨23, _⟩ => ⟨S33792x1024, .f32⟩
  | .hbm, ⟨24, _⟩ => ⟨S33792x1024, .f32⟩
  | .hbm, ⟨25, _⟩ => ⟨S_, .f32⟩
  | .hbm, ⟨26, _⟩ => ⟨S33792x1, .f32⟩
  | .hbm, ⟨27, _⟩ => ⟨S33792x1, .f32⟩
  | .hbm, ⟨28, _⟩ => ⟨S33792x1, .f32⟩
  | .hbm, ⟨29, _⟩ => ⟨S33792x1024, .f32⟩
  | .hbm, ⟨30, _⟩ => ⟨S33792x1024, .f32⟩
  | .hbm, ⟨31, _⟩ => ⟨S1024, .f32⟩
  | .hbm, ⟨32, _⟩ => ⟨S1x1024, .f32⟩
  | .hbm, ⟨33, _⟩ => ⟨S33792x1024, .f32⟩
  | .hbm, ⟨34, _⟩ => ⟨S33792x1024, .f32⟩
  | .hbm, ⟨35, _⟩ => ⟨S1024, .f32⟩
  | .hbm, ⟨36, _⟩ => ⟨S1x1024, .f32⟩
  | .hbm, ⟨37, _⟩ => ⟨S33792x1024, .f32⟩
  | .hbm, ⟨38, _⟩ => ⟨S33792x1024, .f32⟩
  | .hbm, ⟨39, _⟩ => ⟨S1024x1024, .f32⟩
  | .hbm, ⟨40, _⟩ => ⟨S1024x1024, .f32⟩
  | .hbm, ⟨41, _⟩ => ⟨S33792x1024, .f32⟩
  | .hbm, ⟨42, _⟩ => ⟨S512x1024, .f32⟩
  | .hbm, ⟨43, _⟩ => ⟨S1024x512, .f32⟩
  | .hbm, ⟨44, _⟩ => ⟨S33792x512, .f32⟩
  | .hbm, ⟨45, _⟩ => ⟨S512x1024, .f32⟩
  | .hbm, ⟨46, _⟩ => ⟨S1024x512, .f32⟩
  | .hbm, ⟨47, _⟩ => ⟨S33792x512, .f32⟩
  | .hbm, ⟨48, _⟩ => ⟨S88x384x4x128, .f32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S_, .f32⟩
  | .hbm, ⟨54, _⟩ => ⟨S_, .f32⟩
  | .hbm, ⟨55, _⟩ => ⟨S88x384x4x128, .i1⟩
  | .hbm, ⟨56, _⟩ => ⟨S88x384x4x128, .f32⟩
  | .hbm, ⟨57, _⟩ => ⟨S88x384x4x128, .f32⟩
  | .hbm, ⟨58, _⟩ => ⟨S88x384x512, .f32⟩
  | .hbm, ⟨59, _⟩ => ⟨S16x1024, .f32⟩
  | .hbm, ⟨60, _⟩ => ⟨S1024x16, .f32⟩
  | .hbm, ⟨61, _⟩ => ⟨S33792x16, .f32⟩
  | .hbm, ⟨62, _⟩ => ⟨S33792x8, .f32⟩
  | .hbm, ⟨63, _⟩ => ⟨S_, .f32⟩
  | .hbm, ⟨64, _⟩ => ⟨S33792x8, .f32⟩
  | .hbm, ⟨65, _⟩ => ⟨S33792x8, .f32⟩
  | .hbm, ⟨66, _⟩ => ⟨S1024x640, .f32⟩
  | .hbm, ⟨67, _⟩ => ⟨S33792x640, .f32⟩
  | .hbm, ⟨68, _⟩ => ⟨S33792x256, .f32⟩
  | .hbm, ⟨69, _⟩ => ⟨S33792x256, .f32⟩
  | .hbm, ⟨70, _⟩ => ⟨S33792x64, .f32⟩
  | .hbm, ⟨71, _⟩ => ⟨S33792x64, .f32⟩
  | .hbm, ⟨72, _⟩ => ⟨S1024x33792, .f32⟩
  | .hbm, ⟨73, _⟩ => ⟨S1024x33792, .bf16⟩
  | .hbm, ⟨74, _⟩ => ⟨S512x33792, .f32⟩
  | .hbm, ⟨75, _⟩ => ⟨S512x33792, .bf16⟩
  | .hbm, ⟨76, _⟩ => ⟨S88x512x384, .f32⟩
  | .hbm, ⟨77, _⟩ => ⟨S88x512x384, .bf16⟩
  | .hbm, ⟨78, _⟩ => ⟨S8x33792, .f32⟩
  | .hbm, ⟨79, _⟩ => ⟨S33792x256, .bf16⟩
  | .hbm, ⟨80, _⟩ => ⟨S33792x64, .bf16⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S1024x2176 : Shape := ⟨2, ![1024, 2176]⟩
abbrev S128 : Shape := ⟨1, ![128]⟩
abbrev S_ : Shape := ⟨0, ![]⟩
abbrev S1x128 : Shape := ⟨2, ![1, 128]⟩
abbrev S2048x512 : Shape := ⟨2, ![2048, 512]⟩
abbrev S2048x256 : Shape := ⟨2, ![2048, 256]⟩
abbrev S2048x128 : Shape := ⟨2, ![2048, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x2176 : Shape := ⟨2, ![512, 2176]⟩

abbrev nBuf : Space → Nat
  | .hbm => 24
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x2176, .bf16⟩
  | .hbm, ⟨4, _⟩ => ⟨S128, .i32⟩
  | .hbm, ⟨5, _⟩ => ⟨S_, .i32⟩
  | .hbm, ⟨6, _⟩ => ⟨S128, .i32⟩
  | .hbm, ⟨7, _⟩ => ⟨S128, .i1⟩
  | .hbm, ⟨8, _⟩ => ⟨S_, .i32⟩
  | .hbm, ⟨9, _⟩ => ⟨S128, .i32⟩
  | .hbm, ⟨10, _⟩ => ⟨S128, .i1⟩
  | .hbm, ⟨11, _⟩ => ⟨S128, .i1⟩
  | .hbm, ⟨12, _⟩ => ⟨S_, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S2048x1024, .bf16⟩
  | .hbm, ⟨20, _⟩ => ⟨S2048x512, .bf16⟩
  | .hbm, ⟨21, _⟩ => ⟨S2048x256, .f32⟩
  | .hbm, ⟨22, _⟩ => ⟨S2048x256, .f32⟩
  | .hbm, ⟨23, _⟩ => ⟨S2048x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2176, .bf16⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S2048x1024 : Shape := ⟨2, ![2048, 1024]⟩
abbrev S1x1024 : Shape := ⟨2, ![1, 1024]⟩
abbrev S1024x2176 : Shape := ⟨2, ![1024, 2176]⟩
abbrev S_ : Shape := ⟨0, ![]⟩
abbrev S2048 : Shape := ⟨1, ![2048]⟩
abbrev S2048x1 : Shape := ⟨2, ![2048, 1]⟩
abbrev S1024 : Shape := ⟨1, ![1024]⟩
abbrev S2048x2176 : Shape := ⟨2, ![2048, 2176]⟩
abbrev S2048x512 : Shape := ⟨2, ![2048, 512]⟩
abbrev S2048x256 : Shape := ⟨2, ![2048, 256]⟩
abbrev S2048x64 : Shape := ⟨2, ![2048, 64]⟩
abbrev S2048x8 : Shape := ⟨2, ![2048, 8]⟩
abbrev S2048x56 : Shape := ⟨2, ![2048, 56]⟩
abbrev S2048x128 : Shape := ⟨2, ![2048, 128]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x2176, .bf16⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S1024x2176, .f32⟩
  | .hbm, ⟨36, _⟩ => ⟨S2048x2176, .f32⟩
  | .hbm, ⟨37, _⟩ => ⟨S2048x1024, .f32⟩
  | .hbm, ⟨38, _⟩ => ⟨S2048x512, .f32⟩
  | .hbm, ⟨39, _⟩ => ⟨S2048x256, .f32⟩
  | .hbm, ⟨40, _⟩ => ⟨S2048x256, .f32⟩
  | .hbm, ⟨41, _⟩ => ⟨S2048x64, .f32⟩
  | .hbm, ⟨42, _⟩ => ⟨S2048x8, .f32⟩
  | .hbm, ⟨43, _⟩ => ⟨S2048x56, .f32⟩
  | .hbm, ⟨44, _⟩ => ⟨S2048x1024, .bf16⟩
  | .hbm, ⟨45, _⟩ => ⟨S2048x512, .bf16⟩
  | .hbm, ⟨46, _⟩ => ⟨S_, .f32⟩
  | .hbm, ⟨47, _⟩ => ⟨S2048x8, .f32⟩
  | .hbm, ⟨48, _⟩ => ⟨S2048x8, .f32⟩
  | .hbm, ⟨49, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel7.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x4096, .bf16⟩
  | .hbm, ⟨2, _⟩ => ⟨S4096x1024, .bf16⟩
  | .hbm, ⟨3, _⟩ => ⟨S1x1024, .f32⟩
  | .hbm, ⟨4, _⟩ => ⟨S1x1024, .f32⟩
  | .hbm, ⟨5, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .bf16⟩
  | .hbm, ⟨2, _⟩ => ⟨S4096x1024, .bf16⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S4096x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel8.lean ====
abbrev S2048x512 : Shape := ⟨2, ![2048, 512]⟩
abbrev S2048x1024 : Shape := ⟨2, ![2048, 1024]⟩
abbrev S1x256 : Shape := ⟨2, ![1, 256]⟩
abbrev S128x4x128x256 : Shape := ⟨4, ![128, 4, 128, 256]⟩
abbrev S16x512 : Shape := ⟨2, ![16, 512]⟩
abbrev S16x1024 : Shape := ⟨2, ![16, 1024]⟩
abbrev S1x4x128x256 : Shape := ⟨4, ![1, 4, 128, 256]⟩
abbrev S4x256x128 : Shape := ⟨3, ![4, 256, 128]⟩
abbrev S1x1x128x256 : Shape := ⟨4, ![1, 1, 128, 256]⟩
abbrev S128x256 : Shape := ⟨2, ![128, 256]⟩
abbrev S256x128 : Shape := ⟨2, ![256, 128]⟩
abbrev S1x256x128 : Shape := ⟨3, ![1, 256, 128]⟩
abbrev S16x16 : Shape := ⟨2, ![16, 16]⟩
abbrev S1x512 : Shape := ⟨2, ![1, 512]⟩
abbrev S16x256 : Shape := ⟨2, ![16, 256]⟩
abbrev S16x128 : Shape := ⟨2, ![16, 128]⟩
abbrev S1x128 : Shape := ⟨2, ![1, 128]⟩
abbrev S16 : Shape := ⟨1, ![16]⟩
abbrev S16x1 : Shape := ⟨2, ![16, 1]⟩

abbrev nBuf : Space → Nat
  | .hbm => 9
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .bf16⟩
  | .hbm, ⟨3, _⟩ => ⟨S2048x1024, .f32⟩
  | .hbm, ⟨4, _⟩ => ⟨S2048x512, .f32⟩
  | .hbm, ⟨5, _⟩ => ⟨S1x256, .f32⟩
  | .hbm, ⟨6, _⟩ => ⟨S128x4x128x256, .f32⟩
  | .hbm, ⟨7, _⟩ => ⟨S2048x1024, .bf16⟩
  | .hbm, ⟨8, _⟩ => ⟨S128x4x128x256, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x1024, .bf16⟩
  | .local _ .vmem, ⟨5, _⟩ => ⟨S16x1024, .bf16⟩
  | .local _ .vmem, ⟨6, _⟩ => ⟨S16x1024, .f32⟩
  | .local _ .vmem, ⟨7, _⟩ => ⟨S16x1024, .f32⟩
  | .local _ .vmem, ⟨8, _⟩ => ⟨S16x512, .f32⟩
  | .local _ .vmem, ⟨9, _⟩ => ⟨S16x512, .f32⟩
  | .local _ .vmem, ⟨10, _⟩ => ⟨S1x256, .f32⟩
  | .local _ .vmem, ⟨11, _⟩ => ⟨S1x4x128x256, .f32⟩
  | .local _ .vmem, ⟨12, _⟩ => ⟨S1x4x128x256, .f32⟩
  | .local _ .vmem, ⟨13, _⟩ => ⟨S16x1024, .bf16⟩
  | .local _ .vmem, ⟨14, _⟩ => ⟨S16x1024, .bf16⟩
  | .local _ .vmem, ⟨15, _⟩ => ⟨S1x4x128x256, .f32⟩
  | .local _ .vmem, ⟨16, _⟩ => ⟨S1x4x128x256, .f32⟩
  | .local _ .vmem, ⟨17, _⟩ => ⟨S4x256x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![128, 1], ![false, false]⟩

def k0_mult1 : BitVec 32 :=
  let c1_i32 : BitVec 32 := 1#32
  let c0_i32_3 : BitVec 32 := 0#32
  let v10 : BitVec 32 := Scalar.muli c1_i32 c0_i32_3
  let c0_i32_4 : BitVec 32 := 0#32
  let v11 : BitVec 32 := Scalar.addi v10 c0_i32_4
  let c16_i32 : BitVec 32 := 16#32
  let v12 : BitVec 32 := Scalar.muli v11 c16_i32
  v12
def k0_off1 : Fin 2 → Nat :=
  let c1_i32 : BitVec 32 := 1#32
  let c0_i32_3 : BitVec 32 := 0#32
  let v10 : BitVec 32 := Scalar.muli c1_i32 c0_i32_3
  let c0_i32_4 : BitVec 32 := 0#32
  let v11 : BitVec 32 := Scalar.addi v10 c0_i32_4
  let c16_i32 : BitVec 32 := 16#32
  let v12 : BitVec 32 := Scalar.muli v11 c16_i32
  let v13 : BitVec 32 := v12
  let v24 : Index := Scalar.indexCast v13
  let c0_7 : Index := 0#32
  ![v24.toNat, 0]
def k0_off2 : Fin 2 → Nat :=
  let c1_i32 : BitVec 32 := 1#32
  let c0_i32_3 : BitVec 32 := 0#32
  let v10 : BitVec 32 := Scalar.muli c1_i32 c0_i32_3
  let c0_i32_4 : BitVec 32 := 0#32
  let v11 : BitVec 32 := Scalar.addi v10 c0_i32_4
  let c16_i32 : BitVec 32 := 16#32
  let v12 : BitVec 32 := Scalar.muli v11 c16_i32
  let v13 : BitVec 32 := v12
  let v36 : Index := Scalar.indexCast v13
  let c0_13 : Index := 0#32
  ![v36.toNat, 0]
def k0_cond2 (i : grid0.Coords) : BitVec 1 :=
  let arg1 : BitVec 32 := BitVec.ofNat 32 (i 1).val
  let c0_i32_72 : BitVec 32 := 0#32
  let v203 : BitVec 1 := Scalar.cmpi .eq arg1 c0_i32_72
  let v204 : BitVec 32 := Scalar.extui v203
  let c0_i32_73 : BitVec 32 := 0#32
  let v205 : BitVec 1 := Scalar.cmpi .ne v204 c0_i32_73
  v205

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference8Ideal.lean ====
abbrev S2048x512 : Shape := ⟨2, ![2048, 512]⟩
abbrev S2048x1024 : Shape := ⟨2, ![2048, 1024]⟩
abbrev S1x256 : Shape := ⟨2, ![1, 256]⟩
abbrev S128x4x128x256 : Shape := ⟨4, ![128, 4, 128, 256]⟩
abbrev S16 : Shape := ⟨1, ![16]⟩
abbrev S_ : Shape := ⟨0, ![]⟩
abbrev S1x16x1x1 : Shape := ⟨4, ![1, 16, 1, 1]⟩
abbrev S128x16x4x128 : Shape := ⟨4, ![128, 16, 4, 128]⟩
abbrev S128x16x4x256 : Shape := ⟨4, ![128, 16, 4, 256]⟩
abbrev S128x1x4x128 : Shape := ⟨4, ![128, 1, 4, 128]⟩
abbrev S16x16 : Shape := ⟨2, ![16, 16]⟩
abbrev S128x4x16x16 : Shape := ⟨4, ![128, 4, 16, 16]⟩
abbrev S128x4x256x16 : Shape := ⟨4, ![128, 4, 256, 16]⟩
abbrev S128x4x128 : Shape := ⟨3, ![128, 4, 128]⟩
abbrev S128x4x128x1 : Shape := ⟨4, ![128, 4, 128, 1]⟩
abbrev S128x16x4 : Shape := ⟨3, ![128, 16, 4]⟩
abbrev S128x16x4x1 : Shape := ⟨4, ![128, 16, 4, 1]⟩
abbrev S256 : Shape := ⟨1, ![256]⟩
abbrev S1x1x1x256 : Shape := ⟨4, ![1, 1, 1, 256]⟩

abbrev nBuf : Space → Nat
  | .hbm => 101
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .bf16⟩
  | .hbm, ⟨3, _⟩ => ⟨S2048x1024, .f32⟩
  | .hbm, ⟨4, _⟩ => ⟨S2048x512, .f32⟩
  | .hbm, ⟨5, _⟩ => ⟨S1x256, .f32⟩
  | .hbm, ⟨6, _⟩ => ⟨S128x4x128x256, .f32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i1⟩
  | .hbm, ⟨11, _⟩ => ⟨S1x16x1x1, .i1⟩
  | .hbm, ⟨12, _⟩ => ⟨S128x16x4x128, .f32⟩
  | .hbm, ⟨13, _⟩ => ⟨S_, .f32⟩
  | .hbm, ⟨14, _⟩ => ⟨S128x16x4x128, .f32⟩
  | .hbm, ⟨15, _⟩ => ⟨S128x16x4x128, .f32⟩
  | .hbm, ⟨16, _⟩ => ⟨S128x16x4x128, .f32⟩
  | .hbm, ⟨17, _⟩ => ⟨S_, .f32⟩
  | .hbm, ⟨18, _⟩ => ⟨S_, .f32⟩
  | .hbm, ⟨19, _⟩ => ⟨S128x16x4x128, .i1⟩
  | .hbm, ⟨20, _⟩ => ⟨S128x16x4x128, .f32⟩
  | .hbm, ⟨21, _⟩ => ⟨S128x16x4x128, .f32⟩
  | .hbm, ⟨22, _⟩ => ⟨S2048x1024, .f32⟩
  | .hbm, ⟨23, _⟩ => ⟨S128x16x4x256, .f32⟩
  | .hbm, ⟨24, _⟩ => ⟨S128x16x4x128, .f32⟩
  | .hbm, ⟨25, _⟩ => ⟨S_, .f32⟩
  | .hbm, ⟨26, _⟩ => ⟨S_, .f32⟩
  | .hbm, ⟨27, _⟩ => ⟨S128x16x4x128, .i1⟩
  | .hbm, ⟨28, _⟩ => ⟨S128x16x4x128, .f32⟩
  | .hbm, ⟨29, _⟩ => ⟨S128x16x4x128, .f32⟩
  | .hbm, ⟨30, _⟩ => ⟨S_, .f32⟩
  | .hbm, ⟨31, _⟩ => ⟨S_, .f32⟩
  | .hbm, ⟨32, _⟩ => ⟨S128x16x4x128, .f32⟩
  | .hbm, ⟨33, _⟩ => ⟨S128x1x4x128, .f32⟩
  | .hbm, ⟨34, _⟩ => ⟨S128x16x4x128, .f32⟩
  | .hbm, ⟨35, _⟩ => ⟨S128x16x4x128, .f32⟩
  | .hbm, ⟨36, _⟩ => ⟨S128x16x4x128, .f32⟩
  | .hbm, ⟨37, _⟩ => ⟨S128x16x4x128, .f32⟩
  | .hbm, ⟨38, _⟩ => ⟨S128x16x4x128, .f32⟩
  | .hbm, ⟨39, _⟩ => ⟨S_, .i1⟩
  | .hbm, ⟨40, _⟩ => ⟨S16x16, .i1⟩
  | .hbm, ⟨41, _⟩ => ⟨S16x16, .i32⟩
  | .hbm, ⟨42, _⟩ => ⟨S_, .i32⟩
  | .hbm, ⟨43, _⟩ => ⟨S16x16, .i32⟩
  | .hbm, ⟨44, _⟩ => ⟨S16x16, .i32⟩
  | .hbm, ⟨45, _⟩ => ⟨S16x16, .i32⟩
  | .hbm, ⟨46, _⟩ => ⟨S16x16, .i1⟩
  | .hbm, ⟨47, _⟩ => ⟨S_, .i1⟩
  | .hbm, ⟨48, _⟩ => ⟨S16x16, .i1⟩
  | .hbm, ⟨49, _⟩ => ⟨S16x16, .i1⟩
  | .hbm, ⟨50, _⟩ => ⟨S128x4x16x16, .f32⟩
  | .hbm, ⟨51, _⟩ => ⟨S_, .f32⟩
  | .hbm, ⟨52, _⟩ => ⟨S_, .f32⟩
  | .hbm, ⟨53, _⟩ => ⟨S128x4x16x16, .i1⟩
  | .hbm, ⟨54, _⟩ => ⟨S128x4x16x16, .f32⟩
  | .hbm, ⟨55, _⟩ => ⟨S128x4x16x16, .f32⟩
  | .hbm, ⟨56, _⟩ => ⟨S128x4x256x16, .f32⟩
  | .hbm, ⟨57, _⟩ => ⟨S128x16x4x256, .f32⟩
  | .hbm, ⟨58, _⟩ => ⟨S128x4x256x16, .f32⟩
  | .hbm, ⟨59, _⟩ => ⟨S128x16x4x256, .f32⟩
  | .hbm, ⟨60, _⟩ => ⟨S128x16x4x256, .f32⟩
  | .hbm, ⟨61, _⟩ => ⟨S128x4x128, .f32⟩
  | .hbm, ⟨62, _⟩ => ⟨S128x4x128, .f32⟩
  | .hbm, ⟨63, _⟩ => ⟨S128x4x128x1, .f32⟩
  | .hbm, ⟨64, _⟩ => ⟨S128x4x128x256, .f32⟩
  | .hbm, ⟨65, _⟩ => ⟨S128x4x128x256, .f32⟩
  | .hbm, ⟨66, _⟩ => ⟨S128x16x4x128, .f32⟩
  | .hbm, ⟨67, _⟩ => ⟨S128x16x4x128, .f32⟩
  | .hbm, ⟨68, _⟩ => ⟨S128x16x4x128, .f32⟩
  | .hbm, ⟨69, _⟩ => ⟨S128x16x4x128, .f32⟩
  | .hbm, ⟨70, _⟩ => ⟨S128x4x128x256, .f32⟩
  | .hbm, ⟨71, _⟩ => ⟨S128x4x128x256, .f32⟩
  | .hbm, ⟨72, _⟩ => ⟨S128x16x4x256, .f32⟩
  | .hbm, ⟨73, _⟩ => ⟨S_, .f32⟩
  | .hbm, ⟨74, _⟩ => ⟨S128x16x4, .f32⟩
  | .hbm, ⟨75, _⟩ => ⟨S128x16x4x1, .f32⟩
  | .hbm, ⟨76, _⟩ => ⟨S_, .f32⟩
  | .hbm, ⟨77, _⟩ => ⟨S128x16x4x1, .f32⟩
  | .hbm, ⟨78, _⟩ => ⟨S128x16x4x1, .f32⟩
  | .hbm, ⟨79, _⟩ => ⟨S_, .f32⟩
  | .hbm, ⟨80, _⟩ => ⟨S128x16x4x1, .f32⟩
  | .hbm, ⟨81, _⟩ => ⟨S128x16x4x1, .f32⟩
  | .hbm, ⟨82, _⟩ => ⟨S128x16x4x1, .f32⟩
  | .hbm, ⟨83, _⟩ => ⟨S128x16x4x256, .f32⟩
  | .hbm, ⟨84, _⟩ => ⟨S128x16x4x256, .f32⟩
  | .hbm, ⟨85, _⟩ => ⟨S256, .f32⟩
  | .hbm, ⟨86, _⟩ => ⟨S1x1x1x256, .f32⟩
  | .hbm, ⟨87, _⟩ => ⟨S128x16x4x256, .f32⟩
  | .hbm, ⟨88, _⟩ => ⟨S128x16x4x256, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S_, .f32⟩
  | .hbm, ⟨93, _⟩ => ⟨S2048x1024, .f32⟩
  | .hbm, ⟨94, _⟩ => ⟨S2048x1024, .f32⟩
  | .hbm, ⟨95, _⟩ => ⟨S_, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v12 : Ref sig .tc := ⟨.hbm, 29, rfl⟩
abbrev main_call2_call0_cst : Ref sig .tc := ⟨.hbm, 30, rfl⟩
abbrev main_call2_call0_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_2 : Ref sig .tc := ⟨.hbm, 39, rfl⟩
abbrev main_v20 : Ref sig .tc := ⟨.hbm, 40, rfl⟩
abbrev main_call3_v0 : Ref sig .tc := ⟨.hbm, 41, rfl⟩
abbrev main_call3_c : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_c_0 : Ref sig .tc := ⟨.hbm, 47, rfl⟩
abbrev main_call3_v5 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_4 : Ref sig .tc := ⟨.hbm, 73, rfl⟩
abbrev main_v41 : Ref sig .tc := ⟨.hbm, 74, rfl⟩
abbrev main_v42 : Ref sig .tc := ⟨.hbm, 75, rfl⟩
abbrev main_cst_5 : Ref sig .tc := ⟨.hbm, 76, rfl⟩
abbrev main_v43 : Ref sig .tc := ⟨.hbm, 77, rfl⟩
abbrev main_v44 : Ref sig .tc := ⟨.hbm, 78, rfl⟩
abbrev main_cst_6 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_call5_v0 : Ref sig .tc := ⟨.hbm, 90, rfl⟩
abbrev main_call5_v1 : Ref sig .tc := ⟨.hbm, 91, rfl⟩
abbrev main_call5_cst : Ref sig .tc := ⟨.hbm, 92, rfl⟩
abbrev main_call5_v2 : Ref sig .tc := ⟨.hbm, 93, rfl⟩
abbrev main_call5_v3 : Ref sig .tc := ⟨.hbm, 94, rfl⟩
abbrev main_call5_cst_0 : Ref sig .tc := ⟨.hbm, 95, rfl⟩
abbrev main_call5_v4 : Ref sig .tc := ⟨.hbm, 96, rfl⟩
abbrev main_call5_v5 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩

abbrev nD : Nat := 1
abbrev τ : Topo := Topo.v7x

variable {F : FTy → Type} [FloatOps F]
-- ==== Proof.Gla.Chunk.lean ====
/- One chunk of 64 positions of the gated linear recurrence, as the kernel's body computes it: the tensor expressions
   of the new state and of the output of one head, and what they are at an index.
   Throughout, `l` is the masked log-decay, `k` the masked key, `q` the scaled query, `v` the value of the chunk's
   positions (all four heads side by side), and `s` the state of one head, stored value-dimension first. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.Gla

open Idealize.ShloMosaic Idealize.ShloMosaic.TcCoe Idealize.SL.Sem

/-! ## The mathematics of a chunk, over functions of a position and a coordinate -/

/-- The accumulated log-decay of a chunk up to and including position `i`. -/
def dec (l : Fin 64 → EReal) (i : Fin 64) : EReal := ∑ u : Fin 64, if u ≤ i then l u else 0

/-- The state entry after a chunk: the entry before it, decayed over the chunk, plus the chunk's products of value
    and key, each key decayed from its position to the end of the chunk. -/
def stNext (l k v : Fin 64 → EReal) (s : EReal) : EReal :=
  Ideal.exp (dec l 63) * s + ∑ u, v u * (k u * Ideal.exp (dec l 63 - dec l u))

/-- The output of one head at position `i` and one value coordinate: the causal products within the chunk and what
    the state from before the chunk contributes. -/
def outRaw (l k q : Fin 64 → Fin 128 → EReal) (v : Fin 64 → EReal) (s : Fin 128 → EReal) (i : Fin 64) : EReal :=
  (∑ u, (if u ≤ i then ∑ d, q i d * Ideal.exp (dec (fun x => l x d) i) * (k u d * Ideal.exp (0 - dec (fun x => l x d) u)) else 0) * v u)
    + ∑ d, q i d * Ideal.exp (dec (fun x => l x d) i) * s d

/-- Root-mean-square normalisation of one head's output row at coordinate `e`. -/
def rms (o : Fin 256 → EReal) (g : EReal) (e : Fin 256) : EReal :=
  o e * Ideal.rsqrt (Ideal.div (∑ x, o x * o x) (Ideal.ofBits FTy.f32 0x43800000#32) + Ideal.ofBits FTy.f32 0x3727C5AC#32) * g

/-- Coordinate `d` of head `h` among the 512 key coordinates. -/
abbrev hk (h : Fin 4) (d : Fin 128) : Fin 512 := ⟨128 * h.val + d.val, by omega⟩

/-- Coordinate `e` of head `h` among the 1024 value coordinates. -/
abbrev hv (h : Fin 4) (e : Fin 256) : Fin 1024 := ⟨256 * h.val + e.val, by omega⟩

/-- The choice by the bit `x ≤ i`, of two positions of a chunk written as words. -/
theorem select_causal (i x : Fin 64) (X Y : EReal) :
    Scalar.select (IntOp.cmpi .sge (BitVec.ofNat 32 i.val) (BitVec.ofNat 32 x.val)) X Y = if x ≤ i then X else Y := by
  rw [WordCmp.cmpi_sge_ofNat (by omega) (by omega), WordCmp.select_ofBool]
  simp only [decide_eq_true_eq, Fin.le_def]

/-- The choice by the bit that position `n + i` is a real one. -/
theorem select_valid (n i : ℕ) (h : n + i < 4224) (X Y : EReal) :
    Scalar.select (IntOp.andi (IntOp.cmpi .sge (IntOp.addi (BitVec.ofNat 32 n) (BitVec.ofNat 32 i)) 48#32)
      (IntOp.cmpi .slt (IntOp.addi (BitVec.ofNat 32 n) (BitVec.ofNat 32 i)) 4160#32)) X Y
      = if 48 ≤ n + i ∧ n + i < 4160 then X else Y := by
  rw [WordCmp.addi_ofNat, WordCmp.cmpi_sge_ofNat (by omega) (by omega), WordCmp.cmpi_slt_ofNat (by omega) (by omega),
    WordCmp.andi_ofBool, WordCmp.select_ofBool]
  simp only [Bool.and_eq_true, decide_eq_true_eq]

section
open Cert.KernelIdeal Cert.KernelIdeal.Gen

/-! ## The kernel's tensor expressions -/

theorem slk (h : Fin 4) : S64x512.Slices ![0, 128 * h.val] S64x128 := by revert h; decide
theorem slk1 (h : Fin 4) : S1x512.Slices ![0, 128 * h.val] S1x128 := by revert h; decide
theorem slv (h : Fin 4) : S64x1024.Slices ![0, 256 * h.val] S64x256 := by revert h; decide

/-- Which of the 64 positions from `a` on are real ones (neither before position 48 nor from 4160 on). -/
def validM (a : BitVec 32) : IVec S64x512 1 :=
  andi (cmpi .sge (addi (broadcast S64x512 a) (iota .tc S64x512 32 [0] iota_S64x512_d0_w32)) (broadcast S64x512 48#32))
    (cmpi .slt (addi (broadcast S64x512 a) (iota .tc S64x512 32 [0] iota_S64x512_d0_w32)) (broadcast S64x512 4160#32))

/-- A row block with the positions that are not real set to zero. -/
def masked (a : BitVec 32) (x : Vec Ideal S64x512 .f32) : Vec Ideal S64x512 .f32 :=
  select (validM a) x (broadcast S64x512 (Scalar.ofBits .f32 0x00000000#32 : Ideal .f32))

/-- The query times the scale. -/
def scaled (x : Vec Ideal S64x512 .f32) : FVec Ideal S64x512 .f32 :=
  mulf x (broadcast S64x512 (Scalar.ofBits .f32 0x3DB504F3#32 : Ideal .f32))

/-- The accumulated log-decay: the product with the lower triangular matrix of ones. -/
def cum (l : FVec Ideal S64x512 .f32) : FVec Ideal S64x512 .f32 :=
  matmul dot_S64x64_S64x512_S64x512_1_0_0_1_n_n (some .fp32) k0_pay6 l (constant S64x512 .f32 0x00000000#32)

/-- Its last row. -/
def cumLast (l : FVec Ideal S64x512 .f32) : FVec Ideal S1x512 .f32 :=
  extractStridedSlice S1x512 ![63, 0] (cum l) slices_S64x512_o63_0_S1x512

/-- The query times the decay from the chunk's start. -/
def qd (l : FVec Ideal S64x512 .f32) (q : FVec Ideal S64x512 .f32) : FVec Ideal S64x512 .bf16 :=
  truncf .bf16 (mulf q (exp (cum l))) bitsLt_bf16_f32

/-- The key over the decay from the chunk's start. -/
def kd (l k : FVec Ideal S64x512 .f32) : FVec Ideal S64x512 .bf16 :=
  truncf .bf16 (mulf k (exp (subf (broadcast S64x512 (Scalar.ofBits .f32 0x00000000#32 : Ideal .f32)) (cum l)))) bitsLt_bf16_f32

/-- The key times the decay to the chunk's end. -/
def ke (l k : FVec Ideal S64x512 .f32) : FVec Ideal S64x512 .bf16 :=
  truncf .bf16 (mulf k (exp (subf (broadcastTo S64x512 (cumLast l) broadcasts_S1x512_S64x512) (cum l)))) bitsLt_bf16_f32

/-- The state of head `h` after the chunk. -/
def nextS (h : Fin 4) (l k : FVec Ideal S64x512 .f32) (v : FVec Ideal S64x1024 .bf16) (s : Vec Ideal S1x256x128 .f32) : FVec Ideal S1x256x128 .f32 :=
  shapeCast S1x256x128
    (addf (mulf (broadcastTo S256x128 (extractStridedSlice S1x128 ![0, 128 * h.val] (exp (cumLast l)) (slk1 h)) broadcasts_S1x128_S256x128)
        (shapeCast S256x128 s shapeCasts_S1x256x128_S256x128))
      (matmul dot_S64x256_S64x128_S256x128_0_0_1_1_n_n none (extractStridedSlice S64x256 ![0, 256 * h.val] v (slv h))
        (extractStridedSlice S64x128 ![0, 128 * h.val] (ke l k) (slk h)) (constant S256x128 .f32 0x00000000#32)))
    shapeCasts_S256x128_S1x256x128

/-- The output of head `h` before normalisation. -/
def rawO (h : Fin 4) (l k : FVec Ideal S64x512 .f32) (q : FVec Ideal S64x512 .f32) (v : FVec Ideal S64x1024 .bf16) (s : Vec Ideal S1x256x128 .f32) :
    FVec Ideal S64x256 .f32 :=
  addf
    (matmul dot_S64x64_S64x256_S64x256_1_0_0_1_n_n none
      (truncf .bf16 (select k0_pay5 (matmul dot_S64x128_S64x128_S64x64_1_1_0_0_n_n none (extractStridedSlice S64x128 ![0, 128 * h.val] (qd l q) (slk h))
        (extractStridedSlice S64x128 ![0, 128 * h.val] (kd l k) (slk h)) (constant S64x64 .f32 0x00000000#32))
        (broadcast S64x64 (Scalar.ofBits .f32 0x00000000#32 : Ideal .f32))) bitsLt_bf16_f32)
      (extractStridedSlice S64x256 ![0, 256 * h.val] v (slv h)) (constant S64x256 .f32 0x00000000#32))
    (matmul dot_S64x128_S256x128_S64x256_1_1_0_0_n_n none (extractStridedSlice S64x128 ![0, 128 * h.val] (qd l q) (slk h))
      (truncf .bf16 (shapeCast S256x128 s shapeCasts_S1x256x128_S256x128) bitsLt_bf16_f32) (constant S64x256 .f32 0x00000000#32))

/-- The normalised output of a head. -/
def normO (g : Vec Ideal S1x256 .f32) (o : FVec Ideal S64x256 .f32) : FVec Ideal S64x256 .f32 :=
  mulf (mulf o (broadcastTo S64x256
      (rsqrt (addf (divf (shapeCast S64x1 (multiReduction .add [1] S64 (mulf o o) 0x00000000#32 reduces_S64x256_S64 (.inl rfl) rfl) shapeCasts_S64_S64x1)
        (broadcast S64x1 (Scalar.ofBits .f32 0x43800000#32 : Ideal .f32))) (broadcast S64x1 (Scalar.ofBits .f32 0x3727C5AC#32 : Ideal .f32))))
      broadcasts_S64x1_S64x256))
    (broadcastTo S64x256 g broadcasts_S1x256_S64x256)

/-- The four heads' outputs side by side, times the gate. -/
def gated (o : Fin 4 → FVec Ideal S64x256 .f32) (og : Vec Ideal S64x1024 .f32) : FVec Ideal S64x1024 .bf16 :=
  truncf .bf16 (mulf (concatenate S64x1024 1 [⟨S64x256, o 0⟩, ⟨S64x256, o 1⟩, ⟨S64x256, o 2⟩, ⟨S64x256, o 3⟩]
    concatenates_S64x256_S64x256_S64x256_S64x256_S64x1024_d1) (mulf og (logistic og))) bitsLt_bf16_f32

/-! ## Their entries -/

theorem cum_at (l : FVec Ideal S64x512 .f32) (i : Fin 64) (d : Fin 512) : cum l (ix2 i d) = dec (fun u => l (ix2 u d)) i := by
  pointwise [cum, k0_pay6, k0_pay5, dec]
  simp only [select_causal]

theorem cumLast_at (l : FVec Ideal S64x512 .f32) (d : Fin 512) : cumLast l (ix2 0 d) = dec (fun u => l (ix2 u d)) 63 := by
  rw [← cum_at]
  pointwise [cumLast]

theorem nextS_at (h : Fin 4) (l k : FVec Ideal S64x512 .f32) (v : FVec Ideal S64x1024 .bf16) (s : Vec Ideal S1x256x128 .f32) (e : Fin 256) (d : Fin 128) :
    nextS h l k v s (ix3 0 e d) = stNext (fun u => l (ix2 u (hk h d))) (fun u => k (ix2 u (hk h d))) (fun u => v (ix2 u (hv h e))) (s (ix3 0 e d)) := by
  simp only [stNext, ← cum_at, hk, hv]
  have e : ∀ y, cumLast l (ix2 0 y) = cum l (ix2 63 y) := fun y => by rw [cumLast_at, cum_at]
  pointwise [nextS, ke, e]

theorem rawO_at (h : Fin 4) (l k : FVec Ideal S64x512 .f32) (q : FVec Ideal S64x512 .f32) (v : FVec Ideal S64x1024 .bf16) (s : Vec Ideal S1x256x128 .f32)
    (i : Fin 64) (e : Fin 256) :
    rawO h l k q v s (ix2 i e) = outRaw (fun u d => l (ix2 u (hk h d))) (fun u d => k (ix2 u (hk h d))) (fun u d => q (ix2 u (hk h d)))
      (fun u => v (ix2 u (hv h e))) (fun d => s (ix3 0 e d)) i := by
  simp only [outRaw, ← cum_at, hk, hv]
  pointwise [rawO, qd, kd, k0_pay5]
  simp only [select_causal, ite_mul, zero_mul]

theorem normO_at (g : Vec Ideal S1x256 .f32) (o : FVec Ideal S64x256 .f32) (i : Fin 64) (e : Fin 256) :
    normO g o (ix2 i e) = rms (fun x => o (ix2 i x)) (g (ix2 0 e)) e := by
  pointwise [normO, rms]

theorem gated_at (o : Fin 4 → FVec Ideal S64x256 .f32) (og : Vec Ideal S64x1024 .f32) (i : Fin 64) (h : Fin 4) (e : Fin 256) :
    gated o og (ix2 i (hv h e)) = o h (ix2 i e) * (og (ix2 i (hv h e)) * Ideal.logistic (og (ix2 i (hv h e)))) := by
  pointwise [gated]
  have hh := h.isLt
  have he := e.isLt
  have key : ∀ (k : Fin 4) (n : Fin 256), 256 * k.val + n.val = 256 * h.val + e.val → o k (ix2 i n) = o h (ix2 i e) := by
    intro k n hn
    obtain rfl : k = h := Fin.ext (by omega)
    obtain rfl : n = e := Fin.ext (by omega)
    rfl
  congr 1
  split_ifs
  all_goals first
    | exact key 0 _ (by simp <;> omega)
    | exact key 1 _ (by simp <;> omega)
    | exact key 2 _ (by simp <;> omega)
    | exact key 3 _ (by simp <;> omega)

theorem masked_at (n : ℕ) (hn : n + 64 ≤ 4224) (x : Vec Ideal S64x512 .f32) (i : Fin 64) (d : Fin 512) :
    masked (BitVec.ofNat 32 n) x (ix2 i d) = if 48 ≤ n + i.val ∧ n + i.val < 4160 then x (ix2 i d) else 0 := by
  pointwise [masked, validM]
  exact select_valid n i.val (by omega) _ _

end

end Cert.Gla

end
-- ==== Proof.Gla.Point.lean ====
/- What one grid point of the recurrence kernel leaves: the state of each head after its six chunks, and the output
   rows of each chunk, as the chunk expressions of `Chunk` applied one after the other. -/
module

public import proofs.«01_k».proof.Proof.Gla.Chunk
public import Idealize.ShloMosaic.Lib.Pipeline.ReadBack

@[expose] public section

set_option maxRecDepth 16384

noncomputable section

namespace Cert.Gla

open Idealize.ShloMosaic Idealize.ShloMosaic.TcCoe Idealize.SL.Sem
open Cert.KernelIdeal Cert.KernelIdeal.Gen

theorem inb512 (j : Fin 6) : ∀ a, (![64 * j.val, 0] : Fin 2 → ℕ) a + (![64, 512] : Fin 2 → ℕ) a ≤ S384x512.size a := by
  revert j; decide
theorem inb1024 (j : Fin 6) : ∀ a, (![64 * j.val, 0] : Fin 2 → ℕ) a + (![64, 1024] : Fin 2 → ℕ) a ≤ S384x1024.size a := by
  revert j; decide
theorem inbS (h : Fin 4) : ∀ a, (![h.val, 0, 0] : Fin 3 → ℕ) a + (![1, 256, 128] : Fin 3 → ℕ) a ≤ S4x256x128.size a := by
  revert h; decide

/-- Rows `64 j … 64 j + 63` of a block of 384 rows. -/
def rows512 (x : Vec Ideal S384x512 .f32) (j : Fin 6) : Vec Ideal S64x512 .f32 :=
  View.ld x (Rect.unit (s := S384x512) ![64 * j.val, 0] ![64, 512] (inb512 j))
def rowsV (x : Vec Ideal S384x1024 .bf16) (j : Fin 6) : Vec Ideal S64x1024 .bf16 :=
  View.ld x (Rect.unit (s := S384x1024) ![64 * j.val, 0] ![64, 1024] (inb1024 j))
def rowsO (x : Vec Ideal S384x1024 .f32) (j : Fin 6) : Vec Ideal S64x1024 .f32 :=
  View.ld x (Rect.unit (s := S384x1024) ![64 * j.val, 0] ![64, 1024] (inb1024 j))

/-- The masked rows of chunk `j`, at the point with second grid coordinate `n`. -/
def lm (n : ℕ) (x : Vec Ideal S384x512 .f32) (j : Fin 6) : Vec Ideal S64x512 .f32 :=
  masked (Scalar.addi (Scalar.muli (BitVec.ofNat 32 n) 384#32) (BitVec.ofNat 32 (64 * j.val))) (rows512 x j)

/-- The state of head `h` after the first `j` chunks of a point that finds the state `S`. -/
def chain (n : ℕ) (xk : Vec Ideal S384x512 .f32) (xv : Vec Ideal S384x1024 .bf16) (xl : Vec Ideal S384x512 .f32)
    (S : Vec Ideal S4x256x128 .f32) (h : Fin 4) : (j : ℕ) → j ≤ 6 → Vec Ideal S1x256x128 .f32
  | 0, _ => View.ld S (Rect.unit (s := S4x256x128) ![h.val, 0, 0] ![1, 256, 128] (inbS h))
  | j + 1, hj => nextS h (lm n xl ⟨j, hj⟩) (lm n xk ⟨j, hj⟩) (rowsV xv ⟨j, hj⟩) (chain n xk xv xl S h j (Nat.le_of_succ_le hj))

/-- The stored rows of chunk `j`. -/
def outRows (n : ℕ) (xq xk : Vec Ideal S384x512 .f32) (xv : Vec Ideal S384x1024 .bf16) (xo : Vec Ideal S384x1024 .f32)
    (xl : Vec Ideal S384x512 .f32) (g : Vec Ideal S1x256 .f32) (S : Vec Ideal S4x256x128 .f32) (j : Fin 6) : FVec Ideal S64x1024 .bf16 :=
  gated (fun h => normO g (rawO h (lm n xl j) (lm n xk j) (scaled (rows512 xq j)) (rowsV xv j)
    (chain n xk xv xl S h j.val (Nat.le_of_lt j.isLt)))) (rowsO xo j)

theorem emb_head (h : Fin 4) (x0 : Fin 1) (e : Fin 256) (d : Fin 128) :
    (Rect.unit (s := S4x256x128) ![h.val, 0, 0] ![1, 256, 128] (inbS h)).emb (ix3 x0 e d) = ix3 h e d := by
  obtain rfl : x0 = 0 := Subsingleton.elim _ _
  funext a
  fin_cases a <;> apply Fin.ext <;> simp [ix3]

/-- Four stores, one per head, each of what `G` holds at that head, on top of anything, leave `G`. -/
theorem canon_heads (G : Fin 4 → Vec Ideal S1x256x128 .f32) (w0 w1 w2 w3 : Vec Ideal S1x256x128 .f32)
    (L : List (View.Piece (Elt Ideal) S4x256x128 .f32)) (h0 : w0 = G 0) (h1 : w1 = G 1) (h2 : w2 = G 2) (h3 : w3 = G 3)
    (h : Fin 4) (e : Fin 256) (d : Fin 128) :
    View.canon (⟨Rect.unit (s := S4x256x128) ![3, 0, 0] ![1, 256, 128] (inbS 3), w3⟩ :: ⟨Rect.unit (s := S4x256x128) ![2, 0, 0] ![1, 256, 128] (inbS 2), w2⟩
      :: ⟨Rect.unit (s := S4x256x128) ![1, 0, 0] ![1, 256, 128] (inbS 1), w1⟩ :: ⟨Rect.unit (s := S4x256x128) ![0, 0, 0] ![1, 256, 128] (inbS 0), w0⟩ :: L) (ix3 h e d)
      = G h (ix3 0 e d) := by
  subst h0 h1 h2 h3
  have key : ∀ (k : Fin 4) (x : S1x256x128.Idx), G k x
      = (fun y : S4x256x128.Idx => G (y 0) (ix3 0 (y 1) (y 2))) ((Rect.unit (s := S4x256x128) ![k.val, 0, 0] ![1, 256, 128] (inbS k)).emb x) := by
    intro k x
    idx_vars x
    rw [emb_head]
    obtain rfl : x0 = 0 := Subsingleton.elim _ _
    rfl
  refine View.canon_append_of_piecesOf (fun y : S4x256x128.Idx => G (y 0) (ix3 0 (y 1) (y 2))) L
    [⟨_, _⟩, ⟨_, _⟩, ⟨_, _⟩, ⟨_, _⟩] ⟨key 3, key 2, key 1, key 0, trivial⟩ (ix3 h e d) ?_
  have mem : ∀ k : Fin 4, ix3 k e d ∈ (Rect.unit (s := S4x256x128) ![k.val, 0, 0] ![1, 256, 128] (inbS k)).set := fun k => by
    rw [← emb_head k 0 e d, ← Rect.map_emb_univ]
    exact Finset.mem_map_of_mem _ (Finset.mem_univ _)
  fin_cases h
  · exact ⟨_, .tail _ (.tail _ (.tail _ (.head _))), mem 0⟩
  · exact ⟨_, .tail _ (.tail _ (.head _)), mem 1⟩
  · exact ⟨_, .tail _ (.head _), mem 2⟩
  · exact ⟨_, .head _, mem 3⟩

theorem emb_rows (j : Fin 6) (i : Fin 64) (e : Fin 1024) :
    (Rect.unit (s := S384x1024) ![64 * j.val, 0] ![64, 1024] (inb1024 j)).emb (ix2 i e) = ix2 ⟨64 * j.val + i.val, by omega⟩ e := by
  funext a
  fin_cases a <;> apply Fin.ext <;> simp [ix2]

/-- Six stores of 64 rows, each of what `G` holds at its chunk, leave `G`. -/
theorem canon_rows (G : Fin 6 → Vec Ideal S64x1024 .bf16) (w0 w1 w2 w3 w4 w5 : Vec Ideal S64x1024 .bf16)
    (L : List (View.Piece (Elt Ideal) S384x1024 .bf16)) (h0 : w0 = G 0) (h1 : w1 = G 1) (h2 : w2 = G 2) (h3 : w3 = G 3) (h4 : w4 = G 4) (h5 : w5 = G 5)
    (j : Fin 6) (i : Fin 64) (e : Fin 1024) :
    View.canon (⟨Rect.unit (s := S384x1024) ![64 * 5, 0] ![64, 1024] (inb1024 5), w5⟩ :: ⟨Rect.unit (s := S384x1024) ![64 * 4, 0] ![64, 1024] (inb1024 4), w4⟩
      :: ⟨Rect.unit (s := S384x1024) ![64 * 3, 0] ![64, 1024] (inb1024 3), w3⟩ :: ⟨Rect.unit (s := S384x1024) ![64 * 2, 0] ![64, 1024] (inb1024 2), w2⟩
      :: ⟨Rect.unit (s := S384x1024) ![64 * 1, 0] ![64, 1024] (inb1024 1), w1⟩ :: ⟨Rect.unit (s := S384x1024) ![64 * 0, 0] ![64, 1024] (inb1024 0), w0⟩ :: L)
        (ix2 ⟨64 * j.val + i.val, by omega⟩ e)
      = G j (ix2 i e) := by
  subst h0 h1 h2 h3 h4 h5
  set F : S384x1024.Idx → Elt Ideal .bf16 := fun y =>
    G ⟨(y 0).val / 64, Nat.div_lt_of_lt_mul (y 0).isLt⟩ (ix2 ⟨(y 0).val % 64, Nat.mod_lt _ (by decide)⟩ (y 1)) with hF
  have key : ∀ (k : Fin 6) (x : S64x1024.Idx), G k x
      = F ((Rect.unit (s := S384x1024) ![64 * k.val, 0] ![64, 1024] (inb1024 k)).emb x) := by
    intro k x
    idx_vars x
    rw [emb_rows, hF]
    have e0 : (64 * k.val + x0.val) / 64 = k.val := by omega
    have e1 : (64 * k.val + x0.val) % 64 = x0.val := by omega
    show G k (ix2 x0 x1) = G ⟨(64 * k.val + x0.val) / 64, _⟩ (ix2 ⟨(64 * k.val + x0.val) % 64, _⟩ x1)
    simp only [e0, e1]
  have mem : ∀ k : Fin 6, ix2 ⟨64 * k.val + i.val, by omega⟩ e ∈ (Rect.unit (s := S384x1024) ![64 * k.val, 0] ![64, 1024] (inb1024 k)).set := fun k => by
    rw [← emb_rows k i e, ← Rect.map_emb_univ]
    exact Finset.mem_map_of_mem _ (Finset.mem_univ _)
  refine (View.canon_append_of_piecesOf F L [⟨_, _⟩, ⟨_, _⟩, ⟨_, _⟩, ⟨_, _⟩, ⟨_, _⟩, ⟨_, _⟩]
    ⟨key 5, key 4, key 3, key 2, key 1, key 0, trivial⟩ (ix2 ⟨64 * j.val + i.val, by omega⟩ e) ?_).trans ?_
  · fin_cases j
    · exact ⟨_, .tail _ (.tail _ (.tail _ (.tail _ (.tail _ (.head _))))), mem 0⟩
    · exact ⟨_, .tail _ (.tail _ (.tail _ (.tail _ (.head _)))), mem 1⟩
    · exact ⟨_, .tail _ (.tail _ (.tail _ (.head _))), mem 2⟩
    · exact ⟨_, .tail _ (.tail _ (.head _)), mem 3⟩
    · exact ⟨_, .tail _ (.head _), mem 4⟩
    · exact ⟨_, .head _, mem 5⟩
  · rw [← emb_rows j i e, ← key]

/-- The state a sequence starts from: zero. -/
def zeroS : Vec Ideal S4x256x128 .f32 := fun _ => (Scalar.ofBits .f32 0x00000000#32 : Ideal .f32)

variable (m : (ℓ : Loc nD τ sig) → Buf (Elt Ideal) ℓ)

/-- The state a point finds: zero at the first point of a sequence, else what the point before left. -/
def startS (c : Dev nD) (t : Fin cfg0.N) : Vec Ideal S4x256x128 .f32 :=
  if t.val % 11 = 0 then zeroS else (outsAt0 m c (t.val - 1) (Nat.lt_of_le_of_lt (Nat.sub_le _ _) t.isLt)).2.2

set_option maxHeartbeats 1000000 in
/-- The state that a point leaves. -/
theorem state_at (c : Dev nD) (t : Fin cfg0.N) (h : Fin 4) (e : Fin 256) (d : Fin 128) :
    (outsAt0 m c t.val t.isLt).2.2 (ix3 h e d)
      = chain (grid0.coords t 1).val (iblk m c 1 t) (iblk m c 2 t) (iblk m c 4 t) (startS m c t) h 6 le_rfl (ix3 0 e d) := by
  by_cases h0 : t.val % 11 = 0
  · have h1 : ¬t.val % 11 = 10 := by omega
    rw [outsAt0_A m c t h0 h1, startS, if_pos h0]
    frame_open
    simp (discharger := decide) only [↓View.readCov_skip, ↓View.readCov_cons_toLoadRect]
    frame_out
    exact canon_heads (fun h => chain (grid0.coords t 1).val (iblk m c 1 t) (iblk m c 2 t) (iblk m c 4 t) zeroS h 6 le_rfl)
      _ _ _ _ _ rfl rfl rfl rfl h e d
  · rw [startS, if_neg h0]
    by_cases h1 : t.val % 11 = 10
    · rw [outsAt0_C m c t h0 h1]
      frame_open
      simp (discharger := decide) only [↓View.readCov_skip, ↓View.readCov_cons_toLoadRect]
      frame_out
      rw [read_unread_whole]
      exact canon_heads (fun h => chain (grid0.coords t 1).val (iblk m c 1 t) (iblk m c 2 t) (iblk m c 4 t) (outsAt0 m c (t.val - 1) _).2.2 h 6 le_rfl)
        _ _ _ _ _ rfl rfl rfl rfl h e d
    · rw [outsAt0_B m c t h0 h1]
      frame_open
      simp (discharger := decide) only [↓View.readCov_skip, ↓View.readCov_cons_toLoadRect]
      frame_out
      rw [read_unread_whole]
      exact canon_heads (fun h => chain (grid0.coords t 1).val (iblk m c 1 t) (iblk m c 2 t) (iblk m c 4 t) (outsAt0 m c (t.val - 1) _).2.2 h 6 le_rfl)
        _ _ _ _ _ rfl rfl rfl rfl h e d

set_option maxHeartbeats 1000000 in
/-- The output rows that a point stores. -/
theorem rows_at (c : Dev nD) (t : Fin cfg0.N) (j : Fin 6) (i : Fin 64) (e : Fin 1024) :
    (outsAt0 m c t.val t.isLt).1 (ix2 ⟨64 * j.val + i.val, by omega⟩ e)
      = outRows (grid0.coords t 1).val (iblk m c 0 t) (iblk m c 1 t) (iblk m c 2 t) (iblk m c 3 t) (iblk m c 4 t) (iblk m c 5 t)
          (startS m c t) j (ix2 i e) := by
  by_cases h0 : t.val % 11 = 0
  · have h1 : ¬t.val % 11 = 10 := by omega
    rw [outsAt0_A m c t h0 h1, startS, if_pos h0]
    frame_open
    simp (discharger := decide) only [↓View.readCov_skip, ↓View.readCov_cons_toLoadRect]
    frame_out
    exact canon_rows (outRows (grid0.coords t 1).val (iblk m c 0 t) (iblk m c 1 t) (iblk m c 2 t) (iblk m c 3 t) (iblk m c 4 t) (iblk m c 5 t) zeroS)
      _ _ _ _ _ _ _ rfl rfl rfl rfl rfl rfl j i e
  · rw [startS, if_neg h0]
    by_cases h1 : t.val % 11 = 10
    · rw [outsAt0_C m c t h0 h1]
      frame_open
      simp (discharger := decide) only [↓View.readCov_skip, ↓View.readCov_cons_toLoadRect]
      frame_out
      rw [read_unread_whole]
      exact canon_rows (outRows (grid0.coords t 1).val (iblk m c 0 t) (iblk m c 1 t) (iblk m c 2 t) (iblk m c 3 t) (iblk m c 4 t) (iblk m c 5 t) (outsAt0 m c (t.val - 1) _).2.2)
        _ _ _ _ _ _ _ rfl rfl rfl rfl rfl rfl j i e
    · rw [outsAt0_B m c t h0 h1]
      frame_open
      simp (discharger := decide) only [↓View.readCov_skip, ↓View.readCov_cons_toLoadRect]
      frame_out
      rw [read_unread_whole]
      exact canon_rows (outRows (grid0.coords t 1).val (iblk m c 0 t) (iblk m c 1 t) (iblk m c 2 t) (iblk m c 3 t) (iblk m c 4 t) (iblk m c 5 t) (outsAt0 m c (t.val - 1) _).2.2)
        _ _ _ _ _ _ _ rfl rfl rfl rfl rfl rfl j i e

theorem inb7 (h : Fin 4) : ∀ a, (![0, h.val, 0, 0] : Fin 4 → ℕ) a + (![1, 1, 128, 256] : Fin 4 → ℕ) a ≤ S1x4x128x256.size a := by
  revert h; decide

theorem emb7 (h : Fin 4) (x0 x1 : Fin 1) (d : Fin 128) (e : Fin 256) :
    (Rect.unit (s := S1x4x128x256) ![0, h.val, 0, 0] ![1, 1, 128, 256] (inb7 h)).emb (ix4 x0 x1 d e) = ix4 0 h d e := by
  obtain rfl : x0 = 0 := Subsingleton.elim _ _
  obtain rfl : x1 = 0 := Subsingleton.elim _ _
  funext a
  fin_cases a <;> apply Fin.ext <;> simp [ix4]

/-- A head's state turned key-dimension first, as it is stored into the final state. -/
def turned (s : Vec Ideal S1x256x128 .f32) : Vec Ideal S1x1x128x256 .f32 :=
  shapeCast S1x1x128x256 (transpose S128x256 [1, 0] (shapeCast S256x128 s shapeCasts_S1x256x128_S256x128) transposes_S256x128_p1_0_S128x256)
    shapeCasts_S128x256_S1x1x128x256

theorem turned_at (s : Vec Ideal S1x256x128 .f32) (x0 x1 : Fin 1) (d : Fin 128) (e : Fin 256) : turned s (ix4 x0 x1 d e) = s (ix3 0 e d) := by
  obtain rfl : x0 = 0 := Subsingleton.elim _ _
  obtain rfl : x1 = 0 := Subsingleton.elim _ _
  pointwise [turned]

/-- Four stores, one per head, of the heads' states turned. -/
theorem canon_final (G : Fin 4 → Vec Ideal S1x256x128 .f32) (w0 w1 w2 w3 : Vec Ideal S1x1x128x256 .f32)
    (h0 : w0 = turned (G 0)) (h1 : w1 = turned (G 1)) (h2 : w2 = turned (G 2)) (h3 : w3 = turned (G 3))
    (h : Fin 4) (d : Fin 128) (e : Fin 256) :
    View.canon (Val := Elt Ideal) (e := .f32) [⟨Rect.unit (s := S1x4x128x256) ![0, 3, 0, 0] ![1, 1, 128, 256] (inb7 3), w3⟩, ⟨Rect.unit (s := S1x4x128x256) ![0, 2, 0, 0] ![1, 1, 128, 256] (inb7 2), w2⟩,
      ⟨Rect.unit (s := S1x4x128x256) ![0, 1, 0, 0] ![1, 1, 128, 256] (inb7 1), w1⟩, ⟨Rect.unit (s := S1x4x128x256) ![0, 0, 0, 0] ![1, 1, 128, 256] (inb7 0), w0⟩] (ix4 0 h d e)
      = G h (ix3 0 e d) := by
  subst h0 h1 h2 h3
  have key : ∀ (k : Fin 4) (x : S1x1x128x256.Idx), turned (G k) x
      = (fun y : S1x4x128x256.Idx => G (y 1) (ix3 0 (y 3) (y 2))) ((Rect.unit (s := S1x4x128x256) ![0, k.val, 0, 0] ![1, 1, 128, 256] (inb7 k)).emb x) := by
    intro k x
    idx_vars x
    rw [emb7, turned_at]
    rfl
  have mem : ∀ k : Fin 4, ix4 0 k d e ∈ (Rect.unit (s := S1x4x128x256) ![0, k.val, 0, 0] ![1, 1, 128, 256] (inb7 k)).set := fun k => by
    rw [← emb7 k 0 0 d e, ← Rect.map_emb_univ]
    exact Finset.mem_map_of_mem _ (Finset.mem_univ _)
  refine View.canon_append_of_piecesOf (fun y : S1x4x128x256.Idx => G (y 1) (ix3 0 (y 3) (y 2))) []
    [⟨_, _⟩, ⟨_, _⟩, ⟨_, _⟩, ⟨_, _⟩] ⟨key 3, key 2, key 1, key 0, trivial⟩ (ix4 0 h d e) ?_
  fin_cases h
  · exact ⟨_, .tail _ (.tail _ (.tail _ (.head _))), mem 0⟩
  · exact ⟨_, .tail _ (.tail _ (.head _)), mem 1⟩
  · exact ⟨_, .tail _ (.head _), mem 2⟩
  · exact ⟨_, .head _, mem 3⟩

set_option maxHeartbeats 1000000 in
/-- The final state that the last point of a sequence stores: the state it leaves, turned. -/
theorem final_at (c : Dev nD) (t : Fin cfg0.N) (h1 : t.val % 11 = 10) (h : Fin 4) (d : Fin 128) (e : Fin 256) :
    (outsAt0 m c t.val t.isLt).2.1 (ix4 0 h d e)
      = chain (grid0.coords t 1).val (iblk m c 1 t) (iblk m c 2 t) (iblk m c 4 t) (startS m c t) h 6 le_rfl (ix3 0 e d) := by
  have h0 : ¬t.val % 11 = 0 := by omega
  rw [startS, if_neg h0, outsAt0_C m c t h0 h1]
  frame_open
  simp (discharger := decide) only [↓View.readCov_skip, ↓View.readCov_cons_toLoadRect]
  frame_out
  rw [read_unread_whole]
  exact canon_final (fun h => chain (grid0.coords t 1).val (iblk m c 1 t) (iblk m c 2 t) (iblk m c 4 t) (outsAt0 m c (t.val - 1) _).2.2 h 6 le_rfl)
    _ _ _ _ rfl rfl rfl rfl h d e

end Cert.Gla

end
-- ==== Proof.Gla.Rec.lean ====
/- The gated linear recurrence over a whole sequence, chunk by chunk: the state before chunk `n` and the normalised,
   gated output, from the six argument arrays. -/
module

public import proofs.«01_k».proof.Proof.Gla.Chunk

@[expose] public section

set_option maxRecDepth 16384

noncomputable section

namespace Cert.Gla

open Idealize.ShloMosaic Idealize.ShloMosaic.TcCoe Idealize.SL.Sem
open Cert.KernelIdeal

/-- The row of position `i` of chunk `n` of sequence `b`: sequences of 4224 positions lie one after the other. -/
abbrev row (b : Fin 8) (n : Fin 66) (i : Fin 64) : Fin 33792 := ⟨4224 * b.val + 64 * n.val + i.val, by omega⟩

/-- An entry of chunk `n`, set to zero where its position is before 48 or from 4160 on. -/
def real (x : FVec Ideal S33792x512 .f32) (b : Fin 8) (n : Fin 66) (i : Fin 64) (d : Fin 512) : EReal :=
  if 48 ≤ 64 * n.val + i.val ∧ 64 * n.val + i.val < 4160 then x (ix2 (row b n i) d) else 0

/-- The state of head `h` before chunk `n`: zero, then one chunk after the other. -/
def st (gk la : FVec Ideal S33792x512 .f32) (gv : FVec Ideal S33792x1024 .bf16) (b : Fin 8) (h : Fin 4) (d : Fin 128) (e : Fin 256) :
    (n : ℕ) → n ≤ 66 → EReal
  | 0, _ => 0
  | n + 1, hn => stNext (fun u => real la b ⟨n, hn⟩ u (hk h d)) (fun u => real gk b ⟨n, hn⟩ u (hk h d)) (fun u => gv (ix2 (row b ⟨n, hn⟩ u) (hv h e)))
      (st gk la gv b h d e n (Nat.le_of_succ_le hn))

theorem st_congr (gk la : FVec Ideal S33792x512 .f32) (gv : FVec Ideal S33792x1024 .bf16) (b : Fin 8) (h : Fin 4) (d : Fin 128) (e : Fin 256)
    {n n' : ℕ} (hn : n ≤ 66) (e' : n = n') : st gk la gv b h d e n hn = st gk la gv b h d e n' (e' ▸ hn) := by
  subst e'; rfl

/-- The scaled query. -/
def query (gq : FVec Ideal S33792x512 .f32) (b : Fin 8) (n : Fin 66) (i : Fin 64) (d : Fin 512) : EReal :=
  gq (ix2 (row b n i) d) * Ideal.ofBits FTy.f32 0x3DB504F3#32

/-- The output of head `h` before normalisation, at position `i` of chunk `n`, value coordinate `e`. -/
def raw (gq gk la : FVec Ideal S33792x512 .f32) (gv : FVec Ideal S33792x1024 .bf16) (b : Fin 8) (n : Fin 66) (i : Fin 64) (h : Fin 4) (e : Fin 256) : EReal :=
  outRaw (fun u d => real la b n u (hk h d)) (fun u d => real gk b n u (hk h d)) (fun u d => query gq b n u (hk h d))
    (fun u => gv (ix2 (row b n u) (hv h e))) (fun d => st gk la gv b h d e n.val (Nat.le_of_lt n.isLt)) i

/-- The result entry: the normalised output times the gate. -/
def res (gq gk la : FVec Ideal S33792x512 .f32) (gv : FVec Ideal S33792x1024 .bf16) (og : FVec Ideal S33792x1024 .f32) (gn : FVec Ideal S1x256 .f32)
    (b : Fin 8) (n : Fin 66) (i : Fin 64) (h : Fin 4) (e : Fin 256) : EReal :=
  rms (fun x => raw gq gk la gv b n i h x) (gn (ix2 0 e)) e
    * (og (ix2 (row b n i) (hv h e)) * Ideal.logistic (og (ix2 (row b n i) (hv h e))))

/-- The result array of gated outputs. -/
def outArr (gq gk : FVec Ideal S33792x512 .f32) (gv : FVec Ideal S33792x1024 .bf16) (og : FVec Ideal S33792x1024 .f32) (la : FVec Ideal S33792x512 .f32)
    (gn : FVec Ideal S1x256 .f32) : FVec Ideal S33792x1024 .bf16 := fun y =>
  res gq gk la gv og gn ⟨(y 0).val / 4224, Nat.div_lt_of_lt_mul (y 0).isLt⟩ ⟨(y 0).val % 4224 / 64, by omega⟩ ⟨(y 0).val % 64, by omega⟩
    ⟨(y 1).val / 256, Nat.div_lt_of_lt_mul (y 1).isLt⟩ ⟨(y 1).val % 256, by omega⟩

/-- The array of final states. -/
def stArr (gk : FVec Ideal S33792x512 .f32) (gv : FVec Ideal S33792x1024 .bf16) (la : FVec Ideal S33792x512 .f32) : FVec Ideal S8x4x128x256 .f32 := fun y =>
  st gk la gv (y 0) (y 1) (y 2) (y 3) 66 le_rfl

theorem outArr_at (gq gk : FVec Ideal S33792x512 .f32) (gv : FVec Ideal S33792x1024 .bf16) (og : FVec Ideal S33792x1024 .f32) (la : FVec Ideal S33792x512 .f32)
    (gn : FVec Ideal S1x256 .f32) (b : Fin 8) (n : Fin 66) (i : Fin 64) (h : Fin 4) (e : Fin 256) (r : Fin 33792) (c : Fin 1024)
    (hr : r = row b n i) (hc : c = hv h e) :
    outArr gq gk gv og la gn (ix2 r c) = res gq gk la gv og gn b n i h e := by
  subst hr hc
  have e0 : (4224 * b.val + 64 * n.val + i.val) / 4224 = b.val := by omega
  have e1 : (4224 * b.val + 64 * n.val + i.val) % 4224 / 64 = n.val := by omega
  have e2 : (4224 * b.val + 64 * n.val + i.val) % 64 = i.val := by omega
  have e3 : (256 * h.val + e.val) / 256 = h.val := by omega
  have e4 : (256 * h.val + e.val) % 256 = e.val := by omega
  show res gq gk la gv og gn ⟨(4224 * b.val + 64 * n.val + i.val) / 4224, _⟩ ⟨(4224 * b.val + 64 * n.val + i.val) % 4224 / 64, _⟩
    ⟨(4224 * b.val + 64 * n.val + i.val) % 64, _⟩ ⟨(256 * h.val + e.val) / 256, _⟩ ⟨(256 * h.val + e.val) % 256, _⟩ = _
  simp only [e0, e1, e2, e3, e4]

end Cert.Gla

end
-- ==== Proof.Gla.Array.lean ====
/- The recurrence kernel's two result arrays after the run. -/
module

public import proofs.«01_k».proof.Proof.Gla.Point
public import proofs.«01_k».proof.Proof.Gla.Rec
public import Idealize.ShloMosaic.Lib.Claim

@[expose] public section

set_option maxRecDepth 16384

noncomputable section

namespace Cert.Gla

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Where the windows stand at point `t`: block `t` of 384 rows; the final states' block is the sequence, `t / 11`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val / 11, 0, 0, 0] ∧ (grid0.coords t 1).val = t.val % 11 ∧ t.val < 88 :=
  (by decide +kernel : ∀ t : Fin grid0.N, _)

variable (c : Dev nD) (t : Fin cfg0.N)

theorem lt88 : t.val < 88 := (idx t).2.2.2.2.2.2.2.2.2

/-- The sequence that point `t` works on. -/
abbrev sq : Fin 8 := ⟨t.val / 11, by have := lt88 t; omega⟩

/-- The number of its `j`-th chunk within the sequence. -/
abbrev ch (j : Fin 6) : Fin 66 := ⟨6 * (t.val % 11) + j.val, by omega⟩

theorem row_eq (j : Fin 6) (i : Fin 64) : (⟨384 * t.val + (64 * j.val + i.val), by have := lt88 t; omega⟩ : Fin 33792) = row (sq t) (ch t j) i :=
  Fin.ext (by show 384 * t.val + (64 * j.val + i.val) = 4224 * (t.val / 11) + 64 * (6 * (t.val % 11) + j.val) + i.val; omega)

theorem blk0 (r : Fin 384) (d : Fin 512) : iblk m c 0 t (ix2 r d) = m ((c : Thread nD τ).loc main_arg0) (ix2 ⟨384 * t.val + r.val, by have := lt88 t; omega⟩ d) := by
  blk_point [iblk, V, idx t]
theorem blk1 (r : Fin 384) (d : Fin 512) : iblk m c 1 t (ix2 r d) = m ((c : Thread nD τ).loc main_arg1) (ix2 ⟨384 * t.val + r.val, by have := lt88 t; omega⟩ d) := by
  blk_point [iblk, V, idx t]
theorem blk2 (r : Fin 384) (d : Fin 1024) : iblk m c 2 t (ix2 r d) = m ((c : Thread nD τ).loc main_arg2) (ix2 ⟨384 * t.val + r.val, by have := lt88 t; omega⟩ d) := by
  blk_point [iblk, V, idx t]
theorem blk3 (r : Fin 384) (d : Fin 1024) : iblk m c 3 t (ix2 r d) = m ((c : Thread nD τ).loc main_arg3) (ix2 ⟨384 * t.val + r.val, by have := lt88 t; omega⟩ d) := by
  blk_point [iblk, V, idx t]
theorem blk4 (r : Fin 384) (d : Fin 512) : iblk m c 4 t (ix2 r d) = m ((c : Thread nD τ).loc main_arg4) (ix2 ⟨384 * t.val + r.val, by have := lt88 t; omega⟩ d) := by
  blk_point [iblk, V, idx t]
theorem blk5 (r : Fin 1) (d : Fin 256) : iblk m c 5 t (ix2 r d) = m ((c : Thread nD τ).loc main_arg5) (ix2 r d) := by
  blk_point [iblk, V, idx t]

/-- The scalar that a chunk's mask starts from is the chunk's first position. -/
theorem start_word (n : ℕ) (j : Fin 6) : Scalar.addi (Scalar.muli (BitVec.ofNat 32 n) 384#32) (BitVec.ofNat 32 (64 * j.val)) = BitVec.ofNat 32 (384 * n + 64 * j.val) := by
  show BitVec.ofNat 32 n * BitVec.ofNat 32 384 + BitVec.ofNat 32 (64 * j.val) = _
  rw [← BitVec.ofNat_mul, ← BitVec.ofNat_add, Nat.mul_comm]

theorem rows512_at (x : Vec Ideal S384x512 .f32) (j : Fin 6) (i : Fin 64) (d : Fin 512) : rows512 x j (ix2 i d) = x (ix2 ⟨64 * j.val + i.val, by omega⟩ d) := by
  pointwise [rows512]
theorem rowsV_at (x : Vec Ideal S384x1024 .bf16) (j : Fin 6) (i : Fin 64) (d : Fin 1024) : rowsV x j (ix2 i d) = x (ix2 ⟨64 * j.val + i.val, by omega⟩ d) := by
  pointwise [rowsV]
theorem rowsO_at (x : Vec Ideal S384x1024 .f32) (j : Fin 6) (i : Fin 64) (d : Fin 1024) : rowsO x j (ix2 i d) = x (ix2 ⟨64 * j.val + i.val, by omega⟩ d) := by
  pointwise [rowsO]

/-- The masked log-decay rows of a chunk are the recurrence's. -/
theorem lm4 (j : Fin 6) (i : Fin 64) (d : Fin 512) :
    lm (grid0.coords t 1).val (iblk m c 4 t) j (ix2 i d) = real (m ((c : Thread nD τ).loc main_arg4)) (sq t) (ch t j) i d := by
  rw [(idx t).2.2.2.2.2.2.2.2.1, lm, start_word, masked_at _ (by omega), rows512_at, blk4, row_eq, real]
  have : 384 * (t.val % 11) + 64 * j.val = 64 * (6 * (t.val % 11) + j.val) := by omega
  rw [this]

/-- The masked key rows of a chunk are the recurrence's. -/
theorem lm1 (j : Fin 6) (i : Fin 64) (d : Fin 512) :
    lm (grid0.coords t 1).val (iblk m c 1 t) j (ix2 i d) = real (m ((c : Thread nD τ).loc main_arg1)) (sq t) (ch t j) i d := by
  rw [(idx t).2.2.2.2.2.2.2.2.1, lm, start_word, masked_at _ (by omega), rows512_at, blk1, row_eq, real]
  have : 384 * (t.val % 11) + 64 * j.val = 64 * (6 * (t.val % 11) + j.val) := by omega
  rw [this]

/-- The recurrence's state over the kernel's arguments. -/
abbrev stm (b : Fin 8) (h : Fin 4) (d : Fin 128) (e : Fin 256) (n : ℕ) (hn : n ≤ 66) : EReal :=
  st (m ((c : Thread nD τ).loc main_arg1)) (m ((c : Thread nD τ).loc main_arg4)) (m ((c : Thread nD τ).loc main_arg2)) b h d e n hn

/-- If a point finds the recurrence's state, its chunks carry it on. -/
theorem chain_at (S : Vec Ideal S4x256x128 .f32) (h : Fin 4) (e : Fin 256) (d : Fin 128)
    (hS : S (ix3 h e d) = stm m c (sq t) h d e (6 * (t.val % 11)) (by omega)) :
    ∀ (j : ℕ) (hj : j ≤ 6), chain (grid0.coords t 1).val (iblk m c 1 t) (iblk m c 2 t) (iblk m c 4 t) S h j hj (ix3 0 e d)
      = stm m c (sq t) h d e (6 * (t.val % 11) + j) (by omega)
  | 0, _ => by
    rw [chain]
    refine Eq.trans ?_ hS
    show S ((Rect.unit (s := S4x256x128) ![h.val, 0, 0] ![1, 256, 128] (inbS h)).emb (ix3 0 e d)) = _
    rw [emb_head]
  | j + 1, hj => by
    rw [chain, nextS_at, chain_at S h e d hS j (Nat.le_of_succ_le hj)]
    simp only [lm4, lm1, rowsV_at, blk2]
    simp only [row_eq t ⟨j, hj⟩]
    rfl

/-- The state that point `t` leaves is the recurrence's state after the point's last chunk. -/
theorem state_rec : ∀ (n : ℕ) (t : Fin cfg0.N), t.val = n → ∀ (h : Fin 4) (e : Fin 256) (d : Fin 128),
    (outsAt0 m c t.val t.isLt).2.2 (ix3 h e d) = stm m c (sq t) h d e (6 * (t.val % 11) + 6) (by omega) ∧
    startS m c t (ix3 h e d) = stm m c (sq t) h d e (6 * (t.val % 11)) (by omega) := by
  intro n
  induction n using Nat.strong_induction_on with
  | _ n ih =>
    intro t ht h e d
    have hS : startS m c t (ix3 h e d) = stm m c (sq t) h d e (6 * (t.val % 11)) (by omega) := by
      by_cases h0 : t.val % 11 = 0
      · rw [startS, if_pos h0]
        have e2 : 6 * (t.val % 11) = 0 := by omega
        show Ideal.ofBits FTy.f32 0x0#32 = stm m c (sq t) h d e _ _
        simp only [e2, stm, st]
        pointwise []
      · rw [startS, if_neg h0]
        have h8 := lt88 t
        refine ((ih (t.val - 1) (by omega) ⟨t.val - 1, lt_of_le_of_lt (Nat.sub_le _ _) t.isLt⟩ rfl h e d).1).trans ?_
        have e1 : (t.val - 1) / 11 = t.val / 11 := by omega
        have e2 : 6 * ((t.val - 1) % 11) + 6 = 6 * (t.val % 11) := by omega
        show stm m c ⟨(t.val - 1) / 11, _⟩ h d e (6 * ((t.val - 1) % 11) + 6) _ = stm m c ⟨t.val / 11, _⟩ h d e _ _
        simp only [e1, e2]
    exact ⟨by rw [state_at]; exact chain_at m c t _ h e d hS 6 le_rfl, hS⟩

/-- A point's output block holds the recurrence's gated outputs. -/
theorem block_at (j : Fin 6) (i : Fin 64) (h : Fin 4) (e : Fin 256) :
    outRows (grid0.coords t 1).val (iblk m c 0 t) (iblk m c 1 t) (iblk m c 2 t) (iblk m c 3 t) (iblk m c 4 t) (iblk m c 5 t) (startS m c t) j (ix2 i (hv h e))
      = res (m ((c : Thread nD τ).loc main_arg0)) (m ((c : Thread nD τ).loc main_arg1)) (m ((c : Thread nD τ).loc main_arg4))
          (m ((c : Thread nD τ).loc main_arg2)) (m ((c : Thread nD τ).loc main_arg3)) (m ((c : Thread nD τ).loc main_arg5)) (sq t) (ch t j) i h e := by
  have hq : ∀ (u : Fin 64) (d : Fin 512), scaled (rows512 (iblk m c 0 t) j) (ix2 u d) = query (m ((c : Thread nD τ).loc main_arg0)) (sq t) (ch t j) u d := by
    intro u d
    rw [query, ← row_eq]
    refine Eq.trans ?_ (congrArg (· * Ideal.ofBits FTy.f32 0x3DB504F3#32) (blk0 m c t ⟨64 * j.val + u.val, by omega⟩ d))
    rw [← rows512_at (iblk m c 0 t) j u d]
    pointwise [scaled]
  rw [outRows, gated_at, normO_at]
  simp only [rawO_at, lm4, lm1, hq, rowsV_at, rowsO_at, blk2, blk3, blk5, row_eq,
    fun x d => chain_at m c t _ h x d (state_rec m c _ t rfl h x d).2 j.val (Nat.le_of_lt j.isLt)]
  rfl

/-- The result array of gated outputs after the run. -/
theorem final6 : (dats m 0 c).arrAt 6 (cfgs 0).N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  idx_vars y
  obtain ⟨j, i, hj, hy⟩ : ∃ (j : Fin 6) (i : Fin 64) (_ : True), y0 = ⟨64 * j.val + i.val, by omega⟩ :=
    ⟨⟨y0.val / 64, by omega⟩, ⟨y0.val % 64, by omega⟩, trivial, Fin.ext (by show y0.val = 64 * (y0.val / 64) + y0.val % 64; omega)⟩
  obtain ⟨h, e, _, he⟩ : ∃ (h : Fin 4) (e : Fin 256) (_ : True), y1 = hv h e :=
    ⟨⟨y1.val / 256, by omega⟩, ⟨y1.val % 256, by omega⟩, trivial, Fin.ext (by show y1.val = 256 * (y1.val / 256) + y1.val % 256; omega)⟩
  subst hy he
  rw [rows_at]
  have hemb : ((View.whole main_v0_0).slice (win0_6.rect t)).emb (ix2 ⟨64 * j.val + i.val, by omega⟩ (hv h e)) = ix2 (row (sq t) (ch t j) i) (hv h e) := by
    rw [← row_eq]
    blk_point [idx t]
  rw [hemb, outArr_at _ _ _ _ _ _ (sq t) (ch t j) i h e _ _ rfl rfl]
  exact block_at m c t j i h e

/-- The array of final states after the run. -/
theorem final7 : (dats m 0 c).arrAt 7 (cfgs 0).N
    = stArr (m ((c : Thread nD τ).loc main_arg1)) (m ((c : Thread nD τ).loc main_arg2)) (m ((c : Thread nD τ).loc main_arg4)) := by
  refine (dats m 0 c).arrAt_eq_of_covers 7 _ (by decide +kernel) fun t ht y => ?_
  have h10 : t.val % 11 = 10 := (flush0_7 t).mp ht
  blk_simp
  rw [after0_7]
  idx_vars y
  obtain rfl : y0 = 0 := Subsingleton.elim _ _
  have hemb : ((View.whole main_v0_1).slice (win0_7.rect t)).emb (ix4 0 y1 y2 y3) = ix4 (sq t) y1 y2 y3 := by
    blk_point [idx t]
  rw [hemb, final_at m c t h10, chain_at m c t _ y1 y3 y2 (state_rec m c _ t rfl y1 y3 y2).2]
  exact st_congr _ _ _ _ _ _ _ _ (by omega)

end Cert.Gla

end
-- ==== Proof.Gla.Trip.lean ====
/- One trip of the reference's loop, entry by entry: what it makes of the state and of the stacked outputs. -/
module

public import proofs.«01_k».proof.Proof.Gla.Rec
public import proofs.«01_k».proof.Proof.Gen.ReferenceIdeal.Run

@[expose] public section

set_option maxRecDepth 16384

noncomputable section

namespace Cert.Gla

open Idealize.ShloMosaic Idealize.ShloMosaic.TcCoe Idealize.SL.Sem
open Cert.ReferenceIdeal Cert.ReferenceIdeal.Gen Cert.ReferenceIdeal.Value

/-- The starts at the loop's counter `k` are `k` and zeros. -/
theorem starts (ctr : (⟨S_, .i32⟩ : BufTy).Contents (Elt Ideal)) (k : Fin 66) (hc : ctr = fun _ => BitVec.ofNat 32 k.val) (a : Fin 5) :
    ((((![ctr, constantI S_ 32 0#32, constantI S_ 32 0#32, constantI S_ 32 0#32, constantI S_ 32 0#32] : Fin 5 → (⟨S_, .i32⟩ : BufTy).Contents (Elt Ideal))) a
      (Shape.Idx.first h_S_)).toInt) = ((![k.val, 0, 0, 0, 0] : Fin 5 → ℕ) a : ℤ) := by
  subst hc
  fin_cases a
  · exact WordCmp.toInt_ofNat_of_lt (lt_trans k.isLt (by decide))
  all_goals rfl

theorem fits128 (k : Fin 66) : S66x8x64x4x128.Slices ![k.val, 0, 0, 0, 0] S1x8x64x4x128 :=
  ⟨rfl, fun a => by
    fin_cases a
    exacts [k.isLt, (by decide : 0 + 8 ≤ 8), (by decide : 0 + 64 ≤ 64), (by decide : 0 + 4 ≤ 4), (by decide : 0 + 128 ≤ 128)]⟩

theorem fits256 (k : Fin 66) : S66x8x64x4x256.Slices ![k.val, 0, 0, 0, 0] S1x8x64x4x256 :=
  ⟨rfl, fun a => by
    fin_cases a
    exacts [k.isLt, (by decide : 0 + 8 ≤ 8), (by decide : 0 + 64 ≤ 64), (by decide : 0 + 4 ≤ 4), (by decide : 0 + 256 ≤ 256)]⟩

/-- Writing slab `k` of the stacked outputs. -/
theorem update_slab (o : FVec Ideal S66x8x64x4x256 .f32) (x : FVec Ideal S8x64x4x256 .f32) (k n : Fin 66) (b : Fin 8) (i : Fin 64) (h : Fin 4) (e : Fin 256) :
    updateSlice o (broadcastInDim S1x8x64x4x256 ![1, 2, 3, 4] bcast_S8x64x4x256_S1x8x64x4x256_1_2_3_4 x) ![k.val, 0, 0, 0, 0] (fits256 k) (ix5 n b i h e)
      = if n = k then x (ix4 b i h e) else o (ix5 n b i h e) := by
  rw [updateSlice_apply]
  by_cases hn : n = k
  · subst hn
    rw [if_pos rfl, dif_pos]
    · pointwise []
    · intro a
      fin_cases a
      exacts [⟨le_refl _, Nat.lt_succ_self _⟩, ⟨Nat.zero_le _, lt_of_lt_of_eq b.isLt (Nat.zero_add _).symm⟩, ⟨Nat.zero_le _, lt_of_lt_of_eq i.isLt (Nat.zero_add _).symm⟩,
        ⟨Nat.zero_le _, lt_of_lt_of_eq h.isLt (Nat.zero_add _).symm⟩, ⟨Nat.zero_le _, lt_of_lt_of_eq e.isLt (Nat.zero_add _).symm⟩]
  · rw [if_neg hn, dif_neg]
    intro hin
    have h0 : k.val ≤ n.val ∧ n.val < k.val + 1 := hin 0
    exact hn (Fin.ext (by omega))

/-- The slab of keys, queries or decays at the counter. -/
theorem slab128 (x : FVec Ideal S66x8x64x4x128 .f32) (ctr : (⟨S_, .i32⟩ : BufTy).Contents (Elt Ideal)) (k : Fin 66) (hc : ctr = fun _ => BitVec.ofNat 32 k.val)
    (b : Fin 8) (i : Fin 64) (h : Fin 4) (d : Fin 128) :
    shapeCast S8x64x4x128 (Host.dynamicSlice S1x8x64x4x128 x (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) sliceFits_S66x8x64x4x128_S1x8x64x4x128) shapeCasts_S1x8x64x4x128_S8x64x4x128 (ix4 b i h d)
      = x (ix5 k b i h d) := by
  rw [WordCmp.dynamicSlice_eq_extract S1x8x64x4x128 x _ _ ![k.val, 0, 0, 0, 0]
    (fits128 k) (starts ctr k hc)]
  pointwise []

/-- The slab of values at the counter. -/
theorem slab256 (x : FVec Ideal S66x8x64x4x256 .f32) (ctr : (⟨S_, .i32⟩ : BufTy).Contents (Elt Ideal)) (k : Fin 66) (hc : ctr = fun _ => BitVec.ofNat 32 k.val)
    (b : Fin 8) (i : Fin 64) (h : Fin 4) (d : Fin 256) :
    shapeCast S8x64x4x256 (Host.dynamicSlice S1x8x64x4x256 x (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) sliceFits_S66x8x64x4x256_S1x8x64x4x256) shapeCasts_S1x8x64x4x256_S8x64x4x256 (ix4 b i h d)
      = x (ix5 k b i h d) := by
  rw [WordCmp.dynamicSlice_eq_extract S1x8x64x4x256 x _ _ ![k.val, 0, 0, 0, 0]
    (fits256 k) (starts ctr k hc)]
  pointwise []

variable (V : Valuation τ sig (Elt Ideal)) (k : Fin 66)

/-- The carried tensors, with their types. -/
abbrev cq : FVec Ideal S66x8x64x4x128 .f32 := V (Proc.devRef .tc main_v27_0)
abbrev ck : FVec Ideal S66x8x64x4x128 .f32 := V (Proc.devRef .tc main_v27_1)
abbrev cv : FVec Ideal S66x8x64x4x256 .f32 := V (Proc.devRef .tc main_v27_2)
abbrev cb : FVec Ideal S66x8x64x4x128 .f32 := V (Proc.devRef .tc main_v27_3)
abbrev cm : IVec S64x64 1 := V (Proc.devRef .tc main_v27_4)
abbrev cs : FVec Ideal S8x4x128x256 .f32 := V (Proc.devRef .tc main_v27_6)
abbrev co : FVec Ideal S66x8x64x4x256 .f32 := V (Proc.devRef .tc main_v27_7)

variable (hc : V (Proc.devRef .tc main_v27_5) = fun _ => BitVec.ofNat 32 k.val)
include hc

theorem at_k (b : Fin 8) (i : Fin 64) (h : Fin 4) (d : Fin 128) : (res_main_while0b_v49 V : FVec Ideal S8x64x4x128 .f32) (ix4 b i h d) = ck V (ix5 k b i h d) :=
  slab128 (ck V) _ k hc b i h d
theorem at_v (b : Fin 8) (i : Fin 64) (h : Fin 4) (d : Fin 256) : (res_main_while0b_v50 V : FVec Ideal S8x64x4x256 .f32) (ix4 b i h d) = cv V (ix5 k b i h d) :=
  slab256 (cv V) _ k hc b i h d
theorem at_b (b : Fin 8) (i : Fin 64) (h : Fin 4) (d : Fin 128) : (res_main_while0b_v51 V : FVec Ideal S8x64x4x128 .f32) (ix4 b i h d) = cb V (ix5 k b i h d) :=
  slab128 (cb V) _ k hc b i h d
theorem at_qd (b : Fin 8) (i : Fin 64) (h : Fin 4) (d : Fin 128) :
    (res_main_while0b_v53 V : FVec Ideal S8x64x4x128 .f32) (ix4 b i h d) = cq V (ix5 k b i h d) * Ideal.exp (cb V (ix5 k b i h d)) := by
  rw [← at_b V k hc, ← slab128 (cq V) _ k hc b i h d, res_main_while0b_v53]
  rfl
theorem at_last (b : Fin 8) (h : Fin 4) (d : Fin 128) : (res_main_while0b_v57 V : FVec Ideal S8x1x4x128 .f32) (ix4 b 0 h d) = cb V (ix5 k b 63 h d) := by
  rw [← at_b V k hc, res_main_while0b_v57]
  pointwise []

omit hc in
/-- The state's tensor equation at an index. -/
theorem state_tensor (l : FVec Ideal S8x1x4x128 .f32) (bb kk : FVec Ideal S8x64x4x128 .f32) (vv : FVec Ideal S8x64x4x256 .f32) (s : FVec Ideal S8x4x128x256 .f32)
    (b : Fin 8) (h : Fin 4) (d : Fin 128) (e : Fin 256) :
    addf (mulf (broadcastInDim S8x4x128x256 ![0, 1, 2, 3] bcast_S8x4x128x1_S8x4x128x256_0_1_2_3 (broadcastInDim S8x4x128x1 ![0, 1, 2] bcast_S8x4x128_S8x4x128x1_0_1_2 (Host.exp (shapeCast S8x4x128 l shapeCasts_S8x1x4x128_S8x4x128)))) s)
      (Host.dotGeneral dot_S8x64x4x128_S8x64x4x256_S8x4x128x256_1_1_3_3_02_02 none (mulf kk (Host.exp (subf (broadcastInDim S8x64x4x128 ![0, 1, 2, 3] bcast_S8x1x4x128_S8x64x4x128_0_1_2_3 l) bb))) vv) (ix4 b h d e)
      = Ideal.exp (l (ix4 b 0 h d)) * s (ix4 b h d e) + ∑ u : Fin 64, kk (ix4 b u h d) * Ideal.exp (l (ix4 b 0 h d) - bb (ix4 b u h d)) * vv (ix4 b u h e) := by
  pointwise []

/-- The state after a trip. -/
theorem step_state (b : Fin 8) (h : Fin 4) (d : Fin 128) (e : Fin 256) :
    (step_main_v27_6 V : FVec Ideal S8x4x128x256 .f32) (ix4 b h d e)
      = Ideal.exp (cb V (ix5 k b 63 h d)) * cs V (ix4 b h d e)
        + ∑ u : Fin 64, ck V (ix5 k b u h d) * Ideal.exp (cb V (ix5 k b 63 h d) - cb V (ix5 k b u h d)) * cv V (ix5 k b u h e) := by
  refine (state_tensor (res_main_while0b_v57 V) (res_main_while0b_v51 V) (res_main_while0b_v49 V) (res_main_while0b_v50 V) (cs V) b h d e).trans ?_
  simp only [at_last V k hc, at_b V k hc, at_k V k hc, at_v V k hc]

omit hc in
/-- A trip's outputs, as a tensor equation at an index. -/
theorem out_tensor (qd bb kk : FVec Ideal S8x64x4x128 .f32) (vv : FVec Ideal S8x64x4x256 .f32) (s : FVec Ideal S8x4x128x256 .f32) (mk : IVec S64x64 1)
    (b : Fin 8) (i : Fin 64) (h : Fin 4) (e : Fin 256) :
    addf (transpose S8x64x4x256 [0, 3, 1, 2] (Host.dotGeneral dot_S8x64x4x256_S8x4x64x64_S8x4x256x64_1_3_3_2_02_01 none vv (select (broadcastInDim S8x4x64x64 ![2, 3] bcast_S64x64_S8x4x64x64_2_3 mk) (Host.dotGeneral dot_S8x64x4x128_S8x64x4x128_S8x4x64x64_3_3_1_1_02_02 none qd (mulf kk (Host.exp (Host.negf bb)))) (broadcastInDim S8x4x64x64 ![] bcast_S_S8x4x64x64 (id (constant (F := Ideal) S_ .f32 0x00000000#32))))) transposes_S8x4x256x64_S8x64x4x256_0_3_1_2)
      (transpose S8x64x4x256 [0, 3, 1, 2] (Host.dotGeneral dot_S8x4x128x256_S8x64x4x128_S8x4x256x64_2_3_3_1_01_02 none s qd) transposes_S8x4x256x64_S8x64x4x256_0_3_1_2) (ix4 b i h e)
      = (∑ u : Fin 64, vv (ix4 b u h e) * Scalar.select (mk (ix2 i u)) (∑ d : Fin 128, qd (ix4 b i h d) * (kk (ix4 b u h d) * Ideal.exp (-(bb (ix4 b u h d))))) 0)
        + ∑ d : Fin 128, s (ix4 b h d e) * qd (ix4 b i h d) := by
  pointwise [id]

/-- The stacked outputs after a trip: slab `k` is new. -/
theorem step_out (n : Fin 66) (b : Fin 8) (i : Fin 64) (h : Fin 4) (e : Fin 256) :
    (step_main_v27_7 V : FVec Ideal S66x8x64x4x256 .f32) (ix5 n b i h e)
      = if n = k then
          (∑ u : Fin 64, cv V (ix5 k b u h e) * Scalar.select (cm V (ix2 i u)) (∑ d : Fin 128, cq V (ix5 k b i h d) * Ideal.exp (cb V (ix5 k b i h d)) * (ck V (ix5 k b u h d) * Ideal.exp (-(cb V (ix5 k b u h d))))) 0)
            + ∑ d : Fin 128, cs V (ix4 b h d e) * (cq V (ix5 k b i h d) * Ideal.exp (cb V (ix5 k b i h d)))
        else co V (ix5 n b i h e) := by
  refine (congrFun (WordCmp.dynamicUpdateSlice_eq_update (co V) _ _ updateFits_S66x8x64x4x256_S1x8x64x4x256 ![k.val, 0, 0, 0, 0] (fits256 k) (starts _ k hc)) (ix5 n b i h e)).trans ?_
  refine (update_slab (co V) _ k n b i h e).trans ?_
  by_cases hn : n = k
  · rw [if_pos hn, if_pos hn]
    refine (out_tensor (res_main_while0b_v53 V) (res_main_while0b_v51 V) (res_main_while0b_v49 V) (res_main_while0b_v50 V) (cs V) (cm V) b i h e).trans ?_
    simp only [at_qd V k hc, at_b V k hc, at_k V k hc, at_v V k hc]
  · rw [if_neg hn, if_neg hn]

end Cert.Gla

end
-- ==== Proof.Gla.Cumsum.lean ====
/- The running sum along a chunk, as the reference takes it. -/
module

public import proofs.«01_k».proof.Proof.Gla.Rec
public import proofs.«01_k».proof.ReferenceIdeal

@[expose] public section

set_option maxRecDepth 16384

noncomputable section

namespace Cert.Gla

open Idealize.ShloMosaic Idealize.ShloMosaic.TcCoe Idealize.SL.Sem
open Cert.ReferenceIdeal

/-- Adding up a list of all indices from the left is adding their sum. -/
theorem foldl_add_eq (n : ℕ) (f : Fin n → EReal) (v : EReal) : (List.finRange n).foldl (fun r x => r + f x) v = v + ∑ x, f x := by
  rw [Fin.sum_univ_def]
  generalize List.finRange n = l
  induction l generalizing v with
  | nil => simp
  | cons a l ih => simp only [List.foldl_cons, List.map_cons, List.sum_cons, ih, add_assoc]

/-- The running sum of a chunk at position `i` is the sum of the entries up to `i`. -/
theorem cumsum_at (x : FVec Ideal S66x8x64x4x128 .f32) (z : FVec Ideal S_ .f32) (hz : ∀ j, z j = 0)
    (hw : S66x8x64x4x128.ReduceWindows ![1, 1, 64, 1, 1] ![1, 1, 1, 1, 1] ![0, 0, 63, 0, 0] ![0, 0, 0, 0, 0] S66x8x64x4x128) (hu : 0 < S_.numel)
    (n : Fin 66) (b : Fin 8) (i : Fin 64) (h : Fin 4) (d : Fin 128) :
    Host.reduceWindowAdd ![1, 1, 64, 1, 1] ![1, 1, 1, 1, 1] ![0, 0, 63, 0, 0] ![0, 0, 0, 0, 0] x z hw hu (ix5 n b i h d)
      = dec (fun u => x (ix5 n b u h d)) i := by
  rw [Host.reduceWindowAdd, hz]
  show Ideal.hostReduceWindowAdd _ _ _ _ hw x 0 (ix5 n b i h d) = _
  rw [Ideal.hostReduceWindowAdd, Host.reduceWindow]
  refine (foldl_add_eq _ _ _).trans ?_
  rw [zero_add]
  let W : Shape := ⟨5, ![1, 1, 64, 1, 1]⟩
  let G : W.Idx → EReal := fun w =>
    if hin : 63 ≤ i.val + (w 2).val then x (ix5 n b ⟨i.val + (w 2).val - 63, by have : (w 2).val < 64 := (w 2).isLt; omega⟩ h d) else 0
  refine (Finset.sum_congr (g := fun p => G (W.rowMajor.symm p)) rfl fun p _ => ?_).trans ((Equiv.sum_comp W.rowMajor.symm G).trans ?_)
  · show _ = G (W.rowMajor.symm p)
    let w : W.Idx := W.rowMajor.symm p
    show _ = G w
    have w0 : (w 0).val = 0 := by have : (w 0).val < 1 := (w 0).isLt; omega
    have w1 : (w 1).val = 0 := by have : (w 1).val < 1 := (w 1).isLt; omega
    have w2 : (w 2).val < 64 := (w 2).isLt
    have w3 : (w 3).val = 0 := by have : (w 3).val < 1 := (w 3).isLt; omega
    have w4 : (w 4).val = 0 := by have : (w 4).val < 1 := (w 4).isLt; omega
    by_cases hc : 63 ≤ i.val + (w 2).val
    · refine Eq.trans ?_ (dif_pos (c := 63 ≤ i.val + (w 2).val) hc).symm
      refine (dif_pos ?_).trans ?_
      · intro a
        fin_cases a
        · show 0 ≤ n.val * 1 + (w 0).val ∧ n.val * 1 + (w 0).val - 0 < 66; omega
        · show 0 ≤ b.val * 1 + (w 1).val ∧ b.val * 1 + (w 1).val - 0 < 8; omega
        · show 63 ≤ i.val * 1 + (w 2).val ∧ i.val * 1 + (w 2).val - 63 < 64; omega
        · show 0 ≤ h.val * 1 + (w 3).val ∧ h.val * 1 + (w 3).val - 0 < 4; omega
        · show 0 ≤ d.val * 1 + (w 4).val ∧ d.val * 1 + (w 4).val - 0 < 128; omega
      · refine congrArg x (funext fun a => Fin.ext ?_)
        fin_cases a
        · show n.val * 1 + (w 0).val - 0 = n.val; omega
        · show b.val * 1 + (w 1).val - 0 = b.val; omega
        · show i.val * 1 + (w 2).val - 63 = i.val + (w 2).val - 63; omega
        · show h.val * 1 + (w 3).val - 0 = h.val; omega
        · show d.val * 1 + (w 4).val - 0 = d.val; omega
    · refine Eq.trans ?_ (dif_neg (c := 63 ≤ i.val + (w 2).val) hc).symm
      refine dif_neg ?_
      intro hin
      have h2 : 63 ≤ i.val * 1 + (w 2).val := (hin 2).1
      omega
  · rw [dec, ← Finset.sum_filter, ← Finset.sum_filter_add_sum_filter_not Finset.univ (fun w : W.Idx => 63 ≤ i.val + (w 2).val) G,
      Finset.sum_eq_zero (s := Finset.univ.filter fun w : W.Idx => ¬ 63 ≤ i.val + (w 2).val) (fun w hw => dif_neg (Finset.mem_filter.mp hw).2), add_zero]
    refine Finset.sum_bij' (fun w _ => ⟨i.val + (w 2).val - 63, by have : (w 2).val < 64 := (w 2).isLt; omega⟩)
      (fun u hu => (ix5 0 0 ⟨u.val + 63 - i.val, by have := (Finset.mem_filter.mp hu).2; have : u.val ≤ i.val := this; omega⟩ 0 0 : W.Idx)) ?_ ?_ ?_ ?_ ?_
    · intro w hw
      have : (w 2).val < 64 := (w 2).isLt
      exact Finset.mem_filter.mpr ⟨Finset.mem_univ _, show i.val + (w 2).val - 63 ≤ i.val by omega⟩
    · intro u hu
      have h1 : u.val ≤ i.val := (Finset.mem_filter.mp hu).2
      exact Finset.mem_filter.mpr ⟨Finset.mem_univ _, show 63 ≤ i.val + (u.val + 63 - i.val) by omega⟩
    · intro w hw
      have h1 : 63 ≤ i.val + (w 2).val := (Finset.mem_filter.mp hw).2
      have w2 : (w 2).val < 64 := (w 2).isLt
      funext a
      fin_cases a
      · exact Fin.ext (by have : (w 0).val < 1 := (w 0).isLt; show 0 = (w 0).val; omega)
      · exact Fin.ext (by have : (w 1).val < 1 := (w 1).isLt; show 0 = (w 1).val; omega)
      · exact Fin.ext (show i.val + (w 2).val - 63 + 63 - i.val = (w 2).val by omega)
      · exact Fin.ext (by have : (w 3).val < 1 := (w 3).isLt; show 0 = (w 3).val; omega)
      · exact Fin.ext (by have : (w 4).val < 1 := (w 4).isLt; show 0 = (w 4).val; omega)
    · intro u hu
      have h1 : u.val ≤ i.val := (Finset.mem_filter.mp hu).2
      exact Fin.ext (show i.val + (u.val + 63 - i.val) - 63 = u.val by omega)
    · intro w hw
      exact dif_pos (c := 63 ≤ i.val + (w 2).val) (Finset.mem_filter.mp hw).2

end Cert.Gla

end
-- ==== Proof.Gla.Entry.lean ====
/- What the reference's loop starts from, entry by entry. -/
module

public import proofs.«01_k».proof.Proof.Gla.Cumsum
public import proofs.«01_k».proof.Proof.Gla.Trip

@[expose] public section

set_option maxRecDepth 16384

noncomputable section

namespace Cert.Gla

open Idealize.ShloMosaic Idealize.ShloMosaic.TcCoe Idealize.SL.Sem Idealize.ShloMosaic.StableHlo
open Cert.ReferenceIdeal Cert.ReferenceIdeal.Gen Cert.ReferenceIdeal.Value

/-- The positions inside the sequence, as a one-bit tensor. -/
def validR : IVec S1x4224x1 1 :=
  broadcastInDim S1x4224x1 ![1] bcast_S4224_S1x4224x1_1
    (andi (cmpi .sge (iotaInDim S4224 32 0) (broadcastInDim S4224 ![] bcast_S_S4224 (constantI S_ 32 48#32)))
      (cmpi .slt (iotaInDim S4224 32 0) (broadcastInDim S4224 ![] bcast_S_S4224 (constantI S_ 32 4160#32))))

/-- An argument in chunks, zero outside the sequence. -/
def chunked (x : FVec Ideal S33792x512 .f32) : FVec Ideal S66x8x64x4x128 .f32 :=
  transpose S66x8x64x4x128 [1, 0, 2, 3, 4] (shapeCast S8x66x64x4x128
    (select (broadcastInDim S8x4224x512 ![0, 1, 2] bcast_S1x4224x1_S8x4224x512_0_1_2 validR) (shapeCast S8x4224x512 x shapeCasts_S33792x512_S8x4224x512)
      (broadcastInDim S8x4224x512 ![] bcast_S_S8x4224x512 (id (constant S_ .f32 0x00000000#32)))) shapeCasts_S8x4224x512_S8x66x64x4x128)
    transposes_S8x66x64x4x128_S66x8x64x4x128_1_0_2_3_4

theorem validR_at (p : Fin 4224) : validR (ix3 0 p 0) = BitVec.ofBool (decide (48 ≤ p.val ∧ p.val < 4160)) := by
  pointwise [validR]
  rw [show (48#32 : BitVec 32) = BitVec.ofNat 32 48 from rfl, show (4160#32 : BitVec 32) = BitVec.ofNat 32 4160 from rfl,
    WordCmp.cmpi_sge_ofNat (by omega) (by omega), WordCmp.cmpi_slt_ofNat (by omega) (by omega), WordCmp.andi_ofBool, Bool.decide_and]

theorem chunked_at (x : FVec Ideal S33792x512 .f32) (n : Fin 66) (b : Fin 8) (i : Fin 64) (h : Fin 4) (d : Fin 128) :
    chunked x (ix5 n b i h d) = real x b n i (hk h d) := by
  simp only [hk]
  pointwise [chunked, real]
  rw [validR_at, WordCmp.select_ofBool]
  have e0 : n.val * 64 + i.val = 64 * n.val + i.val := by omega
  have e1 : b.val * 4224 + (64 * n.val + i.val) = 4224 * b.val + 64 * n.val + i.val := by omega
  have e2 : h.val * 128 + d.val = 128 * h.val + d.val := by omega
  simp only [e0, e1, e2, decide_eq_true_eq]
  refine if_congr Iff.rfl rfl ?_
  pointwise [id]

variable (m : (ℓ : Loc nD τ sig) → Buf (Elt Ideal) ℓ) (c : Dev nD)

theorem entry_k_eq : ck (entryContents preI m c) = chunked (m ((c : Thread nD τ).loc main_arg1)) := by
  simp only [ck, entryContents, afterL_cons, afterL_nil]
  after_reads_simp
  rfl

/-- The running sums after their stretch. -/
theorem s5 (V : Valuation τ sig (Elt Ideal)) : after hostOps0_5 V (Proc.devRef .tc main_v22) = Host.reduceWindowAdd (F := Ideal) (φ := .f32) ![1, 1, 64, 1, 1] ![1, 1, 1, 1, 1] ![0, 0, 63, 0, 0] ![0, 0, 0, 0, 0]
    (V (Proc.devRef .tc main_v21)) (broadcastInDim S_ ![] bcast_S_S_ (constant S_ .f32 0x00000000#32))
    reduceWindows_S66x8x64x4x128_S66x8x64x4x128_w1s1p0_0_w1s1p0_0_w64s1p63_0_w1s1p0_0_w1s1p0_0 h_S_ := by
  simp only [hostOps0_5]
  after_results_entrywise [cast_eq]

/-- The masked log decays in chunks, of the masked log decays. -/
theorem s4 (V : Valuation τ sig (Elt Ideal)) : after hostOps0_4 V (Proc.devRef .tc main_v21)
    = transpose S66x8x64x4x128 [1, 0, 2, 3, 4] (shapeCast S8x66x64x4x128 (V (Proc.devRef .tc main_v19) : FVec Ideal S8x4224x512 .f32) shapeCasts_S8x4224x512_S8x66x64x4x128)
        transposes_S8x66x64x4x128_S66x8x64x4x128_1_0_2_3_4 := by
  simp only [hostOps0_4]
  after_results_entrywise [cast_eq]

/-- The masked log decays, of the mask and the log decays. -/
theorem s3 (V : Valuation τ sig (Elt Ideal)) : after hostOps0_3 V (Proc.devRef .tc main_v19)
    = select (broadcastInDim S8x4224x512 ![0, 1, 2] bcast_S1x4224x1_S8x4224x512_0_1_2 (V (Proc.devRef .tc main_v6) : IVec S1x4224x1 1)) (V (Proc.devRef .tc main_v18) : FVec Ideal S8x4224x512 .f32)
      (broadcastInDim S8x4224x512 ![] bcast_S_S8x4224x512 (id (V (Proc.devRef .tc main_cst_2) : FVec Ideal S_ .f32))) := by
  simp only [hostOps0_3]
  after_results_entrywise [cast_eq]

theorem s2_zero (V : Valuation τ sig (Elt Ideal)) : after hostOps0_2 V (Proc.devRef .tc main_cst_2) = constant (F := Ideal) S_ .f32 0x00000000#32 := by
  simp only [hostOps0_2]
  after_results_entrywise [cast_eq]

theorem s2_rows (V : Valuation τ sig (Elt Ideal)) : after hostOps0_2 V (Proc.devRef .tc main_v18)
    = shapeCast S8x4224x512 (V (Proc.devRef .tc main_arg4) : FVec Ideal S33792x512 .f32) shapeCasts_S33792x512_S8x4224x512 := by
  simp only [hostOps0_2]
  after_results_entrywise [cast_eq]

theorem s0_valid (V : Valuation τ sig (Elt Ideal)) : after hostOps0 V (Proc.devRef .tc main_v6) = validR := by
  simp only [hostOps0, validR]
  after_results_entrywise [cast_eq]

theorem s8 (V : Valuation τ sig (Elt Ideal)) : after hostOps0_8 V (Proc.devRef .tc main_v27_3) = V (Proc.devRef .tc main_v22) := by
  simp only [hostOps0_8]
  after_results_entrywise [cast_eq, id_eq]

theorem entry_b_eq : cb (entryContents preI m c) = Host.reduceWindowAdd ![1, 1, 64, 1, 1] ![1, 1, 1, 1, 1] ![0, 0, 63, 0, 0] ![0, 0, 0, 0, 0]
    (chunked (m ((c : Thread nD τ).loc main_arg4))) (broadcastInDim S_ ![] bcast_S_S_ (constant S_ .f32 0x00000000#32))
    reduceWindows_S66x8x64x4x128_S66x8x64x4x128_w1s1p0_0_w1s1p0_0_w64s1p63_0_w1s1p0_0_w1s1p0_0 h_S_ := by
  simp only [cb, entryContents, preI, afterL_cons, afterL_nil, chunked]
  rw [s8, after_of_writes_sub (r := main_v22) hostOps0_7 _ hostOps0_7_writes (by decide +kernel),
    after_of_writes_sub (r := main_v22) hostOps0_6 _ hostOps0_6_writes (by decide +kernel), s5, s4, s3, s2_zero, s2_rows,
    after_of_writes_sub (r := main_v6) hostOps0_2 _ hostOps0_2_writes (by decide +kernel),
    after_of_writes_sub (r := main_v6) hostOps0_1 _ hostOps0_1_writes (by decide +kernel), s0_valid,
    keep_main_arg4_hostOps0_1, keep_main_arg4_hostOps0]

theorem entry_q_eq : cq (entryContents preI m c)
    = transpose S66x8x64x4x128 [1, 0, 2, 3, 4] (shapeCast S8x66x64x4x128 (mulf (m ((c : Thread nD τ).loc main_arg0) : FVec Ideal S33792x512 .f32)
        (broadcastInDim S33792x512 ![] bcast_S_S33792x512 (constant S_ .f32 0x3DB504F3#32))) shapeCasts_S33792x512_S8x66x64x4x128)
      transposes_S8x66x64x4x128_S66x8x64x4x128_1_0_2_3_4 := by
  simp only [cq, entryContents, afterL_cons, afterL_nil]
  after_reads_simp
  rfl

theorem entry_v_eq : cv (entryContents preI m c)
    = transpose S66x8x64x4x256 [1, 0, 2, 3, 4] (shapeCast S8x66x64x4x256 (extf .f32 (m ((c : Thread nD τ).loc main_arg2) : FVec Ideal S33792x1024 .bf16) bitsLt_bf16_f32)
        shapeCasts_S33792x1024_S8x66x64x4x256) transposes_S8x66x64x4x256_S66x8x64x4x256_1_0_2_3_4 := by
  simp only [cv, entryContents, afterL_cons, afterL_nil]
  after_reads_simp
  rfl

theorem entry_m_eq : cm (entryContents preI m c)
    = select (cmpi .sge (addi (iotaInDim S64x64 32 0) (broadcastInDim S64x64 ![] bcast_S_S64x64 (constantI S_ 32 0#32))) (iotaInDim S64x64 32 1))
        (broadcastInDim S64x64 ![] bcast_S_S64x64 (constantI S_ 1 1#1)) (broadcastInDim S64x64 ![] bcast_S_S64x64 (constantI S_ 1 0#1)) := by
  simp only [cm, entryContents, afterL_cons, afterL_nil]
  after_reads_simp
  rfl

theorem entry_s_eq : cs (entryContents preI m c) = broadcastInDim S8x4x128x256 ![] bcast_S_S8x4x128x256 (constant (F := Ideal) S_ .f32 0x00000000#32) := by
  simp only [cs, entryContents, afterL_cons, afterL_nil]
  after_reads_simp
  rfl

/-- The loop starts from the scaled queries, -/
theorem entry_q (n : Fin 66) (b : Fin 8) (i : Fin 64) (h : Fin 4) (d : Fin 128) :
    cq (entryContents preI m c) (ix5 n b i h d) = query (m ((c : Thread nD τ).loc main_arg0)) b n i (hk h d) := by
  rw [entry_q_eq]
  have e1 : b.val * 4224 + (n.val * 64 + i.val) = 4224 * b.val + 64 * n.val + i.val := by omega
  have e2 : h.val * 128 + d.val = 128 * h.val + d.val := by omega
  simp only [query, row, hk, ← e1, ← e2]
  generalize (m ((c : Thread nD τ).loc main_arg0)) = x
  revert x
  intro (x : FVec Ideal S33792x512 .f32)
  pointwise []
  simp only [Nat.add_assoc]

/-- the masked keys, -/
theorem entry_k (n : Fin 66) (b : Fin 8) (i : Fin 64) (h : Fin 4) (d : Fin 128) :
    ck (entryContents preI m c) (ix5 n b i h d) = real (m ((c : Thread nD τ).loc main_arg1)) b n i (hk h d) := by
  rw [entry_k_eq, chunked_at]

/-- the values, -/
theorem entry_v (n : Fin 66) (b : Fin 8) (i : Fin 64) (h : Fin 4) (e : Fin 256) :
    cv (entryContents preI m c) (ix5 n b i h e) = (m ((c : Thread nD τ).loc main_arg2) : FVec Ideal S33792x1024 .bf16) (ix2 (row b n i) (hv h e)) := by
  rw [entry_v_eq]
  have e1 : b.val * 4224 + (n.val * 64 + i.val) = 4224 * b.val + 64 * n.val + i.val := by omega
  have e2 : h.val * 256 + e.val = 256 * h.val + e.val := by omega
  simp only [row, hv, ← e1, ← e2]
  generalize (m ((c : Thread nD τ).loc main_arg2)) = x
  revert x
  intro (x : FVec Ideal S33792x1024 .bf16)
  pointwise []
  simp only [Nat.add_assoc]

/-- the running sums of the masked log decays, -/
theorem entry_b (n : Fin 66) (b : Fin 8) (i : Fin 64) (h : Fin 4) (d : Fin 128) :
    cb (entryContents preI m c) (ix5 n b i h d) = dec (fun u => real (m ((c : Thread nD τ).loc main_arg4)) b n u (hk h d)) i := by
  rw [entry_b_eq, cumsum_at _ _ (fun j => by pointwise [])]
  simp only [chunked_at]

/-- the causal mask -/
theorem entry_m (i u : Fin 64) : cm (entryContents preI m c) (ix2 i u) = BitVec.ofBool (decide (u ≤ i)) := by
  rw [entry_m_eq]
  pointwise []
  rw [show (0#32 : BitVec 32) = BitVec.ofNat 32 0 from rfl, WordCmp.addi_ofNat, Nat.add_zero, WordCmp.cmpi_sge_ofNat (by omega) (by omega), WordCmp.select_ofBool]
  by_cases h : u ≤ i
  · simp [h]
  · simp [h]

/-- and a zero state. -/
theorem entry_s (b : Fin 8) (h : Fin 4) (d : Fin 128) (e : Fin 256) : cs (entryContents preI m c) (ix4 b h d e) = 0 := by
  rw [entry_s_eq]
  pointwise []

end Cert.Gla

end
-- ==== Proof.Gla.Ref.lean ====
/- What the reference's loop and the operations after it leave: the recurrence's states and its gated, normalised outputs. -/
module

public import proofs.«01_k».proof.Proof.Gla.Trip
public import proofs.«01_k».proof.Proof.Gla.Entry

@[expose] public section

set_option maxRecDepth 16384

noncomputable section

namespace Cert.Gla

open Idealize.ShloMosaic Idealize.ShloMosaic.TcCoe Idealize.SL.Sem
open Idealize.ShloMosaic.StableHlo
open Cert.ReferenceIdeal Cert.ReferenceIdeal.Gen Cert.ReferenceIdeal.Value

variable (m : (ℓ : Loc nD τ sig) → Buf (Elt Ideal) ℓ) (c : Dev nD)

/-- The carried buffers after `k` trips. -/
abbrev It (k : ℕ) : Valuation τ sig (Elt Ideal) := STEP^[k] (entryContents preI m c)

theorem it_succ (k : ℕ) : It m c (k + 1) = STEP (It m c k) := Function.iterate_succ_apply' _ _ _

theorem it_q : ∀ k, cq (It m c k) = cq (entryContents preI m c)
  | 0 => rfl
  | k + 1 => by rw [it_succ]; exact (STEP_main_v27_0 _).trans (it_q k)

theorem it_k : ∀ k, ck (It m c k) = ck (entryContents preI m c)
  | 0 => rfl
  | k + 1 => by rw [it_succ]; exact (STEP_main_v27_1 _).trans (it_k k)

theorem it_v : ∀ k, cv (It m c k) = cv (entryContents preI m c)
  | 0 => rfl
  | k + 1 => by rw [it_succ]; exact (STEP_main_v27_2 _).trans (it_v k)

theorem it_b : ∀ k, cb (It m c k) = cb (entryContents preI m c)
  | 0 => rfl
  | k + 1 => by rw [it_succ]; exact (STEP_main_v27_3 _).trans (it_b k)

theorem it_m : ∀ k, cm (It m c k) = cm (entryContents preI m c)
  | 0 => rfl
  | k + 1 => by rw [it_succ]; exact (STEP_main_v27_4 _).trans (it_m k)

/-- The counter counts the trips. -/
theorem it_ctr : ∀ k, It m c k (Proc.devRef .tc main_v27_5) = fun _ => BitVec.ofNat 32 k
  | 0 => ctr_entry m c
  | k + 1 => by
    rw [it_succ, STEP_main_v27_5]
    unfold step_main_v27_5
    rw [it_ctr k]
    funext j
    exact WordCmp.addi_ofNat k 1

/-- After `k` trips the carried state is the recurrence's state before chunk `k`. -/
theorem it_s (b : Fin 8) (h : Fin 4) (d : Fin 128) (e : Fin 256) : ∀ (k : ℕ) (hk : k ≤ 66),
    cs (It m c k) (ix4 b h d e) = st (m ((c : Thread nD τ).loc main_arg1)) (m ((c : Thread nD τ).loc main_arg4)) (m ((c : Thread nD τ).loc main_arg2)) b h d e k hk
  | 0, _ => entry_s m c b h d e
  | k + 1, hk => by
    have hs := step_state (It m c k) ⟨k, hk⟩ (it_ctr m c k) b h d e
    rw [it_succ]
    refine (congrFun (STEP_main_v27_6 _) _).trans (hs.trans ?_)
    rw [it_s b h d e k (Nat.le_of_succ_le hk), it_k, it_v, it_b]
    show _ = stNext _ _ _ _
    unfold stNext
    refine congrArg₂ (· + ·) ?_ (Finset.sum_congr rfl fun u _ => ?_)
    · rw [entry_b]
    · rw [entry_b, entry_b, entry_k, entry_v]
      exact mul_comm _ _

/-- After `k` trips the stacked outputs before slab `k` are the recurrence's. -/
theorem it_o (n : Fin 66) (b : Fin 8) (i : Fin 64) (h : Fin 4) (e : Fin 256) : ∀ (k : ℕ), k ≤ 66 → n.val < k →
    co (It m c k) (ix5 n b i h e) = raw (m ((c : Thread nD τ).loc main_arg0)) (m ((c : Thread nD τ).loc main_arg1)) (m ((c : Thread nD τ).loc main_arg4)) (m ((c : Thread nD τ).loc main_arg2)) b n i h e
  | 0, _, hn => absurd hn (Nat.not_lt_zero _)
  | k + 1, hk, hn => by
    have hs := step_out (It m c k) ⟨k, hk⟩ (it_ctr m c k) n b i h e
    rw [it_succ]
    refine (congrFun (STEP_main_v27_7 _) _).trans (hs.trans ?_)
    by_cases hnk : n = ⟨k, hk⟩
    · subst hnk
      rw [if_pos rfl, it_q, it_k, it_v, it_b, it_m]
      unfold raw outRaw
      refine congrArg₂ (· + ·) (Finset.sum_congr rfl fun u _ => ?_) (Finset.sum_congr rfl fun d _ => ?_)
      · rw [entry_m, entry_v, WordCmp.select_ofBool]
        simp only [decide_eq_true_eq]
        refine (mul_comm _ _).trans (congrArg (· * _) ?_)
        by_cases hu : u ≤ i
        · rw [if_pos hu, if_pos hu]
          refine Finset.sum_congr rfl fun d _ => ?_
          rw [entry_q, entry_k, entry_b, entry_b, zero_sub]
        · rw [if_neg hu, if_neg hu]
      · rw [it_s m c b h d e k (Nat.le_of_succ_le hk), entry_q, entry_b]
        exact mul_comm _ _
    · rw [if_neg hnk]
      refine it_o n b i h e k (Nat.le_of_succ_le hk) (lt_of_le_of_ne (Nat.le_of_lt_succ hn) fun hv => hnk (Fin.ext hv))

/-- The operations after the loop, of the outputs by position, the normalisation weights and the gate. -/
def tailOf (x : FVec Ideal S8x4224x4x256 .f32) (gn : FVec Ideal S1x256 .f32) (og : FVec Ideal S33792x1024 .f32) : FVec Ideal S33792x1024 .bf16 :=
  truncf .bf16
    (mulf
      (shapeCast S33792x1024
        (mulf
          (mulf x
            (broadcastInDim S8x4224x4x256 ![0, 1, 2, 3] bcast_S8x4224x4x1_S8x4224x4x256_0_1_2_3
              (Host.rsqrt
                (addf
                  (Host.divf
                    (broadcastInDim S8x4224x4x1 ![0, 1, 2] bcast_S8x4224x4_S8x4224x4x1_0_1_2
                      (Host.reduceAdd (mulf x x) (constant S_ .f32 0x00000000#32) reducesTo_S8x4224x4x256_S8x4224x4_d3 h_S_))
                    (broadcastInDim S8x4224x4x1 ![] bcast_S_S8x4224x4x1 (constant S_ .f32 0x43800000#32)))
                  (broadcastInDim S8x4224x4x1 ![] bcast_S_S8x4224x4x1 (constant S_ .f32 0x3727C5AC#32))))))
          (broadcastInDim S8x4224x4x256 ![0, 1, 2, 3] bcast_S1x1x1x256_S8x4224x4x256_0_1_2_3
            (broadcastInDim S1x1x1x256 ![3] bcast_S256_S1x1x1x256_3 (shapeCast S256 gn shapeCasts_S1x256_S256))))
        shapeCasts_S8x4224x4x256_S33792x1024)
      (mulf og
        (Host.divf (broadcastInDim S33792x1024 ![] bcast_S_S33792x1024 (constant S_ .f32 0x3F800000#32))
          (addf (broadcastInDim S33792x1024 ![] bcast_S_S33792x1024 (constant S_ .f32 0x3F800000#32)) (Host.exp (Host.negf og))))))
    bitsLt_bf16_f32

/-- The stacked outputs by position. -/
def stack (o : FVec Ideal S66x8x64x4x256 .f32) : FVec Ideal S8x4224x4x256 .f32 :=
  shapeCast S8x4224x4x256 (transpose S8x66x64x4x256 [1, 0, 2, 3, 4] o transposes_S66x8x64x4x256_S8x66x64x4x256_1_0_2_3_4) shapeCasts_S8x66x64x4x256_S8x4224x4x256

theorem out_eq (V : Valuation τ sig (Elt Ideal)) :
    out_main_v47 V = tailOf (stack (co V)) (V (Proc.devRef .tc main_arg5)) (V (Proc.devRef .tc main_arg3)) := rfl

/-- Position `64 n + i` of a sequence. -/
abbrev pos (n : Fin 66) (i : Fin 64) : Fin 4224 := ⟨64 * n.val + i.val, by omega⟩

theorem stack_at (o : FVec Ideal S66x8x64x4x256 .f32) (b : Fin 8) (n : Fin 66) (i : Fin 64) (h : Fin 4) (e : Fin 256) :
    stack o (ix4 b (pos n i) h e) = o (ix5 n b i h e) := by
  have e1 : n.val * 64 + i.val = 64 * n.val + i.val := by omega
  simp only [pos, ← e1]
  pointwise [stack]

/-- Entry by entry: the normalised output times the gate. -/
theorem tail_at (x : FVec Ideal S8x4224x4x256 .f32) (gn : FVec Ideal S1x256 .f32) (og : FVec Ideal S33792x1024 .f32)
    (b : Fin 8) (p : Fin 4224) (h : Fin 4) (e : Fin 256) (r : Fin 33792) (c : Fin 1024) (hr : r.val = b.val * 4224 + p.val) (hc : c.val = h.val * 256 + e.val) :
    tailOf x gn og (ix2 r c) = rms (fun z => x (ix4 b p h z)) (gn (ix2 0 e)) e * (og (ix2 r c) * Ideal.logistic (og (ix2 r c))) := by
  obtain ⟨r, hr0⟩ := r
  obtain ⟨c, hc0⟩ := c
  dsimp only at hr hc
  subst hr hc
  pointwise [tailOf, rms]
  rfl

/-- The reference's gated outputs. -/
theorem ref_out : out_main_v47 (It m c 66)
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [out_eq, show It m c 66 (Proc.devRef .tc main_arg3) = _ from iter_main_arg3 m c 66, show It m c 66 (Proc.devRef .tc main_arg5) = _ from iter_main_arg5 m c 66]
  funext y
  idx_vars y
  obtain ⟨b, p, _, hr⟩ : ∃ (b : Fin 8) (p : Fin 4224) (_ : True), y0.val = b.val * 4224 + p.val :=
    ⟨⟨y0.val / 4224, by omega⟩, ⟨y0.val % 4224, by omega⟩, trivial, by show y0.val = y0.val / 4224 * 4224 + y0.val % 4224; omega⟩
  obtain ⟨n, i, _, hp⟩ : ∃ (n : Fin 66) (i : Fin 64) (_ : True), p = pos n i :=
    ⟨⟨p.val / 64, by omega⟩, ⟨p.val % 64, by omega⟩, trivial, Fin.ext (by show p.val = 64 * (p.val / 64) + p.val % 64; omega)⟩
  obtain ⟨h, e, _, hcol⟩ : ∃ (h : Fin 4) (e : Fin 256) (_ : True), y1.val = h.val * 256 + e.val :=
    ⟨⟨y1.val / 256, by omega⟩, ⟨y1.val % 256, by omega⟩, trivial, by show y1.val = y1.val / 256 * 256 + y1.val % 256; omega⟩
  subst hp
  have hrow : y0 = row b n i := Fin.ext (by rw [hr]; show b.val * 4224 + (64 * n.val + i.val) = 4224 * b.val + 64 * n.val + i.val; omega)
  have hcol' : y1 = hv h e := Fin.ext (by rw [hcol]; show h.val * 256 + e.val = 256 * h.val + e.val; omega)
  refine (tail_at _ _ _ b (pos n i) h e y0 y1 hr hcol).trans ?_
  rw [outArr_at _ _ _ _ _ _ b n i h e y0 y1 hrow hcol']
  simp only [stack_at, it_o m c n b i h _ 66 le_rfl n.isLt]
  rw [res, hrow, hcol']

/-- The reference's final states. -/
theorem ref_st : It m c 66 (Proc.devRef .tc main_v27_6)
    = stArr (m ((c : Thread nD τ).loc main_arg1)) (m ((c : Thread nD τ).loc main_arg2)) (m ((c : Thread nD τ).loc main_arg4)) := by
  funext y
  idx_vars y
  exact it_s m c y0 y1 y2 y3 66 le_rfl

/-- From any launch the reference ends with the recurrence's gated outputs and final states, its arguments unchanged. -/
theorem ref_run (ρ : Dev nD → PrngReg) : θ_run (defs (F := Ideal)) (onTc (τ := τ) (main (F := Ideal))) ⟨m, fun _ => 0, ρ⟩ fun r => ∀ c : Dev nD,
    r.2.mem ((c.tc : Thread nD τ).loc main_v47)
        = outArr (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_v27_6)
        = stArr (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (ref_out m c), (h c).2.1.trans (ref_st m c), (h c).2.2⟩) (run m ρ)

end Cert.Gla

end
-- ==== Proof.Gla.Equation.lean ====
/- The recurrence's kernel and its reference leave the same results. -/
module

public import proofs.«01_k».proof.Defs
public import proofs.«01_k».proof.Proof.Gla.Array
public import proofs.«01_k».proof.Proof.Gla.Ref
public import Idealize.ShloMosaic.Lib.Claim

@[expose] public section

set_option maxRecDepth 16384

noncomputable section

namespace Cert.Gla

open Idealize.ShloMosaic Idealize.SL.Sem

/-- At Ideal, from equal arguments, both runs end with equal gated outputs and equal final states. -/
theorem algebraic : Cert.algebraic_KernelIdeal_ReferenceIdeal := by
  pair_intro
  · run_from Cert.KernelIdeal.Gen.run_main m g
  · run_from ref_run m' g'
    · exact (final6 m c).symm
    · exact (final7 m c).symm

end Cert.Gla

end
-- ==== Proof.Rows.Norm.lean ====
/- Layer normalisation of a row, as the layer's calls share it. -/
module

public import Idealize.ShloMosaic.Lib.Pointwise

@[expose] public section

set_option maxRecDepth 16384

noncomputable section

namespace Cert.Rows

open Idealize.ShloMosaic Idealize.ShloMosaic.TcCoe Idealize.SL.Sem

/-- Layer normalisation of one row of 1024 entries, at entry `j`, with the scale `g` and the shift `b` of that entry. -/
def lnRow (y : Fin 1024 → EReal) (g b : EReal) (j : Fin 1024) : EReal :=
  (y j - Ideal.div (∑ x, y x) (Ideal.ofBits FTy.f32 1149239296#32))
      * Ideal.rsqrt (Ideal.div
          (∑ x, (y x - Ideal.div (∑ x, y x) (Ideal.ofBits FTy.f32 1149239296#32))
              * (y x - Ideal.div (∑ x, y x) (Ideal.ofBits FTy.f32 1149239296#32)))
          (Ideal.ofBits FTy.f32 1149239296#32)
        + Ideal.ofBits FTy.f32 925353388#32)
      * g + b

/-- Two normalised entries are equal when their rows, scales, shifts and positions are. -/
theorem lnRow_congr {y y' : Fin 1024 → EReal} {g g' b b' : EReal} {j j' : Fin 1024} (hy : ∀ x, y x = y' x) (hg : g = g') (hb : b = b')
    (hj : j = j') : lnRow y g b j = lnRow y' g' b' j' := by
  obtain rfl : y = y' := funext hy
  rw [hg, hb, hj]

end Cert.Rows

end
-- ==== Proof.Ffn.Block.lean ====
/- What one grid point of the feed-forward kernel stores, at an index: the layer-normalised residual row
   `lnRow (ffnRow …)`. The kernel adds the feed-forward product up in four slabs of 1024 hidden units; here they
   are joined into the one sum over all 4096. -/
module

public import proofs.«01_k».proof.Proof.Rows.Norm
public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Ffn

open Idealize.ShloMosaic Idealize.ShloMosaic.TcCoe Idealize.SL.Sem
open Cert.Rows

/-- One hidden unit: the square of the positive part of the product of the row `h` with column `k` of `wu`. -/
def hidden (h : Fin 1024 → EReal) (wu : Fin 1024 → Fin 4096 → EReal) (k : Fin 4096) : EReal :=
  max (∑ d, h d * wu d k) 0 * max (∑ d, h d * wu d k) 0

/-- The scaled residual row plus the feed-forward of the row, at entry `j`. -/
def ffnRow (h : Fin 1024 → EReal) (wu : Fin 1024 → Fin 4096 → EReal) (wd : Fin 4096 → Fin 1024 → EReal) (j : Fin 1024) : EReal :=
  Ideal.ofBits FTy.f32 1066940400#32 * h j + ∑ k, hidden h wu k * wd k j

section
open Cert.Kernel2Ideal Cert.Kernel2Ideal.Gen

/-- The stored payload is the layer norm of the row `α h + (v30 + last slab)`. -/
theorem pay1_at (v1 : FVec Ideal S512x1024 .f32) (v2 : FVec Ideal S512x1024 .bf16) (v30 : FVec Ideal S512x1024 .f32)
    (v31 v37 : Vec Ideal S1024x1024 .bf16) (v43 v44 : Vec Ideal S1x1024 .f32) (r : Fin 512) (j : Fin 1024) :
    k0_pay1 (F := Ideal) v1 v2 v30 v31 v37 v43 v44 (ix3 0 r j)
      = lnRow (fun x => Ideal.ofBits FTy.f32 1066940400#32 * v1 (ix2 r x)
          + (v30 (ix2 r x) + ∑ k, max (∑ d, v2 (ix2 r d) * v31 (ix2 d k)) 0 * max (∑ d, v2 (ix2 r d) * v31 (ix2 d k)) 0 * v37 (ix2 k x)))
          (v43 (ix2 0 j)) (v44 (ix2 0 j)) j := by
  pointwise [k0_pay1, lnRow]

/-- The first three slabs, added in order. -/
theorem pay4_at (v0 : Vec Ideal S512x1024 .f32) (u0 d0 u1 d1 u2 d2 : Vec Ideal S1024x1024 .bf16) (r : Fin 512) (j : Fin 1024) :
    k0_pay4 (F := Ideal) v0 u0 d0 u1 d1 u2 d2 (ix2 r j)
      = (∑ k, max (∑ d, v0 (ix2 r d) * u0 (ix2 d k)) 0 * max (∑ d, v0 (ix2 r d) * u0 (ix2 d k)) 0 * d0 (ix2 k j))
        + (∑ k, max (∑ d, v0 (ix2 r d) * u1 (ix2 d k)) 0 * max (∑ d, v0 (ix2 r d) * u1 (ix2 d k)) 0 * d1 (ix2 k j))
        + (∑ k, max (∑ d, v0 (ix2 r d) * u2 (ix2 d k)) 0 * max (∑ d, v0 (ix2 r d) * u2 (ix2 d k)) 0 * d2 (ix2 k j)) := by
  pointwise [k0_pay4, k0_pay3, k0_pay2]

/-- What a point stores from its blocks: the layer norm of the feed-forward row. -/
theorem store_at (x0 : Vec Ideal S512x1024 .f32) (x1 : Vec Ideal S1024x4096 .bf16) (x2 : Vec Ideal S4096x1024 .bf16)
    (x3 x4 : Vec Ideal S1x1024 .f32) (r : Fin 512) (j : Fin 1024) :
    k0_pay1 (F := Ideal) (k0_pay2 x0) (k0_pay3 x0)
        (k0_pay4 x0 (View.ld x1 r0_1) (View.ld x2 r0_2) (View.ld x1 r0_3) (View.ld x2 r0_4) (View.ld x1 r0_5) (View.ld x2 r0_6))
        (View.ld x1 r0_7) (View.ld x2 r0_8) x3 x4 (ix3 0 r j)
      = lnRow (ffnRow (fun d => x0 (ix2 r d)) (fun d k => x1 (ix2 d k)) (fun k j => x2 (ix2 k j)))
          (x3 (ix2 0 j)) (x4 (ix2 0 j)) j := by
  rw [pay1_at]
  have hrow : ∀ x : Fin 1024, ffnRow (fun d => x0 (ix2 r d)) (fun d k => x1 (ix2 d k)) (fun k j => x2 (ix2 k j)) x
      = Ideal.ofBits FTy.f32 1066940400#32 * k0_pay2 x0 (ix2 r x)
          + (k0_pay4 x0 (View.ld x1 r0_1) (View.ld x2 r0_2) (View.ld x1 r0_3) (View.ld x2 r0_4) (View.ld x1 r0_5) (View.ld x2 r0_6) (ix2 r x)
            + ∑ k, max (∑ d, k0_pay3 x0 (ix2 r d) * View.ld x1 r0_7 (ix2 d k)) 0
                * max (∑ d, k0_pay3 x0 (ix2 r d) * View.ld x1 r0_7 (ix2 d k)) 0 * View.ld x2 r0_8 (ix2 k x)) := by
    intro x
    rw [pay4_at, ffnRow, Fin.sum_univ_tiles 4 1024 rfl, Fin.sum_univ_four]
    pointwise [hidden, k0_pay2, k0_pay3]
  simp only [← hrow]
end

end Cert.Ffn

end
-- ==== Proof.Ffn.Array.lean ====
/- The feed-forward kernel's result array after the run: at every index the layer-normalised feed-forward row of
   the token 64 positions further on in the padded input. -/
module

public import proofs.«01_k».proof.Proof.Ffn.Block
public import Idealize.ShloMosaic.Lib.Claim

@[expose] public section

set_option maxRecDepth 16384

noncomputable section

namespace Cert.Ffn

open Idealize.ShloMosaic Idealize.ShloMosaic.TcCoe Idealize.SL.Sem
open Cert.Rows
open Idealize.ShloMosaic.Pipeline (Dat)

section
open Cert.Kernel2Ideal Cert.Kernel2Ideal.Gen

/-- The result of the feed-forward call, index by index, from its argument arrays. -/
def out (h : FVec Ideal S8x4224x1024 .f32) (wu : FVec Ideal S1024x4096 .bf16) (wd : FVec Ideal S4096x1024 .bf16)
    (g b : FVec Ideal S1x1024 .f32) : FVec Ideal S8x4096x1024 .f32 := fun i =>
  lnRow (ffnRow (fun d => h (ix3 (i 0) ⟨64 + (i 1).val, Nat.lt_of_lt_of_le (Nat.add_lt_add_left (i 1).isLt 64) (by decide)⟩ d))
      (fun d k => wu (ix2 d k)) (fun k j => wd (ix2 k j)))
    (g (ix2 0 (i 2))) (b (ix2 0 (i 2))) (i 2)

variable (m : (ℓ : Loc nD τ sig) → Buf (Elt Ideal) ℓ)

/-- Where the windows stand at point `t`: batch `t / 8`, token slab `t % 8`. -/
theorem idx : ∀ t : Fin cfg0.N, win0_0.index t = ![t.val / 8 * 4224 + 64 + t.val % 8 * 512, 0] ∧ win0_1.index t = ![0, 0]
    ∧ win0_2.index t = ![0, 0] ∧ win0_3.index t = ![0, 0] ∧ win0_4.index t = ![0, 0]
    ∧ win0_5.index t = ![t.val / 8, t.val % 8, 0] ∧ t.val / 8 < 8 :=
  (by decide +kernel : ∀ t : Fin grid0.N, _)

/-- Window 0 is placed by element offsets: an index of its block sits at the offset plus the index. -/
theorem emb0 (t : Fin cfg0.N) (x : S512x1024.Idx) (a : Fin 2) :
    ((((View.whole main_v0).slice (win0_0.rect t)).emb x a : Fin _) : ℕ) = win0_0.index t a + (x a : ℕ) :=
  ValueKit.view_emb_slice_whole_unit_val main_v0 _ _ _ x a

/-- The result array after the run. -/
theorem final (c : Dev nD) : (dats m 0 c).arrAt 5 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  frame_out
  idx_vars y
  obtain rfl : y0 = 0 := Subsingleton.elim _ _
  refine (store_at (iblk m c 0 t) (iblk m c 1 t) (iblk m c 2 t) (iblk m c 3 t) (iblk m c 4 t) y1 y2).trans ?_
  simp only [out]
  have e0 := emb0 t
  have h0 := (idx t).1
  have hlt := (idx t).2.2.2.2.2.2
  blk_point [iblk, V, idx t] <;> rw [e0, h0] <;> simp <;> omega

end

end Cert.Ffn

end
-- ==== Proof.Ffn.Ref.lean ====
/- The feed-forward reference's result at an index: the same layer-normalised feed-forward row. -/
module

public import proofs.«01_k».proof.Proof.Ffn.Array
public import proofs.«01_k».proof.Proof.Gen.Reference2Ideal.Read

@[expose] public section

set_option maxRecDepth 16384

noncomputable section

namespace Cert.Ffn

open Idealize.ShloMosaic Idealize.ShloMosaic.TcCoe Idealize.SL.Sem
open Cert.Rows

section
open Cert.Reference2Ideal.Read Cert.Reference2Ideal

/-- The row before normalisation. -/
theorem ref_row (x0 : FVec Ideal S8x4224x1024 .f32) (x1 : FVec Ideal S1024x4096 .bf16) (x2 : FVec Ideal S4096x1024 .bf16)
    (b : Fin 8) (r : Fin 4096) (j : Fin 1024) :
    val_main_v9 (F := Ideal) x0 x1 x2 (ix3 b r j)
      = ffnRow (fun d => x0 (ix3 b ⟨64 + r.val, by omega⟩ d)) (fun d k => x1 (ix2 d k)) (fun k j => x2 (ix2 k j)) j := by
  pointwise [val_main_v9, val_main_v8, val_main_v7, val_main_cst, val_main_v6, val_main_v5, val_main_v4, val_main_v3, val_main_call0_v0, val_main_call0_cst,
    val_main_v2, val_main_v1, val_main_v0, ffnRow, hidden]

/-- The normalised row. -/
theorem ref_at (x0 : FVec Ideal S8x4224x1024 .f32) (x1 : FVec Ideal S1024x4096 .bf16) (x2 : FVec Ideal S4096x1024 .bf16)
    (x3 x4 : FVec Ideal S1x1024 .f32) (b : Fin 8) (r : Fin 4096) (j : Fin 1024) :
    val_main_v35 (F := Ideal) x0 x1 x2 x3 x4 (ix3 b r j)
      = lnRow (fun j => val_main_v9 (F := Ideal) x0 x1 x2 (ix3 b r j)) (x3 (ix2 0 j)) (x4 (ix2 0 j)) j := by
  pointwise [val_main_v35, val_main_v34, val_main_v33, val_main_v32, val_main_v31, val_main_v30, val_main_v29, val_main_v28, val_main_v27, val_main_v26,
    val_main_v25, val_main_v24, val_main_v23, val_main_cst_4, val_main_v22, val_main_v21, val_main_v20, val_main_v19, val_main_cst_3, val_main_v18,
    val_main_v17, val_main_cst_2, val_main_v16, val_main_v15, val_main_v14, val_main_v13, val_main_v12, val_main_cst_1, val_main_v11, val_main_v10,
    val_main_cst_0, lnRow]

/-- The reference's result is `out`. -/
theorem ref_eq (x0 : FVec Ideal S8x4224x1024 .f32) (x1 : FVec Ideal S1024x4096 .bf16) (x2 : FVec Ideal S4096x1024 .bf16)
    (x3 x4 : FVec Ideal S1x1024 .f32) : val_main_v35 (F := Ideal) x0 x1 x2 x3 x4 = out x0 x1 x2 x3 x4 := by
  funext i
  idx_vars i
  rw [ref_at]
  simp only [ref_row]
  rfl

end

end Cert.Ffn

end
-- ==== Proof.Ffn.Equation.lean ====
/- The feed-forward kernel and its reference leave the same result. -/
module

public import proofs.«01_k».proof.Defs
public import proofs.«01_k».proof.Proof.Ffn.Array
public import proofs.«01_k».proof.Proof.Ffn.Ref
public import Idealize.ShloMosaic.Lib.Claim

@[expose] public section

set_option maxRecDepth 16384

noncomputable section

namespace Cert.Ffn

open Idealize.ShloMosaic Idealize.SL.Sem

/-- At Ideal, from equal arguments, both runs end and their result arrays are equal. -/
theorem algebraic : Cert.algebraic_Kernel2Ideal_Reference2Ideal := by
  pair_intro
  · run_from Cert.Kernel2Ideal.Gen.run_main m g
  · run_from Cert.Reference2Ideal.Value.run m' g'
    obtain ⟨h0, h1, h2, h3, h4⟩ := hagree c
    rw [Cert.Reference2Ideal.Read.val_main_v35_eq, h0, h1, h2, h3, h4, ref_eq]
    exact (final m c).symm

end Cert.Ffn

end
-- ==== Proof.Merge.Block.lean ====
/- What one grid point of the merge kernel stores, at an index: the layer norm of the scaled, normalised input row plus
   the output projection of the two gated branches. -/
module

public import proofs.«01_k».proof.Proof.Rows.Norm
public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Merge

open Idealize.ShloMosaic Idealize.ShloMosaic.TcCoe Idealize.SL.Sem
open Cert.Rows

/-- The two branches of a row, each projected, gated and added up, at entry `k`: the first 1024 gates are the attention
    branch's, the others the recurrence's. -/
def branches (a r : Fin 1024 → EReal) (gate : Fin 2048 → EReal) (wa wr : Fin 1024 → Fin 1024 → EReal) (k : Fin 1024) : EReal :=
  gate ⟨k.val, by omega⟩ * (∑ d, a d * wa d k) + gate ⟨1024 + k.val, by omega⟩ * ∑ d, r d * wr d k

/-- The row before the last normalisation, at entry `j`. -/
def mixRow (x : Fin 1024 → EReal) (g b : Fin 1024 → EReal) (br : Fin 1024 → EReal) (wo : Fin 1024 → Fin 1024 → EReal) (j : Fin 1024) : EReal :=
  Ideal.ofBits FTy.f32 1066940400#32 * lnRow x (g j) (b j) j + ∑ k, br k * wo k j

section
open Cert.Kernel3Ideal Cert.Kernel3Ideal.Gen

/-- The normalised input row. -/
theorem norm_at (x : Vec Ideal S512x1024 .f32) (g b : Vec Ideal S1x1024 .f32) (r : Fin 512) (j : Fin 1024) :
    k0_pay2 (F := Ideal) x g b (ix2 r j) = lnRow (fun d => x (ix2 r d)) (g (ix2 0 j)) (b (ix2 0 j)) j := by
  pointwise [k0_pay2, lnRow]

/-- The gated branches. -/
theorem branches_at (a : Vec Ideal S512x1024 .bf16) (wa : Vec Ideal S1024x1024 .bf16) (g : Vec Ideal S512x1024 .bf16) (wg : Vec Ideal S1024x1024 .bf16)
    (gt : Vec Ideal S512x2048 .bf16) (r : Fin 512) (k : Fin 1024) :
    k0_pay3 (F := Ideal) a wa g wg gt (ix2 r k)
      = branches (fun d => a (ix2 r d)) (fun d => g (ix2 r d)) (fun e => gt (ix2 r e)) (fun d k => wa (ix2 d k)) (fun d k => wg (ix2 d k)) k := by
  pointwise [k0_pay3, branches]

/-- What a point stores. -/
theorem store_at (h b : FVec Ideal S512x1024 .f32) (wo : Vec Ideal S1024x1024 .bf16) (g1 b1 : Vec Ideal S1x1024 .f32) (r : Fin 512) (j : Fin 1024) :
    k0_pay1 (F := Ideal) h b wo g1 b1 (ix2 r j)
      = lnRow (fun x => Ideal.ofBits FTy.f32 1066940400#32 * h (ix2 r x) + ∑ k, b (ix2 r k) * wo (ix2 k x)) (g1 (ix2 0 j)) (b1 (ix2 0 j)) j := by
  pointwise [k0_pay1, lnRow]

end

end Cert.Merge

end
-- ==== Proof.Merge.Array.lean ====
/- The merge kernel's result array after the run. -/
module

public import proofs.«01_k».proof.Proof.Merge.Block
public import Idealize.ShloMosaic.Lib.Claim

@[expose] public section

set_option maxRecDepth 16384

noncomputable section

namespace Cert.Merge

open Idealize.ShloMosaic Idealize.ShloMosaic.TcCoe Idealize.SL.Sem
open Cert.Rows
open Idealize.ShloMosaic.Pipeline (Dat)

section
open Cert.Kernel3Ideal Cert.Kernel3Ideal.Gen

/-- The result of the merge call, index by index, from its argument arrays. -/
def out (x : FVec Ideal S33792x1024 .f32) (a r : FVec Ideal S33792x1024 .bf16) (gt : FVec Ideal S33792x2048 .bf16) (g b : FVec Ideal S1x1024 .f32)
    (wa wr wo : FVec Ideal S1024x1024 .bf16) (g1 b1 : FVec Ideal S1x1024 .f32) : FVec Ideal S33792x1024 .f32 := fun i =>
  lnRow (mixRow (fun d => x (ix2 (i 0) d)) (fun j => g (ix2 0 j)) (fun j => b (ix2 0 j))
      (branches (fun d => a (ix2 (i 0) d)) (fun d => r (ix2 (i 0) d)) (fun e => gt (ix2 (i 0) e)) (fun d k => wa (ix2 d k)) (fun d k => wr (ix2 d k)))
      (fun k j => wo (ix2 k j)))
    (g1 (ix2 0 (i 1))) (b1 (ix2 0 (i 1))) (i 1)

variable (m : (ℓ : Loc nD τ sig) → Buf (Elt Ideal) ℓ)

/-- Where the windows stand at point `t`: rows from `512 t` on, and whole weights. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0] :=
  (by decide +kernel : ∀ t : Fin grid0.N, _)

/-- The result array after the run. -/
theorem final (c : Dev nD) : (dats m 0 c).arrAt 11 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 11 _ (by decide +kernel) fun t _ y => ?_
  blk_simp
  rw [after0_11]
  frame_out
  idx_vars y
  refine (store_at _ _ (iblk m c 8 t) (iblk m c 9 t) (iblk m c 10 t) y0 y1).trans ?_
  refine lnRow_congr (fun x => ?_) ?_ ?_ ?_
  · refine (congrArg₂ (· + ·) (congrArg _ (norm_at (iblk m c 0 t) (iblk m c 4 t) (iblk m c 5 t) y0 x)) (Finset.sum_congr rfl fun k _ =>
      congrArg (· * _) (branches_at (iblk m c 1 t) (iblk m c 6 t) (iblk m c 2 t) (iblk m c 7 t) (iblk m c 3 t) y0 k))).trans ?_
    refine congrArg₂ (· + ·) (congrArg _ (lnRow_congr (fun d => ?_) ?_ ?_ rfl)) (Finset.sum_congr rfl fun k _ => congrArg₂ (· * ·) ?_ ?_)
    · blk_point [iblk, V, idx t]
    · blk_point [iblk, V, idx t]
    · blk_point [iblk, V, idx t]
    · simp only [branches]
      blk_point [iblk, V, idx t]
    · blk_point [iblk, V, idx t]
  · blk_point [iblk, V, idx t]
  · blk_point [iblk, V, idx t]
  · refine Fin.ext ?_
    blk_simp [idx t]

end

end Cert.Merge

end
-- ==== Proof.Merge.Ref.lean ====
/- The merge reference's result at an index: the same normalised row. -/
module

public import proofs.«01_k».proof.Proof.Merge.Array
public import proofs.«01_k».proof.Proof.Gen.Reference3Ideal.Read

@[expose] public section

set_option maxRecDepth 16384

noncomputable section

namespace Cert.Merge

open Idealize.ShloMosaic Idealize.ShloMosaic.TcCoe Idealize.SL.Sem
open Cert.Rows

section
open Cert.Reference3Ideal.Read Cert.Reference3Ideal

/-- The normalised input row. -/
theorem ref_norm (x0 : FVec Ideal S33792x1024 .f32) (x4 x5 : FVec Ideal S1x1024 .f32) (r : Fin 33792) (j : Fin 1024) :
    val_main_v40 (F := Ideal) x0 x4 x5 (ix2 r j) = lnRow (fun d => x0 (ix2 r d)) (x4 (ix2 0 j)) (x5 (ix2 0 j)) j := by
  pointwise [val_main_v40, val_main_v39, val_main_v38, val_main_v37, val_main_v36, val_main_v35, val_main_v34, val_main_v33, val_main_v32, val_main_v31,
    val_main_v30, val_main_v29, val_main_v28, val_main_cst_3, val_main_v27, val_main_v26, val_main_v25, val_main_v24, val_main_cst_2, val_main_v23,
    val_main_v22, val_main_cst_1, val_main_v21, val_main_v20, val_main_v19, val_main_v18, val_main_v17, val_main_cst_0, val_main_v16, val_main_v15,
    val_main_cst, lnRow]

/-- The gated branches. -/
theorem ref_branches (x1 x2 : FVec Ideal S33792x1024 .bf16) (x3 : FVec Ideal S33792x2048 .bf16) (x6 x7 : FVec Ideal S1024x1024 .bf16) (r : Fin 33792) (k : Fin 1024) :
    val_main_v14 (F := Ideal) x1 x2 x3 x6 x7 (ix2 r k)
      = branches (fun d => x1 (ix2 r d)) (fun d => x2 (ix2 r d)) (fun e => x3 (ix2 r e)) (fun d k => x6 (ix2 d k)) (fun d k => x7 (ix2 d k)) k := by
  pointwise [val_main_v14, val_main_v13, val_main_v12, val_main_v11, val_main_v10, val_main_v9, val_main_v8, val_main_v7, val_main_v6, val_main_v5, val_main_v4,
    val_main_v3, val_main_v2, val_main_v1, val_main_v0, branches]

/-- The row before the last normalisation. -/
theorem ref_row (x0 : FVec Ideal S33792x1024 .f32) (x1 x2 : FVec Ideal S33792x1024 .bf16) (x3 : FVec Ideal S33792x2048 .bf16) (x4 x5 : FVec Ideal S1x1024 .f32)
    (x6 x7 x8 : FVec Ideal S1024x1024 .bf16) (r : Fin 33792) (j : Fin 1024) :
    val_main_v45 (F := Ideal) x0 x1 x2 x3 x4 x5 x6 x7 x8 (ix2 r j)
      = mixRow (fun d => x0 (ix2 r d)) (fun j => x4 (ix2 0 j)) (fun j => x5 (ix2 0 j))
          (branches (fun d => x1 (ix2 r d)) (fun d => x2 (ix2 r d)) (fun e => x3 (ix2 r e)) (fun d k => x6 (ix2 d k)) (fun d k => x7 (ix2 d k)))
          (fun k j => x8 (ix2 k j)) j := by
  rw [mixRow, ← ref_norm]
  simp only [← ref_branches]
  pointwise [val_main_v45, val_main_v44, val_main_v43, val_main_v42, val_main_v41, val_main_cst_4]

/-- The reference's result at an index. -/
theorem ref_at (x0 : FVec Ideal S33792x1024 .f32) (x1 x2 : FVec Ideal S33792x1024 .bf16) (x3 : FVec Ideal S33792x2048 .bf16) (x4 x5 : FVec Ideal S1x1024 .f32)
    (x6 x7 x8 : FVec Ideal S1024x1024 .bf16) (x9 x10 : FVec Ideal S1x1024 .f32) (r : Fin 33792) (j : Fin 1024) :
    val_main_v71 (F := Ideal) x0 x1 x2 x3 x4 x5 x6 x7 x8 x9 x10 (ix2 r j)
      = lnRow (fun j => val_main_v45 (F := Ideal) x0 x1 x2 x3 x4 x5 x6 x7 x8 (ix2 r j)) (x9 (ix2 0 j)) (x10 (ix2 0 j)) j := by
  pointwise [val_main_v71, val_main_v70, val_main_v69, val_main_v68, val_main_v67, val_main_v66, val_main_v65, val_main_v64, val_main_v63, val_main_v62,
    val_main_v61, val_main_v60, val_main_v59, val_main_cst_9, val_main_v58, val_main_v57, val_main_v56, val_main_v55, val_main_cst_8, val_main_v54,
    val_main_v53, val_main_cst_7, val_main_v52, val_main_v51, val_main_v50, val_main_v49, val_main_v48, val_main_cst_6, val_main_v47, val_main_v46,
    val_main_cst_5, lnRow]

/-- The reference's result is `out`. -/
theorem ref_eq (x0 : FVec Ideal S33792x1024 .f32) (x1 x2 : FVec Ideal S33792x1024 .bf16) (x3 : FVec Ideal S33792x2048 .bf16) (x4 x5 : FVec Ideal S1x1024 .f32)
    (x6 x7 x8 : FVec Ideal S1024x1024 .bf16) (x9 x10 : FVec Ideal S1x1024 .f32) :
    val_main_v71 (F := Ideal) x0 x1 x2 x3 x4 x5 x6 x7 x8 x9 x10 = out x0 x1 x2 x3 x4 x5 x6 x7 x8 x9 x10 := by
  funext i
  idx_vars i
  rw [ref_at]
  simp only [ref_row]
  rfl

end

end Cert.Merge

end
-- ==== Proof.Merge.Equation.lean ====
/- The merge kernel and its reference leave the same result. -/
module

public import proofs.«01_k».proof.Defs
public import proofs.«01_k».proof.Proof.Merge.Array
public import proofs.«01_k».proof.Proof.Merge.Ref
public import Idealize.ShloMosaic.Lib.Claim

@[expose] public section

set_option maxRecDepth 16384

noncomputable section

namespace Cert.Merge

open Idealize.ShloMosaic Idealize.ShloMosaic.TcCoe Idealize.SL.Sem

set_option maxHeartbeats 1000000 in
/-- At Ideal, from equal arguments, both runs end and their result arrays are equal. -/
theorem algebraic : Cert.algebraic_Kernel3Ideal_Reference3Ideal := by
  pair_intro
  · run_from Cert.Kernel3Ideal.Gen.run_main m g
  · run_from Cert.Reference3Ideal.Value.run m' g'
    obtain ⟨h0, h1, h2, h3, h4, h5, h6, h7, h8, h9, h10⟩ := hagree c
    rw [Cert.Reference3Ideal.Read.val_main_v71_eq, ref_eq, h0, h1, h2, h3, h4, h5, h6, h7, h8, h9, h10]
    exact (final m c).symm

end Cert.Merge

end
-- ==== Proof.Rows.Proj.lean ====
/- Rows projected after normalisation, and the two activations that the projections pass through. -/
module

public import proofs.«01_k».proof.Proof.Rows.Norm

@[expose] public section

set_option maxRecDepth 16384

noncomputable section

namespace Cert.Rows

open Idealize.ShloMosaic Idealize.ShloMosaic.TcCoe Idealize.SL.Sem

/-- One projected entry of a row: the normalised row against one column of weights. -/
def proj (x g b w : Fin 1024 → EReal) : EReal := ∑ d, lnRow x (g d) (b d) d * w d

/-- Two projected entries are equal when their rows, scales, shifts and weights are. -/
theorem proj_congr {x x' g g' b b' w w' : Fin 1024 → EReal} (hx : ∀ d, x d = x' d) (hg : ∀ d, g d = g' d) (hb : ∀ d, b d = b' d)
    (hw : ∀ d, w d = w' d) : proj x g b w = proj x' g' b' w' := by
  obtain rfl : x = x' := funext hx
  obtain rfl : g = g' := funext hg
  obtain rfl : b = b' := funext hb
  obtain rfl : w = w' := funext hw
  rfl

/-- The logarithm of the logistic function, as the smaller of the argument and zero less the logarithm of one plus the
    exponential of the negated magnitude. -/
def logSig (z : EReal) : EReal := min z 0 - Ideal.log1p (Ideal.exp (0 - max z (-z)))

/-- The logarithm of one plus an exponential is not the least value. -/
theorem log1p_exp_ne_bot (y : EReal) : Ideal.log1p (Ideal.exp y) ≠ ⊥ := by
  induction y using EReal.rec with
  | bot =>
    show Ideal.log (1 + 0) ≠ ⊥
    rw [add_zero]
    show (if (1 : ℝ) ≤ 0 then (⊥ : EReal) else (Real.log 1 : EReal)) ≠ ⊥
    rw [if_neg (by norm_num)]
    exact EReal.coe_ne_bot _
  | top =>
    show Ideal.log (1 + ⊤) ≠ ⊥
    rw [EReal.add_top_of_ne_bot (show (1 : EReal) ≠ ⊥ from EReal.coe_ne_bot 1)]
    exact top_ne_bot
  | coe r =>
    show Ideal.log (1 + (Real.exp r : EReal)) ≠ ⊥
    rw [← EReal.coe_one, ← EReal.coe_add]
    show (if 1 + Real.exp r ≤ 0 then (⊥ : EReal) else (Real.log (1 + Real.exp r) : EReal)) ≠ ⊥
    rw [if_neg (by have := Real.exp_pos r; linarith)]
    exact EReal.coe_ne_bot _

/-- The logistic's logarithm is also the negated soft maximum of the negated argument and zero. -/
theorem neg_softplus (z : EReal) :
    -(max (-z) 0 + Ideal.log1p (Ideal.exp (-max (-z - 0) (-(-z - 0))))) = logSig z := by
  have hmin : -max (-z) 0 = min z 0 := by
    rcases le_total z 0 with h | h
    · rw [max_eq_left (EReal.neg_nonneg.mpr h), min_eq_left h, neg_neg]
    · rw [max_eq_right (EReal.neg_le_of_neg_le (by simpa using h)), min_eq_right h, neg_zero]
  rw [EReal.neg_add (Or.inl (ne_of_gt (lt_of_lt_of_le (EReal.bot_lt_zero) (le_max_right _ _)))) (Or.inr (log1p_exp_ne_bot _)), hmin, logSig]
  simp only [sub_zero, neg_neg, zero_sub, max_comm z (-z)]

end Cert.Rows

end
-- ==== Proof.ProjGla.Block.lean ====
/- The recurrence projections: what one grid point stores, entry by entry. -/
module

public import proofs.«01_k».proof.Proof.Rows.Proj
public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.ProjGla

open Idealize.ShloMosaic Idealize.ShloMosaic.TcCoe Idealize.SL.Sem
open Cert.Rows

section
open Cert.Kernel4Ideal Cert.Kernel4Ideal.Gen

/-- One log decay from its low-rank projection and its bias: the logistic's logarithm over the temperature. -/
def decay (z ba : EReal) : EReal := Ideal.div (logSig (z + ba)) (Ideal.ofBits FTy.f32 1098907648#32)

/-- The normalised input row. -/
theorem norm_at (x : Vec Ideal S512x1024 .f32) (g b : Vec Ideal S1x1024 .f32) (r : Fin 512) (j : Fin 1024) :
    k0_pay3 (F := Ideal) x g b (ix2 r j) = lnRow (fun d => x (ix2 r d)) (g (ix2 0 j)) (b (ix2 0 j)) j := by
  pointwise [k0_pay3, lnRow]

/-- The wide projection's entries. -/
theorem wide_at (x : Vec Ideal S512x1024 .f32) (g b : Vec Ideal S1x1024 .f32) (w : Vec Ideal S1024x3072 .bf16) (r : Fin 512) (j : Fin 3072) :
    k0_pay4 (F := Ideal) x g b w (ix2 r j)
      = proj (fun d => x (ix2 r d)) (fun d => g (ix2 0 d)) (fun d => b (ix2 0 d)) (fun d => w (ix2 d j)) := by
  unfold proj
  simp only [← norm_at]
  pointwise [k0_pay4]

/-- The queries. -/
theorem q_at (x : Vec Ideal S512x1024 .f32) (g b : Vec Ideal S1x1024 .f32) (w : Vec Ideal S1024x3072 .bf16) (r : Fin 512) (j : Fin 512) :
    k0_pay5 (F := Ideal) x g b w (ix2 r j) = k0_pay4 (F := Ideal) x g b w (ix2 r ⟨j.val, by omega⟩) := by
  pointwise [k0_pay5]

/-- The keys. -/
theorem k_at (x : Vec Ideal S512x1024 .f32) (g b : Vec Ideal S1x1024 .f32) (w : Vec Ideal S1024x3072 .bf16) (r : Fin 512) (j : Fin 512) :
    k0_pay6 (F := Ideal) x g b w (ix2 r j) = k0_pay4 (F := Ideal) x g b w (ix2 r ⟨512 + j.val, by omega⟩) := by
  pointwise [k0_pay6]

/-- The values. -/
theorem v_at (x : Vec Ideal S512x1024 .f32) (g b : Vec Ideal S1x1024 .f32) (w : Vec Ideal S1024x3072 .bf16) (r : Fin 512) (j : Fin 1024) :
    k0_pay7 (F := Ideal) x g b w (ix2 r j) = k0_pay4 (F := Ideal) x g b w (ix2 r ⟨1024 + j.val, by omega⟩) := by
  pointwise [k0_pay7]

/-- The output gates before their activation. -/
theorem og_at (x : Vec Ideal S512x1024 .f32) (g b : Vec Ideal S1x1024 .f32) (w : Vec Ideal S1024x3072 .bf16) (r : Fin 512) (j : Fin 1024) :
    k0_pay8 (F := Ideal) x g b w (ix2 r j) = k0_pay4 (F := Ideal) x g b w (ix2 r ⟨2048 + j.val, by omega⟩) := by
  pointwise [k0_pay8]

/-- The log decays, from the normalised rows. -/
theorem la_at (h : FVec Ideal S512x1024 .bf16) (a1 : Vec Ideal S1024x128 .bf16) (a2 : Vec Ideal S128x512 .bf16) (ba : Vec Ideal S1x512 .f32)
    (r : Fin 512) (j : Fin 512) :
    k0_pay1 (F := Ideal) h a1 a2 ba (ix2 r j)
      = decay (∑ k, (∑ d, h (ix2 r d) * a1 (ix2 d k)) * a2 (ix2 k j)) (ba (ix2 0 j)) := by
  pointwise [k0_pay1, logSig, decay]
  rfl

/-- The branch gates, from the normalised rows. -/
theorem gate_at (h : FVec Ideal S512x1024 .bf16) (gt : Vec Ideal S1024x2048 .bf16) (r : Fin 512) (j : Fin 2048) :
    k0_pay2 (F := Ideal) h gt (ix2 r j) = Ideal.logistic (∑ d, h (ix2 r d) * gt (ix2 d j)) := by
  pointwise [k0_pay2]

/-- The log decays, from the input rows. -/
theorem decay_at (x : Vec Ideal S512x1024 .f32) (g b : Vec Ideal S1x1024 .f32) (a1 : Vec Ideal S1024x128 .bf16) (a2 : Vec Ideal S128x512 .bf16)
    (ba : Vec Ideal S1x512 .f32) (r : Fin 512) (j : Fin 512) :
    k0_pay1 (F := Ideal) (k0_pay3 (F := Ideal) x g b) a1 a2 ba (ix2 r j)
      = decay (∑ k, proj (fun d => x (ix2 r d)) (fun d => g (ix2 0 d)) (fun d => b (ix2 0 d)) (fun d => a1 (ix2 d k)) * a2 (ix2 k j)) (ba (ix2 0 j)) := by
  rw [la_at]
  simp only [norm_at]
  rfl

/-- The branch gates, from the input rows. -/
theorem gates_at (x : Vec Ideal S512x1024 .f32) (g b : Vec Ideal S1x1024 .f32) (gt : Vec Ideal S1024x2048 .bf16) (r : Fin 512) (j : Fin 2048) :
    k0_pay2 (F := Ideal) (k0_pay3 (F := Ideal) x g b) gt (ix2 r j)
      = Ideal.logistic (proj (fun d => x (ix2 r d)) (fun d => g (ix2 0 d)) (fun d => b (ix2 0 d)) (fun d => gt (ix2 d j))) := by
  rw [gate_at]
  simp only [norm_at]
  rfl

end

end Cert.ProjGla

end
-- ==== Proof.ProjGla.Array.lean ====
/- The six arrays that the recurrence projections leave. -/
module

public import proofs.«01_k».proof.Proof.ProjGla.Block
public import Idealize.ShloMosaic.Lib.Claim

@[expose] public section

set_option maxRecDepth 16384

noncomputable section

namespace Cert.ProjGla

open Idealize.ShloMosaic Idealize.ShloMosaic.TcCoe Idealize.SL.Sem
open Cert.Rows
open Idealize.ShloMosaic.Pipeline (Dat)

section
open Cert.Kernel4Ideal Cert.Kernel4Ideal.Gen

/-- A projected entry of row `r` of the stream. -/
def rowProj (x : FVec Ideal S33792x1024 .f32) (g b : FVec Ideal S1x1024 .f32) (r : Fin 33792) (w : Fin 1024 → EReal) : EReal :=
  proj (fun d => x (ix2 r d)) (fun d => g (ix2 0 d)) (fun d => b (ix2 0 d)) w

/-- The queries: the first 512 columns of the wide projection. -/
def outQ (x : FVec Ideal S33792x1024 .f32) (g b : FVec Ideal S1x1024 .f32) (w : FVec Ideal S1024x3072 .bf16) : FVec Ideal S33792x512 .f32 := fun i =>
  rowProj x g b (i 0) fun d => w (ix2 d ⟨(i 1).val, Nat.lt_trans (i 1).isLt (by decide)⟩)

/-- The keys: the next 512 columns. -/
def outK (x : FVec Ideal S33792x1024 .f32) (g b : FVec Ideal S1x1024 .f32) (w : FVec Ideal S1024x3072 .bf16) : FVec Ideal S33792x512 .f32 := fun i =>
  rowProj x g b (i 0) fun d => w (ix2 d ⟨512 + (i 1).val, Nat.lt_of_lt_of_le (Nat.add_lt_add_left (i 1).isLt 512) (by decide)⟩)

/-- The values: 1024 columns from column 1024 on. -/
def outV (x : FVec Ideal S33792x1024 .f32) (g b : FVec Ideal S1x1024 .f32) (w : FVec Ideal S1024x3072 .bf16) : FVec Ideal S33792x1024 .bf16 := fun i =>
  rowProj x g b (i 0) fun d => w (ix2 d ⟨1024 + (i 1).val, Nat.lt_of_lt_of_le (Nat.add_lt_add_left (i 1).isLt 1024) (by decide)⟩)

/-- The output gates before their activation: the last 1024 columns. -/
def outO (x : FVec Ideal S33792x1024 .f32) (g b : FVec Ideal S1x1024 .f32) (w : FVec Ideal S1024x3072 .bf16) : FVec Ideal S33792x1024 .f32 := fun i =>
  rowProj x g b (i 0) fun d => w (ix2 d ⟨2048 + (i 1).val, Nat.lt_of_lt_of_le (Nat.add_lt_add_left (i 1).isLt 2048) (by decide)⟩)

/-- The log decays. -/
def outL (x : FVec Ideal S33792x1024 .f32) (g b : FVec Ideal S1x1024 .f32) (a1 : FVec Ideal S1024x128 .bf16) (a2 : FVec Ideal S128x512 .bf16)
    (ba : FVec Ideal S1x512 .f32) : FVec Ideal S33792x512 .f32 := fun i =>
  decay (∑ k, rowProj x g b (i 0) (fun d => a1 (ix2 d k)) * a2 (ix2 k (i 1))) (ba (ix2 0 (i 1)))

/-- The branch gates. -/
def outG (x : FVec Ideal S33792x1024 .f32) (g b : FVec Ideal S1x1024 .f32) (gt : FVec Ideal S1024x2048 .bf16) : FVec Ideal S33792x2048 .bf16 := fun i =>
  Ideal.logistic (rowProj x g b (i 0) fun d => gt (ix2 d (i 1)))

variable (m : (ℓ : Loc nD τ sig) → Buf (Elt Ideal) ℓ)

/-- Where the windows stand at point `t`: rows from `512 t` on, and whole weights. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val, 0]
    ∧ win0_9.index t = ![t.val, 0] ∧ win0_10.index t = ![t.val, 0] ∧ win0_11.index t = ![t.val, 0] ∧ win0_12.index t = ![t.val, 0]
    ∧ win0_13.index t = ![t.val, 0] :=
  (by decide +kernel : ∀ t : Fin grid0.N, _)

/-- A projected entry of a row of point `t`'s block is that of the stream's row. -/
theorem proj_blk (c : Dev nD) (t : Fin cfg0.N) (y : Fin 512) (r : Fin 33792) (hr : r.val = t.val * 512 + y.val) (w w' : Fin 1024 → EReal)
    (hw : ∀ d, w d = w' d) :
    proj (fun d => (iblk m c 0 t : FVec Ideal S512x1024 .f32) (ix2 y d)) (fun d => (iblk m c 1 t : FVec Ideal S1x1024 .f32) (ix2 0 d))
        (fun d => (iblk m c 2 t : FVec Ideal S1x1024 .f32) (ix2 0 d)) w
      = rowProj (m ((c : Thread nD τ).loc main_arg0)) (m ((c : Thread nD τ).loc main_arg1)) (m ((c : Thread nD τ).loc main_arg2)) r w' := by
  refine proj_congr (fun d => ?_) (fun d => ?_) (fun d => ?_) hw
  · blk_point [iblk, V, idx t]
  · blk_point [iblk, V, idx t]
  · blk_point [iblk, V, idx t]

/-- The queries after the run. -/
theorem final8 (c : Dev nD) : (dats m 0 c).arrAt 8 (cfgs 0).N = outQ (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  frame_out
  idx_vars y
  refine (q_at (iblk m c 0 t) (iblk m c 1 t) (iblk m c 2 t) (iblk m c 3 t) y0 y1).trans
    ((wide_at (iblk m c 0 t) (iblk m c 1 t) (iblk m c 2 t) (iblk m c 3 t) y0 _).trans (proj_blk m c t y0 _ ?_ _ _ fun d => ?_))
  · blk_simp [idx t]
  · blk_point [iblk, V, idx t]

/-- The keys after the run. -/
theorem final9 (c : Dev nD) : (dats m 0 c).arrAt 9 (cfgs 0).N = outK (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  frame_out
  idx_vars y
  refine (k_at (iblk m c 0 t) (iblk m c 1 t) (iblk m c 2 t) (iblk m c 3 t) y0 y1).trans
    ((wide_at (iblk m c 0 t) (iblk m c 1 t) (iblk m c 2 t) (iblk m c 3 t) y0 _).trans (proj_blk m c t y0 _ ?_ _ _ fun d => ?_))
  · blk_simp [idx t]
  · blk_point [iblk, V, idx t]

/-- The values after the run. -/
theorem final10 (c : Dev nD) : (dats m 0 c).arrAt 10 (cfgs 0).N = outV (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  frame_out
  idx_vars y
  refine (v_at (iblk m c 0 t) (iblk m c 1 t) (iblk m c 2 t) (iblk m c 3 t) y0 y1).trans
    ((wide_at (iblk m c 0 t) (iblk m c 1 t) (iblk m c 2 t) (iblk m c 3 t) y0 _).trans (proj_blk m c t y0 _ ?_ _ _ fun d => ?_))
  · blk_simp [idx t]
  · blk_point [iblk, V, idx t]

/-- The output gates after the run. -/
theorem final11 (c : Dev nD) : (dats m 0 c).arrAt 11 (cfgs 0).N = outO (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t _ y => ?_
  blk_simp
  rw [after0_11]
  frame_out
  idx_vars y
  refine (og_at (iblk m c 0 t) (iblk m c 1 t) (iblk m c 2 t) (iblk m c 3 t) y0 y1).trans
    ((wide_at (iblk m c 0 t) (iblk m c 1 t) (iblk m c 2 t) (iblk m c 3 t) y0 _).trans (proj_blk m c t y0 _ ?_ _ _ fun d => ?_))
  · blk_simp [idx t]
  · blk_point [iblk, V, idx t]

/-- The log decays after the run. -/
theorem final12 (c : Dev nD) : (dats m 0 c).arrAt 12 (cfgs 0).N = outL (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 12 _ (by decide +kernel) fun t _ y => ?_
  blk_simp
  rw [after0_12]
  frame_out [k0_pay9]
  idx_vars y
  refine (decay_at (iblk m c 0 t) (iblk m c 1 t) (iblk m c 2 t) (iblk m c 4 t) (iblk m c 5 t) (iblk m c 6 t) y0 y1).trans ?_
  refine congrArg₂ decay (Finset.sum_congr rfl fun k _ => congrArg₂ (· * ·) (proj_blk m c t y0 _ ?_ _ _ fun d => ?_) ?_) ?_
  · blk_simp [idx t]
  · blk_point [iblk, V, idx t]
  · blk_point [iblk, V, idx t]
  · blk_point [iblk, V, idx t]

/-- The branch gates after the run. -/
theorem final13 (c : Dev nD) : (dats m 0 c).arrAt 13 (cfgs 0).N = outG (m ((c : Thread nD τ).loc main_arg0)) (m ((c : Thread nD τ).loc main_arg1)) (m ((c : Thread nD τ).loc main_arg2)) (m ((c : Thread nD τ).loc main_arg7)) := by
  refine (dats m 0 c).arrAt_eq_of_covers 13 _ (by decide +kernel) fun t _ y => ?_
  blk_simp
  rw [after0_13]
  frame_out [k0_pay9]
  idx_vars y
  refine (gates_at (iblk m c 0 t) (iblk m c 1 t) (iblk m c 2 t) (iblk m c 7 t) y0 y1).trans ?_
  refine congrArg Ideal.logistic (proj_blk m c t y0 _ ?_ _ _ fun d => ?_)
  · blk_simp [idx t]
  · blk_point [iblk, V, idx t]

end

end Cert.ProjGla

end
-- ==== Proof.ProjGla.Ref.lean ====
/- The recurrence projections' reference at an index: the same projected rows. -/
module

public import proofs.«01_k».proof.Proof.ProjGla.Array
public import proofs.«01_k».proof.Proof.Gen.Reference4Ideal.Read

@[expose] public section

set_option maxRecDepth 16384

noncomputable section

namespace Cert.ProjGla

open Idealize.ShloMosaic Idealize.ShloMosaic.TcCoe Idealize.SL.Sem
open Cert.Rows

section
open Cert.Reference4Ideal.Read Cert.Reference4Ideal

/-- The normalised input row. -/
theorem ref_norm (x0 : FVec Ideal S33792x1024 .f32) (x1 x2 : FVec Ideal S1x1024 .f32) (r : Fin 33792) (j : Fin 1024) :
    val_main_v25 (F := Ideal) x0 x1 x2 (ix2 r j) = lnRow (fun d => x0 (ix2 r d)) (x1 (ix2 0 j)) (x2 (ix2 0 j)) j := by
  pointwise [val_main_v25, val_main_v24, val_main_v23, val_main_v22, val_main_v21, val_main_v20, val_main_v19, val_main_v18, val_main_v17, val_main_v16,
    val_main_v15, val_main_v14, val_main_v13, val_main_cst_3, val_main_v12, val_main_v11, val_main_v10, val_main_v9, val_main_cst_2, val_main_v8,
    val_main_v7, val_main_cst_1, val_main_v6, val_main_v5, val_main_v4, val_main_v3, val_main_v2, val_main_cst_0, val_main_v1, val_main_v0, val_main_cst,
    lnRow]

/-- The wide projection. -/
theorem ref_wide (x0 : FVec Ideal S33792x1024 .f32) (x1 x2 : FVec Ideal S1x1024 .f32) (x3 : FVec Ideal S1024x3072 .bf16) (r : Fin 33792) (j : Fin 3072) :
    val_main_v27 (F := Ideal) x0 x1 x2 x3 (ix2 r j) = rowProj x0 x1 x2 r fun d => x3 (ix2 d j) := by
  unfold rowProj proj
  simp only [← ref_norm]
  pointwise [val_main_v27, val_main_v26]

/-- The reference's queries. -/
theorem ref_v28 (x0 : FVec Ideal S33792x1024 .f32) (x1 x2 : FVec Ideal S1x1024 .f32) (x3 : FVec Ideal S1024x3072 .bf16) (r : Fin 33792) (j : Fin 512) :
    val_main_v28 (F := Ideal) x0 x1 x2 x3 (ix2 r j) = val_main_v27 (F := Ideal) x0 x1 x2 x3 (ix2 r ⟨j.val, by omega⟩) := by
  pointwise [val_main_v28]

/-- The reference's keys. -/
theorem ref_v29 (x0 : FVec Ideal S33792x1024 .f32) (x1 x2 : FVec Ideal S1x1024 .f32) (x3 : FVec Ideal S1024x3072 .bf16) (r : Fin 33792) (j : Fin 512) :
    val_main_v29 (F := Ideal) x0 x1 x2 x3 (ix2 r j) = val_main_v27 (F := Ideal) x0 x1 x2 x3 (ix2 r ⟨512 + j.val, by omega⟩) := by
  pointwise [val_main_v29]

/-- The reference's values. -/
theorem ref_v51 (x0 : FVec Ideal S33792x1024 .f32) (x1 x2 : FVec Ideal S1x1024 .f32) (x3 : FVec Ideal S1024x3072 .bf16) (r : Fin 33792) (j : Fin 1024) :
    val_main_v51 (F := Ideal) x0 x1 x2 x3 (ix2 r j) = val_main_v27 (F := Ideal) x0 x1 x2 x3 (ix2 r ⟨1024 + j.val, by omega⟩) := by
  pointwise [val_main_v51, val_main_v30]

/-- The reference's output gates. -/
theorem ref_v31 (x0 : FVec Ideal S33792x1024 .f32) (x1 x2 : FVec Ideal S1x1024 .f32) (x3 : FVec Ideal S1024x3072 .bf16) (r : Fin 33792) (j : Fin 1024) :
    val_main_v31 (F := Ideal) x0 x1 x2 x3 (ix2 r j) = val_main_v27 (F := Ideal) x0 x1 x2 x3 (ix2 r ⟨2048 + j.val, by omega⟩) := by
  pointwise [val_main_v31]

/-- The low-rank projection and its bias. -/
theorem ref_low (x0 : FVec Ideal S33792x1024 .f32) (x1 x2 : FVec Ideal S1x1024 .f32) (x4 : FVec Ideal S1024x128 .bf16) (x5 : FVec Ideal S128x512 .bf16) (x6 : FVec Ideal S1x512 .f32) (r : Fin 33792) (j : Fin 512) :
    val_main_v39 (F := Ideal) x0 x1 x2 x4 x5 x6 (ix2 r j)
      = (∑ k, rowProj x0 x1 x2 r (fun d => x4 (ix2 d k)) * x5 (ix2 k j)) + x6 (ix2 0 j) := by
  unfold rowProj proj
  simp only [← ref_norm]
  pointwise [val_main_v39, val_main_v38, val_main_v37, val_main_v36, val_main_v35, val_main_v34, val_main_v33, val_main_v32]

/-- The log decays from the low-rank projection. -/
theorem ref_la (x0 : FVec Ideal S33792x1024 .f32) (x1 x2 : FVec Ideal S1x1024 .f32) (x4 : FVec Ideal S1024x128 .bf16) (x5 : FVec Ideal S128x512 .bf16) (x6 : FVec Ideal S1x512 .f32) (r : Fin 33792) (j : Fin 512) :
    val_main_v42 (F := Ideal) x0 x1 x2 x4 x5 x6 (ix2 r j)
      = Ideal.div (logSig (val_main_v39 (F := Ideal) x0 x1 x2 x4 x5 x6 (ix2 r j))) (Ideal.ofBits FTy.f32 1098907648#32) := by
  rw [← neg_softplus]
  pointwise [val_main_v42, val_main_v41, val_main_cst_4, val_main_v40, val_main_call0_v1, val_main_call0_call0_v11, val_main_call0_call0_v10,
    val_main_call0_call0_v9, val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst, val_main_call0_v0]
  rw [if_neg (not_not.mpr rfl)]
  rfl

/-- The branch gates. -/
theorem ref_gate (x0 : FVec Ideal S33792x1024 .f32) (x1 x2 : FVec Ideal S1x1024 .f32) (x7 : FVec Ideal S1024x2048 .bf16) (r : Fin 33792) (j : Fin 2048) :
    val_main_v52 (F := Ideal) x0 x1 x2 x7 (ix2 r j) = Ideal.logistic (rowProj x0 x1 x2 r fun d => x7 (ix2 d j)) := by
  unfold rowProj proj Ideal.logistic
  simp only [← ref_norm]
  pointwise [val_main_v50, val_main_v49, val_main_cst_6, val_main_v48, val_main_v47, val_main_cst_5, val_main_v46, val_main_v45, val_main_v44, val_main_v43,
    val_main_v52]

/-- The reference's result is `outQ`. -/
theorem outQ_eq (x0 : FVec Ideal S33792x1024 .f32) (x1 x2 : FVec Ideal S1x1024 .f32) (x3 : FVec Ideal S1024x3072 .bf16) : val_main_v28 (F := Ideal) x0 x1 x2 x3 = outQ x0 x1 x2 x3 := by
  funext i
  idx_vars i
  rw [ref_v28, ref_wide]
  rfl

/-- The reference's result is `outK`. -/
theorem outK_eq (x0 : FVec Ideal S33792x1024 .f32) (x1 x2 : FVec Ideal S1x1024 .f32) (x3 : FVec Ideal S1024x3072 .bf16) : val_main_v29 (F := Ideal) x0 x1 x2 x3 = outK x0 x1 x2 x3 := by
  funext i
  idx_vars i
  rw [ref_v29, ref_wide]
  rfl

/-- The reference's result is `outV`. -/
theorem outV_eq (x0 : FVec Ideal S33792x1024 .f32) (x1 x2 : FVec Ideal S1x1024 .f32) (x3 : FVec Ideal S1024x3072 .bf16) : val_main_v51 (F := Ideal) x0 x1 x2 x3 = outV x0 x1 x2 x3 := by
  funext i
  idx_vars i
  rw [ref_v51, ref_wide]
  rfl

/-- The reference's result is `outO`. -/
theorem outO_eq (x0 : FVec Ideal S33792x1024 .f32) (x1 x2 : FVec Ideal S1x1024 .f32) (x3 : FVec Ideal S1024x3072 .bf16) : val_main_v31 (F := Ideal) x0 x1 x2 x3 = outO x0 x1 x2 x3 := by
  funext i
  idx_vars i
  rw [ref_v31, ref_wide]
  rfl

/-- The reference's log decays are `outL`. -/
theorem outL_eq (x0 : FVec Ideal S33792x1024 .f32) (x1 x2 : FVec Ideal S1x1024 .f32) (x4 : FVec Ideal S1024x128 .bf16) (x5 : FVec Ideal S128x512 .bf16) (x6 : FVec Ideal S1x512 .f32) :
    val_main_v42 (F := Ideal) x0 x1 x2 x4 x5 x6 = outL x0 x1 x2 x4 x5 x6 := by
  funext i
  idx_vars i
  rw [ref_la, ref_low]
  rfl

/-- The reference's branch gates are `outG`. -/
theorem outG_eq (x0 : FVec Ideal S33792x1024 .f32) (x1 x2 : FVec Ideal S1x1024 .f32) (x7 : FVec Ideal S1024x2048 .bf16) : val_main_v52 (F := Ideal) x0 x1 x2 x7 = outG x0 x1 x2 x7 := by
  funext i
  idx_vars i
  rw [ref_gate]
  rfl

end

end Cert.ProjGla

end
-- ==== Proof.ProjGla.Equation.lean ====
/- The recurrence projections and their reference leave the same six results. -/
module

public import proofs.«01_k».proof.Defs
public import proofs.«01_k».proof.Proof.ProjGla.Array
public import proofs.«01_k».proof.Proof.ProjGla.Ref
public import Idealize.ShloMosaic.Lib.Claim

@[expose] public section

set_option maxRecDepth 16384

noncomputable section

namespace Cert.ProjGla

open Idealize.ShloMosaic Idealize.ShloMosaic.TcCoe Idealize.SL.Sem

set_option maxHeartbeats 1000000 in
/-- At Ideal, from equal arguments, both runs end and their six result arrays are equal. -/
theorem algebraic : Cert.algebraic_Kernel4Ideal_Reference4Ideal := by
  pair_intro
  · run_from Cert.Kernel4Ideal.Gen.run_main m g
  · run_from Cert.Reference4Ideal.Value.run m' g'
    all_goals obtain ⟨h0, h1, h2, h3, h4, h5, h6, h7⟩ := hagree c
    · rw [Cert.Reference4Ideal.Read.val_main_v28_eq, outQ_eq]
      exact (final8 m c).symm
    · rw [Cert.Reference4Ideal.Read.val_main_v29_eq, outK_eq]
      exact (final9 m c).symm
    · rw [Cert.Reference4Ideal.Read.val_main_v51_eq, outV_eq]
      exact (final10 m c).symm
    · rw [Cert.Reference4Ideal.Read.val_main_v31_eq, outO_eq]
      exact (final11 m c).symm
    · rw [Cert.Reference4Ideal.Read.val_main_v42_eq, outL_eq, h0, h1, h2, h4, h5, h6]
      exact (final12 m c).symm
    · rw [Cert.Reference4Ideal.Read.val_main_v52_eq, outG_eq]
      exact (final13 m c).symm

end Cert.ProjGla

end
-- ==== Proof.ProjAttn.Block.lean ====
/- The attention projections of the prompt tokens: what one grid point stores, entry by entry. -/
module

public import proofs.«01_k».proof.Proof.Rows.Proj
public import proofs.«01_k».proof.Proof.Gen.Kernel5Ideal.Value
public import Idealize.ShloMosaic.Lib.Pointwise
public import Idealize.ShloMosaic.Lib.WordCmp
public import Idealize.ShloMosaic.Lib.Pipeline.ValueKit

@[expose] public section

set_option maxRecDepth 16384

noncomputable section

namespace Cert.ProjAttn

open Idealize.ShloMosaic Idealize.ShloMosaic.TcCoe Idealize.SL.Sem
open Cert.Rows

section
open Cert.Kernel5Ideal Cert.Kernel5Ideal.Gen

/-- A projected entry with the factors of its products exchanged. -/
theorem proj_comm (x g b w : Fin 1024 → EReal) : proj x g b w = ∑ d, w d * lnRow x (g d) (b d) d :=
  Finset.sum_congr rfl fun _ _ => mul_comm _ _

/-- The normalised input row. -/
theorem norm_at (x : Vec Ideal S768x1024 .f32) (g b : Vec Ideal S1x1024 .f32) (r : Fin 768) (j : Fin 1024) :
    k0_pay7 (F := Ideal) x g b (ix2 r j) = lnRow (fun d => x (ix2 r d)) (g (ix2 0 j)) (b (ix2 0 j)) j := by
  pointwise [k0_pay7, lnRow]

/-- The row-major projection's entries. -/
theorem wide_at (x : Vec Ideal S768x1024 .f32) (g b : Vec Ideal S1x1024 .f32) (w : Vec Ideal S1024x640 .bf16) (r : Fin 768) (j : Fin 640) :
    k0_pay1 (F := Ideal) (k0_pay7 (F := Ideal) x g b) w (ix2 r j) = proj (fun d => x (ix2 r d)) (fun d => g (ix2 0 d)) (fun d => b (ix2 0 d)) (fun d => w (ix2 d j)) := by
  unfold proj
  simp only [← norm_at]
  pointwise [k0_pay1]

/-- The queries: one row of weights against each normalised row of the stream. -/
theorem q_at (x : Vec Ideal S768x1024 .f32) (g b : Vec Ideal S1x1024 .f32) (w : Vec Ideal S1024x1024 .bf16) (i : Fin 1024) (r : Fin 768) :
    k0_pay8 (F := Ideal) x g b w (ix2 i r) = proj (fun d => x (ix2 r d)) (fun d => g (ix2 0 d)) (fun d => b (ix2 0 d)) (fun d => w (ix2 i d)) := by
  rw [proj_comm]
  simp only [← norm_at]
  pointwise [k0_pay8]

/-- The index queries: one row of weights against each normalised row of the stream. -/
theorem i_at (x : Vec Ideal S768x1024 .f32) (g b : Vec Ideal S1x1024 .f32) (w : Vec Ideal S512x1024 .bf16) (i : Fin 512) (r : Fin 768) :
    k0_pay9 (F := Ideal) x g b w (ix2 i r) = proj (fun d => x (ix2 r d)) (fun d => g (ix2 0 d)) (fun d => b (ix2 0 d)) (fun d => w (ix2 i d)) := by
  rw [proj_comm]
  simp only [← norm_at]
  pointwise [k0_pay9]

/-- The keys: 256 columns from column 0 on. -/
theorem k_at (x : Vec Ideal S768x1024 .f32) (g b : Vec Ideal S1x1024 .f32) (w : Vec Ideal S1024x640 .bf16) (r : Fin 768) (j : Fin 256) :
    k0_pay2 (F := Ideal) (k0_pay7 (F := Ideal) x g b) w (ix2 r j) = proj (fun d => x (ix2 r d)) (fun d => g (ix2 0 d)) (fun d => b (ix2 0 d)) (fun d => w (ix2 d ⟨j.val, by omega⟩)) := by
  rw [← wide_at]
  pointwise [k0_pay2]

/-- The values: 256 columns from column 256 on. -/
theorem y_at (x : Vec Ideal S768x1024 .f32) (g b : Vec Ideal S1x1024 .f32) (w : Vec Ideal S1024x640 .bf16) (r : Fin 768) (j : Fin 256) :
    k0_pay4 (F := Ideal) (k0_pay7 (F := Ideal) x g b) w (ix2 r j) = proj (fun d => x (ix2 r d)) (fun d => g (ix2 0 d)) (fun d => b (ix2 0 d)) (fun d => w (ix2 d ⟨256 + j.val, by omega⟩)) := by
  rw [← wide_at]
  pointwise [k0_pay4]

/-- The index keys: 64 columns from column 512 on. -/
theorem x_at (x : Vec Ideal S768x1024 .f32) (g b : Vec Ideal S1x1024 .f32) (w : Vec Ideal S1024x640 .bf16) (r : Fin 768) (j : Fin 64) :
    k0_pay3 (F := Ideal) (k0_pay7 (F := Ideal) x g b) w (ix2 r j) = proj (fun d => x (ix2 r d)) (fun d => g (ix2 0 d)) (fun d => b (ix2 0 d)) (fun d => w (ix2 d ⟨512 + j.val, by omega⟩)) := by
  rw [← wide_at]
  pointwise [k0_pay3]

/-- The keys, rounded: 256 columns from column 0 on. -/
theorem b_at (x : Vec Ideal S768x1024 .f32) (g b : Vec Ideal S1x1024 .f32) (w : Vec Ideal S1024x640 .bf16) (r : Fin 768) (j : Fin 256) :
    k0_pay5 (F := Ideal) (k0_pay7 (F := Ideal) x g b) w (ix2 r j) = proj (fun d => x (ix2 r d)) (fun d => g (ix2 0 d)) (fun d => b (ix2 0 d)) (fun d => w (ix2 d ⟨j.val, by omega⟩)) := by
  rw [← wide_at]
  pointwise [k0_pay5, k0_pay2]

/-- The index keys, rounded: 64 columns from column 512 on. -/
theorem z_at (x : Vec Ideal S768x1024 .f32) (g b : Vec Ideal S1x1024 .f32) (w : Vec Ideal S1024x640 .bf16) (r : Fin 768) (j : Fin 64) :
    k0_pay6 (F := Ideal) (k0_pay7 (F := Ideal) x g b) w (ix2 r j) = proj (fun d => x (ix2 r d)) (fun d => g (ix2 0 d)) (fun d => b (ix2 0 d)) (fun d => w (ix2 d ⟨512 + j.val, by omega⟩)) := by
  rw [← wide_at]
  pointwise [k0_pay6, k0_pay3]

/-- The index weights, scaled by one over the root of eight: the first eight of the sixteen rows. -/
theorem w_at (x : Vec Ideal S768x1024 .f32) (g b : Vec Ideal S1x1024 .f32) (w : Vec Ideal S16x1024 .bf16) (i : Fin 8) (r : Fin 768) :
    k0_pay13 (F := Ideal) (k0_pay7 (F := Ideal) x g b) w (ix2 i r)
      = proj (fun d => x (ix2 r d)) (fun d => g (ix2 0 d)) (fun d => b (ix2 0 d)) (fun d => w (ix2 ⟨i.val, by omega⟩ d)) * Ideal.ofBits FTy.f32 1052050675#32 := by
  rw [proj_comm]
  simp only [← norm_at]
  pointwise [k0_pay13]

/-- The values, transposed, with a one in row 64 of each 128. -/
def vaRow (i : ℕ) (p : EReal) : EReal := if i % 128 = 64 then 1 else p

/-- The word that says whether row `i` is row 64 of its 128, as the body computes it. -/
def oneRow (i : ℕ) : BitVec 1 :=
  let n : BitVec 32 := Scalar.select (Scalar.cmpi .eq 128#32 0#32) 1#32 128#32
  let q : BitVec 32 := IntOp.remsi .vector (BitVec.ofNat 32 i) n
  IntOp.cmpi .eq (Scalar.select (IntOp.andi (IntOp.xori (IntOp.cmpi .slt q 0#32) (Scalar.cmpi .slt n 0#32)) (IntOp.cmpi .ne q 0#32))
    (IntOp.addi q n) q) 64#32

/-- That word is the remainder's comparison. -/
theorem oneRow_eq : ∀ i : Fin 512, oneRow i.val = BitVec.ofBool (decide (i.val % 128 = 64)) := by decide +kernel

/-- The transposed values of all the point's rows. -/
theorem va_at (x : Vec Ideal S768x1024 .f32) (g b : Vec Ideal S1x1024 .f32) (w : Vec Ideal S512x1024 .bf16) (i : Fin 512) (r : Fin 768) :
    k0_pay10 (F := Ideal) (k0_pay7 (F := Ideal) x g b) w (constant (F := Ideal) S512x768 .f32 0x00000000#32) (ix2 i r)
      = vaRow i.val (proj (fun d => x (ix2 r d)) (fun d => g (ix2 0 d)) (fun d => b (ix2 0 d)) (fun d => w (ix2 i d))) := by
  rw [proj_comm]
  simp only [← norm_at]
  pointwise [k0_pay10, vaRow]
  refine (congrArg (fun k => Scalar.select k _ _) (oneRow_eq i)).trans ?_
  rw [WordCmp.select_ofBool]
  simp only [decide_eq_true_eq]

/-- The two chunks that the point stores, at their index. -/
theorem va_canon (x : Vec Ideal S768x1024 .f32) (g b : Vec Ideal S1x1024 .f32) (w : Vec Ideal S512x1024 .bf16) (y0 : Fin 2) (y1 : Fin 512) (y2 : Fin 384) :
    View.canon (Val := Elt Ideal) (s := S2x512x384) (e := .bf16)
        [⟨r0_7, k0_pay12 (F := Ideal) (k0_pay7 x g b) w (constant S512x768 .f32 0x00000000#32)⟩,
          ⟨r0_6, k0_pay11 (F := Ideal) (k0_pay7 x g b) w (constant S512x768 .f32 0x00000000#32)⟩] (ix3 y0 y1 y2)
      = vaRow y1.val (proj (fun d => x (ix2 ⟨y0.val * 384 + y2.val, by omega⟩ d)) (fun d => g (ix2 0 d)) (fun d => b (ix2 0 d)) (fun d => w (ix2 y1 d))) := by
  refine (Cert.Kernel5Ideal.Value.canon10_eq (F := Ideal) x g b w (ix3 y0 y1 y2)).trans ?_
  rw [← va_at]
  refine congrArg (k0_pay10 (F := Ideal) (k0_pay7 (F := Ideal) x g b) w (constant (F := Ideal) S512x768 .f32 0x00000000#32)) (funext fun a => ?_)
  match a with
  | ⟨0, _⟩ => rfl
  | ⟨1, _⟩ => rfl

end

end Cert.ProjAttn

end
-- ==== Proof.ProjAttn.Array.lean ====
/- The arrays that the attention projections of the prompt tokens leave. -/
module

public import proofs.«01_k».proof.Proof.ProjAttn.Block
public import Idealize.ShloMosaic.Lib.Claim

@[expose] public section

set_option maxRecDepth 16384

noncomputable section

namespace Cert.ProjAttn

open Idealize.ShloMosaic Idealize.ShloMosaic.TcCoe Idealize.SL.Sem
open Cert.Rows
open Idealize.ShloMosaic.Pipeline (Dat)

section
open Cert.Kernel5Ideal Cert.Kernel5Ideal.Gen

/-- A projected entry of row `r` of the stream. -/
def rowProj (x : FVec Ideal S33792x1024 .f32) (g b : FVec Ideal S1x1024 .f32) (r : Fin 33792) (w : Fin 1024 → EReal) : EReal :=
  proj (fun d => x (ix2 r d)) (fun d => g (ix2 0 d)) (fun d => b (ix2 0 d)) w

/-- The queries, transposed. -/
def outQ (x : FVec Ideal S33792x1024 .f32) (g b : FVec Ideal S1x1024 .f32) (w : FVec Ideal S1024x1024 .bf16) : FVec Ideal S1024x33792 .bf16 := fun i => rowProj x g b (i 1) fun d => w (ix2 (i 0) d)

/-- The index queries, transposed. -/
def outI (x : FVec Ideal S33792x1024 .f32) (g b : FVec Ideal S1x1024 .f32) (w : FVec Ideal S512x1024 .bf16) : FVec Ideal S512x33792 .bf16 := fun i => rowProj x g b (i 1) fun d => w (ix2 (i 0) d)

/-- The values in chunks of 384 tokens, transposed, with a one in row 64 of each 128. -/
def outV (x : FVec Ideal S33792x1024 .f32) (g b : FVec Ideal S1x1024 .f32) (w : FVec Ideal S512x1024 .bf16) : FVec Ideal S88x512x384 .bf16 := fun i =>
  vaRow (i 1).val (rowProj x g b ⟨(i 0).val * 384 + (i 2).val, by
    have h0 : (i 0).val < 88 := (i 0).isLt
    have h2 : (i 2).val < 384 := (i 2).isLt
    omega⟩ fun d => w (ix2 (i 1) d))

/-- The index weights, transposed and scaled. -/
def outW (x : FVec Ideal S33792x1024 .f32) (g b : FVec Ideal S1x1024 .f32) (w : FVec Ideal S16x1024 .bf16) : FVec Ideal S8x33792 .f32 := fun i =>
  rowProj x g b (i 1) (fun d => w (ix2 ⟨(i 0).val, Nat.lt_trans (i 0).isLt (by decide)⟩ d)) * Ideal.ofBits FTy.f32 1052050675#32

/-- The keys. -/
def outK (x : FVec Ideal S33792x1024 .f32) (g b : FVec Ideal S1x1024 .f32) (w : FVec Ideal S1024x640 .bf16) : FVec Ideal S33792x256 .f32 := fun i =>
  rowProj x g b (i 0) fun d => w (ix2 d ⟨(i 1).val, Nat.lt_trans (i 1).isLt (by decide)⟩)

/-- The values. -/
def outY (x : FVec Ideal S33792x1024 .f32) (g b : FVec Ideal S1x1024 .f32) (w : FVec Ideal S1024x640 .bf16) : FVec Ideal S33792x256 .f32 := fun i =>
  rowProj x g b (i 0) fun d => w (ix2 d ⟨256 + (i 1).val, Nat.lt_of_lt_of_le (Nat.add_lt_add_left (i 1).isLt 256) (by decide)⟩)

/-- The index keys. -/
def outX (x : FVec Ideal S33792x1024 .f32) (g b : FVec Ideal S1x1024 .f32) (w : FVec Ideal S1024x640 .bf16) : FVec Ideal S33792x64 .f32 := fun i =>
  rowProj x g b (i 0) fun d => w (ix2 d ⟨512 + (i 1).val, Nat.lt_of_lt_of_le (Nat.add_lt_add_left (i 1).isLt 512) (by decide)⟩)

/-- The keys, rounded. -/
def outB (x : FVec Ideal S33792x1024 .f32) (g b : FVec Ideal S1x1024 .f32) (w : FVec Ideal S1024x640 .bf16) : FVec Ideal S33792x256 .bf16 := fun i =>
  rowProj x g b (i 0) fun d => w (ix2 d ⟨(i 1).val, Nat.lt_trans (i 1).isLt (by decide)⟩)

/-- The index keys, rounded. -/
def outZ (x : FVec Ideal S33792x1024 .f32) (g b : FVec Ideal S1x1024 .f32) (w : FVec Ideal S1024x640 .bf16) : FVec Ideal S33792x64 .bf16 := fun i =>
  rowProj x g b (i 0) fun d => w (ix2 d ⟨512 + (i 1).val, Nat.lt_of_lt_of_le (Nat.add_lt_add_left (i 1).isLt 512) (by decide)⟩)

variable (m : (ℓ : Loc nD τ sig) → Buf (Elt Ideal) ℓ)

/-- Where the windows stand at point `t`: rows, or columns, from `768 t` on, chunks from `2 t` on, and whole weights. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, t.val]
    ∧ win0_9.index t = ![0, t.val]
    ∧ win0_10.index t = ![t.val, 0, 0]
    ∧ win0_11.index t = ![0, t.val]
    ∧ win0_12.index t = ![t.val, 0]
    ∧ win0_13.index t = ![t.val, 0]
    ∧ win0_14.index t = ![t.val, 0]
    ∧ win0_15.index t = ![t.val, 0]
    ∧ win0_16.index t = ![t.val, 0] :=
  (by decide +kernel : ∀ t : Fin grid0.N, _)

/-- A projected entry of a row of point `t`'s block is that of the stream's row. -/
theorem proj_blk (c : Dev nD) (t : Fin cfg0.N) (y : Fin 768) (r : Fin 33792) (hr : r.val = t.val * 768 + y.val) (w w' : Fin 1024 → EReal)
    (hw : ∀ d, w d = w' d) :
    proj (fun d => (iblk m c 0 t : FVec Ideal S768x1024 .f32) (ix2 y d)) (fun d => (iblk m c 1 t : FVec Ideal S1x1024 .f32) (ix2 0 d))
        (fun d => (iblk m c 2 t : FVec Ideal S1x1024 .f32) (ix2 0 d)) w
      = rowProj (m ((c : Thread nD τ).loc main_arg0)) (m ((c : Thread nD τ).loc main_arg1)) (m ((c : Thread nD τ).loc main_arg2)) r w' := by
  refine proj_congr (fun d => ?_) (fun d => ?_) (fun d => ?_) hw
  · blk_point [iblk, V, idx t]
  · blk_point [iblk, V, idx t]
  · blk_point [iblk, V, idx t]

set_option maxHeartbeats 1000000 in
/-- The queries after the run. -/
theorem final8 (c : Dev nD) : (dats m 0 c).arrAt 8 (cfgs 0).N = outQ (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  frame_out [k0_pay15, k0_pay14]
  idx_vars y
  refine (q_at (iblk m c 0 t) (iblk m c 1 t) (iblk m c 2 t) (iblk m c 3 t) y0 y1).trans (proj_blk m c t y1 _ ?_ _ _ fun d => ?_)
  · blk_simp [idx t]
  · blk_point [iblk, V, idx t]

set_option maxHeartbeats 1000000 in
/-- The index queries after the run. -/
theorem final9 (c : Dev nD) : (dats m 0 c).arrAt 9 (cfgs 0).N = outI (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t _ y => ?_
  blk_simp
  rw [after0_9]
  frame_out [k0_pay15, k0_pay14]
  idx_vars y
  refine (i_at (iblk m c 0 t) (iblk m c 1 t) (iblk m c 2 t) (iblk m c 4 t) y0 y1).trans (proj_blk m c t y1 _ ?_ _ _ fun d => ?_)
  · blk_simp [idx t]
  · blk_point [iblk, V, idx t]

set_option maxHeartbeats 1000000 in
/-- The index weights after the run. -/
theorem final11 (c : Dev nD) : (dats m 0 c).arrAt 11 (cfgs 0).N = outW (m ((c : Thread nD τ).loc main_arg0)) (m ((c : Thread nD τ).loc main_arg1)) (m ((c : Thread nD τ).loc main_arg2)) (m ((c : Thread nD τ).loc main_arg6)) := by
  refine (dats m 0 c).arrAt_eq_of_covers 11 _ (by decide +kernel) fun t _ y => ?_
  blk_simp
  rw [after0_11]
  frame_out [k0_pay15, k0_pay14]
  idx_vars y
  refine (w_at (iblk m c 0 t) (iblk m c 1 t) (iblk m c 2 t) (iblk m c 6 t) y0 y1).trans (congrArg (· * _) (proj_blk m c t y1 _ ?_ _ _ fun d => ?_))
  · blk_simp [idx t]
  · blk_point [iblk, V, idx t]

set_option maxHeartbeats 1000000 in
/-- The keys after the run. -/
theorem final12 (c : Dev nD) : (dats m 0 c).arrAt 12 (cfgs 0).N = outK (m ((c : Thread nD τ).loc main_arg0)) (m ((c : Thread nD τ).loc main_arg1)) (m ((c : Thread nD τ).loc main_arg2)) (m ((c : Thread nD τ).loc main_arg7)) := by
  refine (dats m 0 c).arrAt_eq_of_covers 12 _ (by decide +kernel) fun t _ y => ?_
  blk_simp
  rw [after0_12]
  frame_out [k0_pay15, k0_pay14]
  idx_vars y
  refine (k_at (iblk m c 0 t) (iblk m c 1 t) (iblk m c 2 t) (iblk m c 7 t) y0 y1).trans (proj_blk m c t y0 _ ?_ _ _ fun d => ?_)
  · blk_simp [idx t]
  · blk_point [iblk, V, idx t]

set_option maxHeartbeats 1000000 in
/-- The values after the run. -/
theorem final13 (c : Dev nD) : (dats m 0 c).arrAt 13 (cfgs 0).N = outY (m ((c : Thread nD τ).loc main_arg0)) (m ((c : Thread nD τ).loc main_arg1)) (m ((c : Thread nD τ).loc main_arg2)) (m ((c : Thread nD τ).loc main_arg7)) := by
  refine (dats m 0 c).arrAt_eq_of_covers 13 _ (by decide +kernel) fun t _ y => ?_
  blk_simp
  rw [after0_13]
  frame_out [k0_pay15, k0_pay14]
  idx_vars y
  refine (y_at (iblk m c 0 t) (iblk m c 1 t) (iblk m c 2 t) (iblk m c 7 t) y0 y1).trans (proj_blk m c t y0 _ ?_ _ _ fun d => ?_)
  · blk_simp [idx t]
  · blk_point [iblk, V, idx t]

set_option maxHeartbeats 1000000 in
/-- The index keys after the run. -/
theorem final14 (c : Dev nD) : (dats m 0 c).arrAt 14 (cfgs 0).N = outX (m ((c : Thread nD τ).loc main_arg0)) (m ((c : Thread nD τ).loc main_arg1)) (m ((c : Thread nD τ).loc main_arg2)) (m ((c : Thread nD τ).loc main_arg7)) := by
  refine (dats m 0 c).arrAt_eq_of_covers 14 _ (by decide +kernel) fun t _ y => ?_
  blk_simp
  rw [after0_14]
  frame_out [k0_pay15, k0_pay14]
  idx_vars y
  refine (x_at (iblk m c 0 t) (iblk m c 1 t) (iblk m c 2 t) (iblk m c 7 t) y0 y1).trans (proj_blk m c t y0 _ ?_ _ _ fun d => ?_)
  · blk_simp [idx t]
  · blk_point [iblk, V, idx t]

set_option maxHeartbeats 1000000 in
/-- The keys, rounded after the run. -/
theorem final15 (c : Dev nD) : (dats m 0 c).arrAt 15 (cfgs 0).N = outB (m ((c : Thread nD τ).loc main_arg0)) (m ((c : Thread nD τ).loc main_arg1)) (m ((c : Thread nD τ).loc main_arg2)) (m ((c : Thread nD τ).loc main_arg7)) := by
  refine (dats m 0 c).arrAt_eq_of_covers 15 _ (by decide +kernel) fun t _ y => ?_
  blk_simp
  rw [after0_15]
  frame_out [k0_pay15, k0_pay14]
  idx_vars y
  refine (b_at (iblk m c 0 t) (iblk m c 1 t) (iblk m c 2 t) (iblk m c 7 t) y0 y1).trans (proj_blk m c t y0 _ ?_ _ _ fun d => ?_)
  · blk_simp [idx t]
  · blk_point [iblk, V, idx t]

set_option maxHeartbeats 1000000 in
/-- The index keys, rounded after the run. -/
theorem final16 (c : Dev nD) : (dats m 0 c).arrAt 16 (cfgs 0).N = outZ (m ((c : Thread nD τ).loc main_arg0)) (m ((c : Thread nD τ).loc main_arg1)) (m ((c : Thread nD τ).loc main_arg2)) (m ((c : Thread nD τ).loc main_arg7)) := by
  refine (dats m 0 c).arrAt_eq_of_covers 16 _ (by decide +kernel) fun t _ y => ?_
  blk_simp
  rw [after0_16]
  frame_out [k0_pay15, k0_pay14]
  idx_vars y
  refine (z_at (iblk m c 0 t) (iblk m c 1 t) (iblk m c 2 t) (iblk m c 7 t) y0 y1).trans (proj_blk m c t y0 _ ?_ _ _ fun d => ?_)
  · blk_simp [idx t]
  · blk_point [iblk, V, idx t]

set_option maxHeartbeats 1000000 in
/-- The transposed values after the run. -/
theorem final10 (c : Dev nD) : (dats m 0 c).arrAt 10 (cfgs 0).N = outV (m ((c : Thread nD τ).loc main_arg0)) (m ((c : Thread nD τ).loc main_arg1)) (m ((c : Thread nD τ).loc main_arg2)) (m ((c : Thread nD τ).loc main_arg5)) := by
  refine (dats m 0 c).arrAt_eq_of_covers 10 _ (by decide +kernel) fun t _ y => ?_
  blk_simp
  rw [after0_10]
  frame_out [k0_pay15, k0_pay14]
  idx_vars y
  refine (va_canon (iblk m c 0 t) (iblk m c 1 t) (iblk m c 2 t) (iblk m c 5 t) y0 y1 y2).trans ?_
  refine congrArg₂ vaRow ?_ (proj_blk m c t _ _ ?_ _ _ fun d => ?_)
  · blk_simp [idx t]
  · blk_simp [idx t]
    show (t.val * 2 + y0.val) * 384 + y2.val = t.val * 768 + (y0.val * 384 + y2.val)
    omega
  · blk_point [iblk, V, idx t]

end

end Cert.ProjAttn

end
-- ==== Proof.ProjAttn.Ref.lean ====
/- The attention projections' reference at an index: the same projected rows. -/
module

public import proofs.«01_k».proof.Proof.ProjAttn.Array
public import proofs.«01_k».proof.Proof.Gen.Reference5Ideal.Read

@[expose] public section

set_option maxRecDepth 16384

noncomputable section

namespace Cert.ProjAttn

open Idealize.ShloMosaic Idealize.ShloMosaic.TcCoe Idealize.SL.Sem
open Cert.Rows

section
open Cert.Reference5Ideal.Read Cert.Reference5Ideal

/-- The normalised input row. -/
theorem ref_norm (x0 : FVec Ideal S33792x1024 .f32) (x1 x2 : FVec Ideal S1x1024 .f32) (r : Fin 33792) (j : Fin 1024) :
    val_main_v25 (F := Ideal) x0 x1 x2 (ix2 r j) = lnRow (fun d => x0 (ix2 r d)) (x1 (ix2 0 j)) (x2 (ix2 0 j)) j := by
  pointwise [val_main_v25, val_main_v24, val_main_v23, val_main_v22, val_main_v21, val_main_v20, val_main_v19, val_main_v18, val_main_v17, val_main_v16,
    val_main_v15, val_main_v14, val_main_v13, val_main_cst_3, val_main_v12, val_main_v11, val_main_v10, val_main_v9, val_main_cst_2, val_main_v8,
    val_main_v7, val_main_cst_1, val_main_v6, val_main_v5, val_main_v4, val_main_v3, val_main_v2, val_main_cst_0, val_main_v1, val_main_v0, val_main_cst,
    lnRow]

/-- The reference's queries are `outQ`. -/
theorem outQ_eq (x0 : FVec Ideal S33792x1024 .f32) (x1 x2 : FVec Ideal S1x1024 .f32) (x3 : FVec Ideal S1024x1024 .bf16) : val_main_v54 (F := Ideal) x0 x1 x2 x3 = outQ x0 x1 x2 x3 := by
  funext i
  idx_vars i
  unfold outQ rowProj proj
  pointwise [val_main_v54, val_main_v53, val_main_v52, val_main_v51, val_main_v50, val_main_v49, val_main_v48, val_main_v47, val_main_v46, val_main_v45,
    val_main_cst_5, val_main_v44, val_main_v43, val_main_v42, val_main_v41, val_main_v40, val_main_v39, val_main_call0_v2, val_main_call0_v1,
    val_main_call0_v0, val_main_cst_4, val_main_v38, val_main_v37, val_main_c, val_main_v36, val_main_v35, val_main_v34, val_main_v33, val_main_v32,
    val_main_v31, val_main_v30, val_main_v29, val_main_v28, val_main_v27, val_main_v26]
  simp only [ref_norm]

/-- The reference's index queries are `outI`. -/
theorem outI_eq (x0 : FVec Ideal S33792x1024 .f32) (x1 x2 : FVec Ideal S1x1024 .f32) (x4 : FVec Ideal S512x1024 .bf16) : val_main_v56 (F := Ideal) x0 x1 x2 x4 = outI x0 x1 x2 x4 := by
  funext i
  idx_vars i
  unfold outI rowProj proj
  pointwise [val_main_v56, val_main_v55, val_main_v54, val_main_v53, val_main_v52, val_main_v51, val_main_v50, val_main_v49, val_main_v48, val_main_v47,
    val_main_v46, val_main_v45, val_main_cst_5, val_main_v44, val_main_v43, val_main_v42, val_main_v41, val_main_v40, val_main_v39, val_main_call0_v2,
    val_main_call0_v1, val_main_call0_v0, val_main_cst_4, val_main_v38, val_main_v37, val_main_c, val_main_v36, val_main_v35, val_main_v34, val_main_v33,
    val_main_v32, val_main_v31, val_main_v30, val_main_v29, val_main_v28, val_main_v27, val_main_v26]
  simp only [ref_norm]

/-- The reference's values are `outV`. -/
theorem outV_eq (x0 : FVec Ideal S33792x1024 .f32) (x1 x2 : FVec Ideal S1x1024 .f32) (x5 : FVec Ideal S512x1024 .bf16) : val_main_v58 (F := Ideal) x0 x1 x2 x5 = outV x0 x1 x2 x5 := by
  funext i
  idx_vars i
  unfold outV rowProj proj
  pointwise [val_main_v58, val_main_v57, val_main_v56, val_main_v55, val_main_v54, val_main_v53, val_main_v52, val_main_v51, val_main_v50, val_main_v49,
    val_main_v48, val_main_v47, val_main_v46, val_main_v45, val_main_cst_5, val_main_v44, val_main_v43, val_main_v42, val_main_v41, val_main_v40,
    val_main_v39, val_main_call0_v2, val_main_call0_v1, val_main_call0_v0, val_main_cst_4, val_main_v38, val_main_v37, val_main_c, val_main_v36,
    val_main_v35, val_main_v34, val_main_v33, val_main_v32, val_main_v31, val_main_v30, val_main_v29, val_main_v28, val_main_v27, val_main_v26, vaRow]
  rw [show (64#32 : BitVec 32) = BitVec.ofNat 32 64 from rfl, WordCmp.cmpi_eq_ofNat (by omega) (by omega), WordCmp.select_ofBool]
  simp only [decide_eq_true_eq, ref_norm]
  refine if_congr Iff.rfl ?_ rfl
  pointwise [id]

/-- The reference's index weights are `outW`. -/
theorem outW_eq (x0 : FVec Ideal S33792x1024 .f32) (x1 x2 : FVec Ideal S1x1024 .f32) (x6 : FVec Ideal S16x1024 .bf16) : val_main_v59 (F := Ideal) x0 x1 x2 x6 = outW x0 x1 x2 x6 := by
  funext i
  idx_vars i
  unfold outW rowProj proj
  pointwise [val_main_v59, val_main_v58, val_main_v57, val_main_v56, val_main_v55, val_main_v54, val_main_v53, val_main_v52, val_main_v51, val_main_v50,
    val_main_v49, val_main_v48, val_main_v47, val_main_v46, val_main_v45, val_main_cst_5, val_main_v44, val_main_v43, val_main_v42, val_main_v41,
    val_main_v40, val_main_v39, val_main_call0_v2, val_main_call0_v1, val_main_call0_v0, val_main_cst_4, val_main_v38, val_main_v37, val_main_c,
    val_main_v36, val_main_v35, val_main_v34, val_main_v33, val_main_v32, val_main_v31, val_main_v30, val_main_v29, val_main_v28, val_main_v27,
    val_main_v26]
  simp only [ref_norm]

/-- The reference's keys are `outK`. -/
theorem outK_eq (x0 : FVec Ideal S33792x1024 .f32) (x1 x2 : FVec Ideal S1x1024 .f32) (x7 : FVec Ideal S1024x640 .bf16) : val_main_v49 (F := Ideal) x0 x1 x2 x7 = outK x0 x1 x2 x7 := by
  funext i
  idx_vars i
  unfold outK rowProj proj
  pointwise [val_main_v49, val_main_v48, val_main_v47, val_main_v46, val_main_v45, val_main_cst_5, val_main_v44, val_main_v43, val_main_v42, val_main_v41,
    val_main_v40, val_main_v39, val_main_call0_v2, val_main_call0_v1, val_main_call0_v0, val_main_cst_4, val_main_v38, val_main_v37, val_main_c,
    val_main_v36, val_main_v35, val_main_v34, val_main_v33, val_main_v32, val_main_v31, val_main_v30, val_main_v29, val_main_v28, val_main_v27,
    val_main_v26]
  simp only [ref_norm]

/-- The reference's values of the cache are `outY`. -/
theorem outY_eq (x0 : FVec Ideal S33792x1024 .f32) (x1 x2 : FVec Ideal S1x1024 .f32) (x7 : FVec Ideal S1024x640 .bf16) : val_main_v50 (F := Ideal) x0 x1 x2 x7 = outY x0 x1 x2 x7 := by
  funext i
  idx_vars i
  unfold outY rowProj proj
  pointwise [val_main_v50, val_main_v49, val_main_v48, val_main_v47, val_main_v46, val_main_v45, val_main_cst_5, val_main_v44, val_main_v43, val_main_v42,
    val_main_v41, val_main_v40, val_main_v39, val_main_call0_v2, val_main_call0_v1, val_main_call0_v0, val_main_cst_4, val_main_v38, val_main_v37,
    val_main_c, val_main_v36, val_main_v35, val_main_v34, val_main_v33, val_main_v32, val_main_v31, val_main_v30, val_main_v29, val_main_v28,
    val_main_v27, val_main_v26]
  simp only [ref_norm]

/-- The reference's index keys are `outX`. -/
theorem outX_eq (x0 : FVec Ideal S33792x1024 .f32) (x1 x2 : FVec Ideal S1x1024 .f32) (x7 : FVec Ideal S1024x640 .bf16) : val_main_v51 (F := Ideal) x0 x1 x2 x7 = outX x0 x1 x2 x7 := by
  funext i
  idx_vars i
  unfold outX rowProj proj
  pointwise [val_main_v51, val_main_v50, val_main_v49, val_main_v48, val_main_v47, val_main_v46, val_main_v45, val_main_cst_5, val_main_v44, val_main_v43,
    val_main_v42, val_main_v41, val_main_v40, val_main_v39, val_main_call0_v2, val_main_call0_v1, val_main_call0_v0, val_main_cst_4, val_main_v38,
    val_main_v37, val_main_c, val_main_v36, val_main_v35, val_main_v34, val_main_v33, val_main_v32, val_main_v31, val_main_v30, val_main_v29,
    val_main_v28, val_main_v27, val_main_v26]
  simp only [ref_norm]

/-- The reference's rounded keys are `outB`. -/
theorem outB_eq (x0 : FVec Ideal S33792x1024 .f32) (x1 x2 : FVec Ideal S1x1024 .f32) (x7 : FVec Ideal S1024x640 .bf16) : val_main_v60 (F := Ideal) x0 x1 x2 x7 = outB x0 x1 x2 x7 := by
  funext i
  idx_vars i
  unfold outB rowProj proj
  pointwise [val_main_v60, val_main_v59, val_main_v58, val_main_v57, val_main_v56, val_main_v55, val_main_v54, val_main_v53, val_main_v52, val_main_v51,
    val_main_v50, val_main_v49, val_main_v48, val_main_v47, val_main_v46, val_main_v45, val_main_cst_5, val_main_v44, val_main_v43, val_main_v42,
    val_main_v41, val_main_v40, val_main_v39, val_main_call0_v2, val_main_call0_v1, val_main_call0_v0, val_main_cst_4, val_main_v38, val_main_v37,
    val_main_c, val_main_v36, val_main_v35, val_main_v34, val_main_v33, val_main_v32, val_main_v31, val_main_v30, val_main_v29, val_main_v28,
    val_main_v27, val_main_v26]
  simp only [ref_norm]

/-- The reference's rounded index keys are `outZ`. -/
theorem outZ_eq (x0 : FVec Ideal S33792x1024 .f32) (x1 x2 : FVec Ideal S1x1024 .f32) (x7 : FVec Ideal S1024x640 .bf16) : val_main_v61 (F := Ideal) x0 x1 x2 x7 = outZ x0 x1 x2 x7 := by
  funext i
  idx_vars i
  unfold outZ rowProj proj
  pointwise [val_main_v61, val_main_v60, val_main_v59, val_main_v58, val_main_v57, val_main_v56, val_main_v55, val_main_v54, val_main_v53, val_main_v52,
    val_main_v51, val_main_v50, val_main_v49, val_main_v48, val_main_v47, val_main_v46, val_main_v45, val_main_cst_5, val_main_v44, val_main_v43,
    val_main_v42, val_main_v41, val_main_v40, val_main_v39, val_main_call0_v2, val_main_call0_v1, val_main_call0_v0, val_main_cst_4, val_main_v38,
    val_main_v37, val_main_c, val_main_v36, val_main_v35, val_main_v34, val_main_v33, val_main_v32, val_main_v31, val_main_v30, val_main_v29,
    val_main_v28, val_main_v27, val_main_v26]
  simp only [ref_norm]

end

end Cert.ProjAttn

end
-- ==== Proof.ProjAttn.Equation.lean ====
/- The attention projections of the prompt tokens and their reference leave the same nine results. -/
module

public import proofs.«01_k».proof.Defs
public import proofs.«01_k».proof.Proof.ProjAttn.Array
public import proofs.«01_k».proof.Proof.ProjAttn.Ref
public import Idealize.ShloMosaic.Lib.Claim

@[expose] public section

set_option maxRecDepth 16384

noncomputable section

namespace Cert.ProjAttn

open Idealize.ShloMosaic Idealize.ShloMosaic.TcCoe Idealize.SL.Sem

set_option maxHeartbeats 2000000 in
/-- At Ideal, from equal arguments, both runs end and their nine result arrays are equal. -/
theorem algebraic : Cert.algebraic_Kernel5Ideal_Reference5Ideal := by
  intro m g m' g' hpre hagree
  refine ⟨fun c => (Cert.Kernel5Ideal.Gen.dats (F := Ideal) m 0 c).arrAt 8 (Cert.Kernel5Ideal.cfgs 0).N,
    fun c => (Cert.Kernel5Ideal.Gen.dats (F := Ideal) m 0 c).arrAt 9 (Cert.Kernel5Ideal.cfgs 0).N,
    fun c => (Cert.Kernel5Ideal.Gen.dats (F := Ideal) m 0 c).arrAt 10 (Cert.Kernel5Ideal.cfgs 0).N,
    fun c => (Cert.Kernel5Ideal.Gen.dats (F := Ideal) m 0 c).arrAt 11 (Cert.Kernel5Ideal.cfgs 0).N,
    fun c => (Cert.Kernel5Ideal.Gen.dats (F := Ideal) m 0 c).arrAt 12 (Cert.Kernel5Ideal.cfgs 0).N,
    fun c => (Cert.Kernel5Ideal.Gen.dats (F := Ideal) m 0 c).arrAt 13 (Cert.Kernel5Ideal.cfgs 0).N,
    fun c => (Cert.Kernel5Ideal.Gen.dats (F := Ideal) m 0 c).arrAt 14 (Cert.Kernel5Ideal.cfgs 0).N,
    fun c => (Cert.Kernel5Ideal.Gen.dats (F := Ideal) m 0 c).arrAt 15 (Cert.Kernel5Ideal.cfgs 0).N,
    fun c => (Cert.Kernel5Ideal.Gen.dats (F := Ideal) m 0 c).arrAt 16 (Cert.Kernel5Ideal.cfgs 0).N, ?_, ?_⟩
  · run_from Cert.Kernel5Ideal.Gen.run_main m g
    exact hc.1 16
  · run_from Cert.Reference5Ideal.Value.run m' g'
    all_goals obtain ⟨h0, h1, h2, h3, h4, h5, h6, h7⟩ := hagree c
    · rw [Cert.Reference5Ideal.Read.val_main_v54_eq, outQ_eq]
      exact (final8 m c).symm
    · rw [Cert.Reference5Ideal.Read.val_main_v56_eq, outI_eq]
      exact (final9 m c).symm
    · refine (Cert.Reference5Ideal.Read.val_main_v58_eq (F := Ideal) _ _ _ _).trans ?_
      rw [outV_eq]
      exact (final10 m c).symm
    · rw [Cert.Reference5Ideal.Read.val_main_v59_eq, outW_eq]
      exact (final11 m c).symm
    · rw [Cert.Reference5Ideal.Read.val_main_v49_eq, outK_eq]
      exact (final12 m c).symm
    · rw [Cert.Reference5Ideal.Read.val_main_v50_eq, outY_eq]
      exact (final13 m c).symm
    · rw [Cert.Reference5Ideal.Read.val_main_v51_eq, outX_eq]
      exact (final14 m c).symm
    · rw [Cert.Reference5Ideal.Read.val_main_v60_eq, outB_eq]
      exact (final15 m c).symm
    · rw [Cert.Reference5Ideal.Read.val_main_v61_eq, outZ_eq]
      exact (final16 m c).symm

end Cert.ProjAttn

end
-- ==== Proof.ProjSample.Block.lean ====
/- The attention projections of the sample tokens: what one grid point stores, entry by entry. -/
module

public import proofs.«01_k».proof.Proof.Rows.Proj
public import proofs.«01_k».proof.Proof.Gen.Kernel6Ideal.Value
public import Idealize.ShloMosaic.Lib.Pointwise
public import Idealize.ShloMosaic.Lib.Pipeline.ValueKit

@[expose] public section

set_option maxRecDepth 16384

noncomputable section

namespace Cert.ProjSample

open Idealize.ShloMosaic Idealize.ShloMosaic.TcCoe Idealize.SL.Sem
open Cert.Rows

section
open Cert.Kernel6Ideal Cert.Kernel6Ideal.Gen

/-- The wide projection's entries. -/
theorem wide_at (x : Vec Ideal S512x1024 .f32) (g b : Vec Ideal S1x1024 .f32) (w : Vec Ideal S1024x2176 .bf16) (r : Fin 512) (j : Fin 2176) :
    k0_pay2 (F := Ideal) x g b w (ix2 r j)
      = proj (fun d => x (ix2 r d)) (fun d => g (ix2 0 d)) (fun d => b (ix2 0 d)) (fun d => w (ix2 d j)) := by
  pointwise [k0_pay2, proj, lnRow]

/-- The queries: 1024 columns from column 0 on. -/
theorem q_at (x : Vec Ideal S512x1024 .f32) (g b : Vec Ideal S1x1024 .f32) (w : Vec Ideal S1024x2176 .bf16) (r : Fin 512) (j : Fin 1024) :
    k0_pay3 (F := Ideal) x g b w (ix2 r j)
      = proj (fun d => x (ix2 r d)) (fun d => g (ix2 0 d)) (fun d => b (ix2 0 d)) (fun d => w (ix2 d ⟨0 + j.val, by omega⟩)) := by
  rw [← wide_at]
  pointwise [k0_pay3]

/-- The index queries: 512 columns from column 1024 on. -/
theorem i_at (x : Vec Ideal S512x1024 .f32) (g b : Vec Ideal S1x1024 .f32) (w : Vec Ideal S1024x2176 .bf16) (r : Fin 512) (j : Fin 512) :
    k0_pay4 (F := Ideal) x g b w (ix2 r j)
      = proj (fun d => x (ix2 r d)) (fun d => g (ix2 0 d)) (fun d => b (ix2 0 d)) (fun d => w (ix2 d ⟨1024 + j.val, by omega⟩)) := by
  rw [← wide_at]
  pointwise [k0_pay4]

/-- The keys: 256 columns from column 1536 on. -/
theorem k_at (x : Vec Ideal S512x1024 .f32) (g b : Vec Ideal S1x1024 .f32) (w : Vec Ideal S1024x2176 .bf16) (r : Fin 512) (j : Fin 256) :
    k0_pay5 (F := Ideal) x g b w (ix2 r j)
      = proj (fun d => x (ix2 r d)) (fun d => g (ix2 0 d)) (fun d => b (ix2 0 d)) (fun d => w (ix2 d ⟨1536 + j.val, by omega⟩)) := by
  rw [← wide_at]
  pointwise [k0_pay5]

/-- The values: 256 columns from column 1792 on. -/
theorem v_at (x : Vec Ideal S512x1024 .f32) (g b : Vec Ideal S1x1024 .f32) (w : Vec Ideal S1024x2176 .bf16) (r : Fin 512) (j : Fin 256) :
    k0_pay6 (F := Ideal) x g b w (ix2 r j)
      = proj (fun d => x (ix2 r d)) (fun d => g (ix2 0 d)) (fun d => b (ix2 0 d)) (fun d => w (ix2 d ⟨1792 + j.val, by omega⟩)) := by
  rw [← wide_at]
  pointwise [k0_pay6]

/-- The index keys and the index heads' weights, scaled: the last 128 columns. -/
theorem s_at (x : Vec Ideal S512x1024 .f32) (g b : Vec Ideal S1x1024 .f32) (w : Vec Ideal S1024x2176 .bf16) (sc : Vec Ideal S1x128 .f32) (r : Fin 512) (j : Fin 128) :
    k0_pay1 (F := Ideal) (k0_pay2 (F := Ideal) x g b w) sc (ix2 r j)
      = proj (fun d => x (ix2 r d)) (fun d => g (ix2 0 d)) (fun d => b (ix2 0 d)) (fun d => w (ix2 d ⟨2048 + j.val, by omega⟩)) * sc (ix2 0 j) := by
  rw [← wide_at]
  pointwise [k0_pay1]

end

end Cert.ProjSample

end
-- ==== Proof.ProjSample.Scale.lean ====
/- The scale row that the host prepares for the attention projections of the sample tokens. -/
module

public import proofs.«01_k».proof.Proof.Gen.Kernel6Ideal.Value
public import Idealize.ShloMosaic.Lib.Pointwise
public import Idealize.ShloMosaic.Lib.WordCmp
public import Idealize.ShloMosaic.Lib.StableHlo.RunClose
public import Idealize.ShloMosaic.Lib.Claim

@[expose] public section

set_option maxRecDepth 16384

noncomputable section

namespace Cert.ProjSample

open Idealize.ShloMosaic Idealize.ShloMosaic.TcCoe Idealize.SL.Sem

section
open Cert.Kernel6Ideal Cert.Kernel6Ideal.Gen

/-- The scale of column `j` of the last 128: the eight index heads' weights, in columns 64 to 71, are scaled by one over
    the root of eight. -/
def scale (j : Fin 128) : EReal :=
  if 64 ≤ j.val ∧ j.val < 72 then Ideal.ofBits FTy.f32 1052050675#32 else 1

variable (m : (ℓ : Loc nD τ sig) → Buf (Elt Ideal) ℓ)

/-- The scale row as the host computes it. -/
def scaleRow : FVec Ideal S1x128 .f32 :=
  broadcastInDim S1x128 ![1] bcast_S128_S1x128_1
    (select
      (andi (cmpi .sge (iotaInDim S128 32 0) (broadcastInDim S128 ![] bcast_S_S128 (constantI S_ 32 64#32)))
        (cmpi .slt (iotaInDim S128 32 0) (broadcastInDim S128 ![] bcast_S_S128 (constantI S_ 32 72#32))))
      (broadcastInDim S128 ![] bcast_S_S128 (constant (F := Ideal) S_ .f32 0x3EB504F3#32))
      (broadcastInDim S128 ![] bcast_S_S128 (constant (F := Ideal) S_ .f32 0x3F800000#32)))

/-- Its entries are the scales. -/
theorem scaleRow_at (j : Fin 128) : scaleRow (ix2 0 j) = scale j := by
  pointwise [scaleRow, scale]
  rw [show (64#32 : BitVec 32) = BitVec.ofNat 32 64 from rfl, show (72#32 : BitVec 32) = BitVec.ofNat 32 72 from rfl,
    WordCmp.cmpi_sge_ofNat (by omega) (by omega), WordCmp.cmpi_slt_ofNat (by omega) (by omega), WordCmp.andi_ofBool, WordCmp.select_ofBool]
  simp only [Bool.and_eq_true, decide_eq_true_eq]

/-- The host leaves that row in the call's last operand. -/
theorem scale_host (c : Dev nD) : (V m c main_v8 : FVec Ideal S1x128 .f32) = scaleRow := by
  unfold V
  simp only [hostOps0, hostOps0_1, hostOps0_2, List.flatten_cons, List.flatten_nil, List.append_nil, List.cons_append, List.nil_append]
  after_results_entrywise [cast_eq, id_eq]

end

end Cert.ProjSample

end
-- ==== Proof.ProjSample.Array.lean ====
/- The five arrays that the attention projections of the sample tokens leave. -/
module

public import proofs.«01_k».proof.Proof.ProjSample.Block
public import proofs.«01_k».proof.Proof.ProjSample.Scale
public import Idealize.ShloMosaic.Lib.Claim

@[expose] public section

set_option maxRecDepth 16384

noncomputable section

namespace Cert.ProjSample

open Idealize.ShloMosaic Idealize.ShloMosaic.TcCoe Idealize.SL.Sem
open Cert.Rows
open Idealize.ShloMosaic.Pipeline (Dat)

section
open Cert.Kernel6Ideal Cert.Kernel6Ideal.Gen

/-- A projected entry of row `r` of the stream. -/
def rowProj (x : FVec Ideal S2048x1024 .f32) (g b : FVec Ideal S1x1024 .f32) (r : Fin 2048) (w : Fin 1024 → EReal) : EReal :=
  proj (fun d => x (ix2 r d)) (fun d => g (ix2 0 d)) (fun d => b (ix2 0 d)) w

/-- The queries. -/
def outQ (x : FVec Ideal S2048x1024 .f32) (g b : FVec Ideal S1x1024 .f32) (w : FVec Ideal S1024x2176 .bf16) : FVec Ideal S2048x1024 .bf16 := fun i =>
  rowProj x g b (i 0) fun d => w (ix2 d ⟨0 + (i 1).val, Nat.lt_of_lt_of_le (Nat.add_lt_add_left (i 1).isLt 0) (by decide)⟩)

/-- The index queries. -/
def outI (x : FVec Ideal S2048x1024 .f32) (g b : FVec Ideal S1x1024 .f32) (w : FVec Ideal S1024x2176 .bf16) : FVec Ideal S2048x512 .bf16 := fun i =>
  rowProj x g b (i 0) fun d => w (ix2 d ⟨1024 + (i 1).val, Nat.lt_of_lt_of_le (Nat.add_lt_add_left (i 1).isLt 1024) (by decide)⟩)

/-- The keys. -/
def outK (x : FVec Ideal S2048x1024 .f32) (g b : FVec Ideal S1x1024 .f32) (w : FVec Ideal S1024x2176 .bf16) : FVec Ideal S2048x256 .f32 := fun i =>
  rowProj x g b (i 0) fun d => w (ix2 d ⟨1536 + (i 1).val, Nat.lt_of_lt_of_le (Nat.add_lt_add_left (i 1).isLt 1536) (by decide)⟩)

/-- The values. -/
def outV (x : FVec Ideal S2048x1024 .f32) (g b : FVec Ideal S1x1024 .f32) (w : FVec Ideal S1024x2176 .bf16) : FVec Ideal S2048x256 .f32 := fun i =>
  rowProj x g b (i 0) fun d => w (ix2 d ⟨1792 + (i 1).val, Nat.lt_of_lt_of_le (Nat.add_lt_add_left (i 1).isLt 1792) (by decide)⟩)

/-- The index keys and the index heads' weights, scaled. -/
def outS (x : FVec Ideal S2048x1024 .f32) (g b : FVec Ideal S1x1024 .f32) (w : FVec Ideal S1024x2176 .bf16) : FVec Ideal S2048x128 .f32 := fun i =>
  rowProj x g b (i 0) (fun d => w (ix2 d ⟨2048 + (i 1).val, Nat.lt_of_lt_of_le (Nat.add_lt_add_left (i 1).isLt 2048) (by decide)⟩)) * scale (i 1)

variable (m : (ℓ : Loc nD τ sig) → Buf (Elt Ideal) ℓ)

/-- Where the windows stand at point `t`: rows from `512 t` on, and whole weights. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

/-- A projected entry of a row of point `t`'s block is that of the stream's row. -/
theorem proj_blk (c : Dev nD) (t : Fin cfg0.N) (y : Fin 512) (r : Fin 2048) (hr : r.val = t.val * 512 + y.val) (w w' : Fin 1024 → EReal)
    (hw : ∀ d, w d = w' d) :
    proj (fun d => (iblk m c 0 t : FVec Ideal S512x1024 .f32) (ix2 y d)) (fun d => (iblk m c 1 t : FVec Ideal S1x1024 .f32) (ix2 0 d))
        (fun d => (iblk m c 2 t : FVec Ideal S1x1024 .f32) (ix2 0 d)) w
      = rowProj (m ((c : Thread nD τ).loc main_arg0)) (m ((c : Thread nD τ).loc main_arg1)) (m ((c : Thread nD τ).loc main_arg2)) r w' := by
  refine proj_congr (fun d => ?_) (fun d => ?_) (fun d => ?_) hw
  · blk_point [iblk, V, idx t]
  · blk_point [iblk, V, idx t]
  · blk_point [iblk, V, idx t]

/-- The scale row's block. -/
theorem scale_at (c : Dev nD) (t : Fin cfg0.N) (j : Fin 128) : (iblk m c 4 t : FVec Ideal S1x128 .f32) (ix2 0 j) = scale j := by
  rw [← scaleRow_at, ← scale_host m c]
  show ((cfg0.win 4).blk t).view.read (Elt Ideal) (V m c main_v8) (ix2 0 j) = V m c main_v8 (ix2 0 j)
  generalize V m c main_v8 = u
  refine congrArg u (funext fun a => Fin.ext ?_)
  blk_simp [idx t]
  have e : ∀ a : Fin 2, (![0, 0] : Fin 2 → ℕ) a = 0 := by decide
  exact (congrArg₂ (· + ·) (congrArg (· * _) (e a)) rfl).trans ((congrArg (· + _) (zero_mul _)).trans (zero_add _))

/-- The queries after the run. -/
theorem final5 (c : Dev nD) : (dats m 0 c).arrAt 5 (cfgs 0).N = outQ (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  idx_vars y
  refine (q_at (iblk m c 0 t) (iblk m c 1 t) (iblk m c 2 t) (iblk m c 3 t) y0 y1).trans (proj_blk m c t y0 _ ?_ _ _ fun d => ?_)
  · blk_simp [idx t]
  · blk_point [iblk, V, idx t]

/-- The index queries after the run. -/
theorem final6 (c : Dev nD) : (dats m 0 c).arrAt 6 (cfgs 0).N = outI (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  frame_out
  idx_vars y
  refine (i_at (iblk m c 0 t) (iblk m c 1 t) (iblk m c 2 t) (iblk m c 3 t) y0 y1).trans (proj_blk m c t y0 _ ?_ _ _ fun d => ?_)
  · blk_simp [idx t]
  · blk_point [iblk, V, idx t]

/-- The keys after the run. -/
theorem final7 (c : Dev nD) : (dats m 0 c).arrAt 7 (cfgs 0).N = outK (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  idx_vars y
  refine (k_at (iblk m c 0 t) (iblk m c 1 t) (iblk m c 2 t) (iblk m c 3 t) y0 y1).trans (proj_blk m c t y0 _ ?_ _ _ fun d => ?_)
  · blk_simp [idx t]
  · blk_point [iblk, V, idx t]

/-- The values after the run. -/
theorem final8 (c : Dev nD) : (dats m 0 c).arrAt 8 (cfgs 0).N = outV (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  frame_out
  idx_vars y
  refine (v_at (iblk m c 0 t) (iblk m c 1 t) (iblk m c 2 t) (iblk m c 3 t) y0 y1).trans (proj_blk m c t y0 _ ?_ _ _ fun d => ?_)
  · blk_simp [idx t]
  · blk_point [iblk, V, idx t]

/-- The scaled columns after the run. -/
theorem final9 (c : Dev nD) : (dats m 0 c).arrAt 9 (cfgs 0).N = outS (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  frame_out
  idx_vars y
  refine (s_at (iblk m c 0 t) (iblk m c 1 t) (iblk m c 2 t) (iblk m c 3 t) (iblk m c 4 t) y0 y1).trans ?_
  refine congrArg₂ (· * ·) (proj_blk m c t y0 _ ?_ _ _ fun d => ?_) ((scale_at m c t y1).trans (congrArg scale (Fin.ext ?_)))
  · blk_simp [idx t]
  · blk_point [iblk, V, idx t]
  · blk_simp [idx t]

end

end Cert.ProjSample

end
-- ==== Proof.ProjSample.Ref.lean ====
/- The sample tokens' attention projections' reference at an index: the same projected rows. -/
module

public import proofs.«01_k».proof.Proof.ProjSample.Array
public import proofs.«01_k».proof.Proof.Gen.Reference6Ideal.Read

@[expose] public section

set_option maxRecDepth 16384

noncomputable section

namespace Cert.ProjSample

open Idealize.ShloMosaic Idealize.ShloMosaic.TcCoe Idealize.SL.Sem
open Cert.Rows

section
open Cert.Reference6Ideal.Read Cert.Reference6Ideal

/-- The normalised input row. -/
theorem ref_norm (x0 : FVec Ideal S2048x1024 .f32) (x1 x2 : FVec Ideal S1x1024 .f32) (r : Fin 2048) (j : Fin 1024) :
    val_main_v25 (F := Ideal) x0 x1 x2 (ix2 r j) = lnRow (fun d => x0 (ix2 r d)) (x1 (ix2 0 j)) (x2 (ix2 0 j)) j := by
  pointwise [val_main_v25, val_main_v24, val_main_v23, val_main_v22, val_main_v21, val_main_v20, val_main_v19, val_main_v18, val_main_v17, val_main_v16,
    val_main_v15, val_main_v14, val_main_v13, val_main_cst_3, val_main_v12, val_main_v11, val_main_v10, val_main_v9, val_main_cst_2, val_main_v8,
    val_main_v7, val_main_cst_1, val_main_v6, val_main_v5, val_main_v4, val_main_v3, val_main_v2, val_main_cst_0, val_main_v1, val_main_v0, val_main_cst,
    lnRow]

/-- The wide projection. -/
theorem ref_wide (x0 : FVec Ideal S2048x1024 .f32) (x1 x2 : FVec Ideal S1x1024 .f32) (x3 : FVec Ideal S1024x2176 .bf16) (r : Fin 2048) (j : Fin 2176) :
    val_main_v27 (F := Ideal) x0 x1 x2 x3 (ix2 r j) = rowProj x0 x1 x2 r fun d => x3 (ix2 d j) := by
  unfold rowProj proj
  simp only [← ref_norm]
  pointwise [val_main_v27, val_main_v26]

/-- The reference's queries are `outQ`. -/
theorem outQ_eq (x0 : FVec Ideal S2048x1024 .f32) (x1 x2 : FVec Ideal S1x1024 .f32) (x3 : FVec Ideal S1024x2176 .bf16) : val_main_v35 (F := Ideal) x0 x1 x2 x3 = outQ x0 x1 x2 x3 := by
  funext i
  idx_vars i
  refine Eq.trans ?_ (ref_wide x0 x1 x2 x3 i0 ⟨0 + i1.val, by omega⟩)
  pointwise [val_main_v35, val_main_v28]

/-- The reference's index queries are `outI`. -/
theorem outI_eq (x0 : FVec Ideal S2048x1024 .f32) (x1 x2 : FVec Ideal S1x1024 .f32) (x3 : FVec Ideal S1024x2176 .bf16) : val_main_v36 (F := Ideal) x0 x1 x2 x3 = outI x0 x1 x2 x3 := by
  funext i
  idx_vars i
  refine Eq.trans ?_ (ref_wide x0 x1 x2 x3 i0 ⟨1024 + i1.val, by omega⟩)
  pointwise [val_main_v36, val_main_v29]

/-- The reference's keys are `outK`. -/
theorem outK_eq (x0 : FVec Ideal S2048x1024 .f32) (x1 x2 : FVec Ideal S1x1024 .f32) (x3 : FVec Ideal S1024x2176 .bf16) : val_main_v30 (F := Ideal) x0 x1 x2 x3 = outK x0 x1 x2 x3 := by
  funext i
  idx_vars i
  refine Eq.trans ?_ (ref_wide x0 x1 x2 x3 i0 ⟨1536 + i1.val, by omega⟩)
  pointwise [val_main_v30]

/-- The reference's values are `outV`. -/
theorem outV_eq (x0 : FVec Ideal S2048x1024 .f32) (x1 x2 : FVec Ideal S1x1024 .f32) (x3 : FVec Ideal S1024x2176 .bf16) : val_main_v31 (F := Ideal) x0 x1 x2 x3 = outV x0 x1 x2 x3 := by
  funext i
  idx_vars i
  refine Eq.trans ?_ (ref_wide x0 x1 x2 x3 i0 ⟨1792 + i1.val, by omega⟩)
  pointwise [val_main_v31]

/-- The reference's scaled columns are `outS`. -/
theorem outS_eq (x0 : FVec Ideal S2048x1024 .f32) (x1 x2 : FVec Ideal S1x1024 .f32) (x3 : FVec Ideal S1024x2176 .bf16) : val_main_v39 (F := Ideal) x0 x1 x2 x3 = outS x0 x1 x2 x3 := by
  funext i
  idx_vars i
  show _ = rowProj x0 x1 x2 i0 (fun d => x3 (ix2 d ⟨2048 + i1.val, by omega⟩)) * scale i1
  rw [← ref_wide]
  pointwise [val_main_v39, val_main_v38, val_main_v37, val_main_cst_4, val_main_v34, val_main_v33, val_main_v32]
  show _ = _ * if 64 ≤ i1.val ∧ i1.val < 72 then Ideal.ofBits FTy.f32 1052050675#32 else 1
  rcases lt_or_ge i1.val 64 with h | h
  · rw [dif_pos h]
    exact (mul_one _).symm.trans (congrArg (_ * ·) (if_neg (by omega)).symm)
  · by_cases h' : i1.val - 64 < 8
    · rw [dif_neg (by omega), dif_pos h']
      exact congrArg₂ (fun (k : Fin 2176) (u : EReal) => val_main_v27 (F := Ideal) x0 x1 x2 x3 (ix2 i0 k) * u) (Fin.ext (by show 2112 + (i1.val - 64) = 2048 + i1.val; omega))
        (if_pos (by omega)).symm
    · rw [dif_neg (by omega), dif_neg h']
      exact (mul_one _).symm.trans (congrArg₂ (fun (k : Fin 2176) (u : EReal) => val_main_v27 (F := Ideal) x0 x1 x2 x3 (ix2 i0 k) * u)
        (Fin.ext (by show 2120 + (i1.val - 64 - 8) = 2048 + i1.val; omega)) (if_neg (by omega)).symm)

end

end Cert.ProjSample

end
-- ==== Proof.ProjSample.Equation.lean ====
/- The attention projections of the sample tokens and their reference leave the same five results. -/
module

public import proofs.«01_k».proof.Defs
public import proofs.«01_k».proof.Proof.ProjSample.Array
public import proofs.«01_k».proof.Proof.ProjSample.Ref
public import Idealize.ShloMosaic.Lib.Claim

@[expose] public section

set_option maxRecDepth 16384

noncomputable section

namespace Cert.ProjSample

open Idealize.ShloMosaic Idealize.ShloMosaic.TcCoe Idealize.SL.Sem

set_option maxHeartbeats 1000000 in
/-- At Ideal, from equal arguments, both runs end and their five result arrays are equal. -/
theorem algebraic : Cert.algebraic_Kernel6Ideal_Reference6Ideal := by
  pair_intro
  · run_from Cert.Kernel6Ideal.Gen.run_main m g
  · run_from Cert.Reference6Ideal.Value.run m' g'
    all_goals obtain ⟨h0, h1, h2, h3⟩ := hagree c
    · rw [Cert.Reference6Ideal.Read.val_main_v35_eq, outQ_eq]
      exact (final5 m c).symm
    · rw [Cert.Reference6Ideal.Read.val_main_v36_eq, outI_eq]
      exact (final6 m c).symm
    · rw [Cert.Reference6Ideal.Read.val_main_v30_eq, outK_eq]
      exact (final7 m c).symm
    · rw [Cert.Reference6Ideal.Read.val_main_v31_eq, outV_eq]
      exact (final8 m c).symm
    · rw [Cert.Reference6Ideal.Read.val_main_v39_eq, outS_eq, h0, h1, h2, h3]
      exact (final9 m c).symm

end Cert.ProjSample

end
-- ==== Proof.FfnSample.Block.lean ====
/- The feed-forward call of the sample tokens: what one grid point stores. -/
module

public import proofs.«01_k».proof.Proof.Ffn.Block
public import proofs.«01_k».proof.Proof.Gen.Kernel7Ideal.Value
public import Idealize.ShloMosaic.Lib.Pointwise
public import Idealize.ShloMosaic.Lib.Pipeline.ValueKit

@[expose] public section

set_option maxRecDepth 16384

noncomputable section

namespace Cert.FfnSample

open Idealize.ShloMosaic Idealize.ShloMosaic.TcCoe Idealize.SL.Sem
open Cert.Rows Cert.Ffn

section
open Cert.Kernel7Ideal Cert.Kernel7Ideal.Gen

/-- The stored payload is the layer norm of the row `α x + (y + last slab)`. -/
theorem pay1_at (x : Vec Ideal S512x1024 .f32) (y : FVec Ideal S512x1024 .f32) (u : FVec Ideal S512x1024 .f32) (d : Vec Ideal S1024x1024 .bf16)
    (g b : Vec Ideal S1x1024 .f32) (r : Fin 512) (j : Fin 1024) :
    k0_pay1 (F := Ideal) x y u d g b (ix2 r j)
      = lnRow (fun e => Ideal.ofBits FTy.f32 1066940400#32 * x (ix2 r e)
          + (y (ix2 r e) + ∑ k, max (u (ix2 r k)) 0 * max (u (ix2 r k)) 0 * d (ix2 k e)))
          (g (ix2 0 j)) (b (ix2 0 j)) j := by
  pointwise [k0_pay1, lnRow]

/-- The first three slabs, added in order. -/
theorem pay3_at (v0 : Vec Ideal S512x1024 .f32) (u0 d0 u1 d1 u2 d2 : Vec Ideal S1024x1024 .bf16) (r : Fin 512) (j : Fin 1024) :
    k0_pay3 (F := Ideal) v0 u0 d0 u1 d1 u2 d2 (ix2 r j)
      = (∑ k, max (∑ d, v0 (ix2 r d) * u0 (ix2 d k)) 0 * max (∑ d, v0 (ix2 r d) * u0 (ix2 d k)) 0 * d0 (ix2 k j))
        + (∑ k, max (∑ d, v0 (ix2 r d) * u1 (ix2 d k)) 0 * max (∑ d, v0 (ix2 r d) * u1 (ix2 d k)) 0 * d1 (ix2 k j))
        + (∑ k, max (∑ d, v0 (ix2 r d) * u2 (ix2 d k)) 0 * max (∑ d, v0 (ix2 r d) * u2 (ix2 d k)) 0 * d2 (ix2 k j)) := by
  pointwise [k0_pay3, k0_pay2]

/-- The last slab's products before their activation. -/
theorem pay4_at (v0 : Vec Ideal S512x1024 .f32) (u : Vec Ideal S1024x1024 .bf16) (r : Fin 512) (k : Fin 1024) :
    k0_pay4 (F := Ideal) v0 u (ix2 r k) = ∑ d, v0 (ix2 r d) * u (ix2 d k) := by
  pointwise [k0_pay4, k0_pay2]

/-- What a point stores from its blocks: the layer norm of the feed-forward row. -/
theorem store_at (x0 : Vec Ideal S512x1024 .f32) (x1 : Vec Ideal S1024x4096 .bf16) (x2 : Vec Ideal S4096x1024 .bf16)
    (x3 x4 : Vec Ideal S1x1024 .f32) (r : Fin 512) (j : Fin 1024) :
    k0_pay1 (F := Ideal) x0
        (k0_pay3 x0 (View.ld x1 r0_1) (View.ld x2 r0_2) (View.ld x1 r0_3) (View.ld x2 r0_4) (View.ld x1 r0_5) (View.ld x2 r0_6))
        (k0_pay4 x0 (View.ld x1 r0_7)) (View.ld x2 r0_8) x3 x4 (ix2 r j)
      = lnRow (ffnRow (fun d => x0 (ix2 r d)) (fun d k => x1 (ix2 d k)) (fun k j => x2 (ix2 k j)))
          (x3 (ix2 0 j)) (x4 (ix2 0 j)) j := by
  rw [pay1_at]
  refine lnRow_congr (fun x => ?_) rfl rfl rfl
  rw [pay3_at, ffnRow, Fin.sum_univ_tiles 4 1024 rfl, Fin.sum_univ_four]
  simp only [pay4_at]
  pointwise [Ffn.hidden]

end

end Cert.FfnSample

end
-- ==== Proof.FfnSample.Array.lean ====
/- The array that the feed-forward call of the sample tokens leaves. -/
module

public import proofs.«01_k».proof.Proof.FfnSample.Block
public import Idealize.ShloMosaic.Lib.Claim

@[expose] public section

set_option maxRecDepth 16384

noncomputable section

namespace Cert.FfnSample

open Idealize.ShloMosaic Idealize.ShloMosaic.TcCoe Idealize.SL.Sem
open Cert.Rows Cert.Ffn
open Idealize.ShloMosaic.Pipeline (Dat)

section
open Cert.Kernel7Ideal Cert.Kernel7Ideal.Gen

/-- The result of the call, index by index, from its argument arrays. -/
def out (h : FVec Ideal S2048x1024 .f32) (wu : FVec Ideal S1024x4096 .bf16) (wd : FVec Ideal S4096x1024 .bf16)
    (g b : FVec Ideal S1x1024 .f32) : FVec Ideal S2048x1024 .f32 := fun i =>
  lnRow (ffnRow (fun d => h (ix2 (i 0) d)) (fun d k => wu (ix2 d k)) (fun k j => wd (ix2 k j))) (g (ix2 0 (i 1))) (b (ix2 0 (i 1))) (i 1)

variable (m : (ℓ : Loc nD τ sig) → Buf (Elt Ideal) ℓ)

/-- Where the windows stand at point `t`: rows from `512 t` on, and whole weights. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] :=
  (by decide +kernel : ∀ t : Fin grid0.N, _)

/-- The result array after the run. -/
theorem final (c : Dev nD) : (dats m 0 c).arrAt 5 (cfgs 0).N = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  idx_vars y
  refine (store_at (iblk m c 0 t) (iblk m c 1 t) (iblk m c 2 t) (iblk m c 3 t) (iblk m c 4 t) y0 y1).trans ?_
  simp only [out]
  blk_point [iblk, V, idx t]

end

end Cert.FfnSample

end
-- ==== Proof.FfnSample.Ref.lean ====
/- The sample feed-forward's reference at an index: the same normalised row. -/
module

public import proofs.«01_k».proof.Proof.FfnSample.Array
public import proofs.«01_k».proof.Proof.Gen.Reference7Ideal.Read

@[expose] public section

set_option maxRecDepth 16384

noncomputable section

namespace Cert.FfnSample

open Idealize.ShloMosaic Idealize.ShloMosaic.TcCoe Idealize.SL.Sem
open Cert.Rows Cert.Ffn

section
open Cert.Reference7Ideal.Read Cert.Reference7Ideal

/-- The row before normalisation. -/
theorem ref_row (x0 : FVec Ideal S2048x1024 .f32) (x1 : FVec Ideal S1024x4096 .bf16) (x2 : FVec Ideal S4096x1024 .bf16) (r : Fin 2048) (j : Fin 1024) :
    val_main_v8 (F := Ideal) x0 x1 x2 (ix2 r j) = ffnRow (fun d => x0 (ix2 r d)) (fun d k => x1 (ix2 d k)) (fun k j => x2 (ix2 k j)) j := by
  pointwise [val_main_v8, val_main_v7, val_main_v6, val_main_cst, val_main_v5, val_main_v4, val_main_v3, val_main_v2, val_main_call0_v0, val_main_call0_cst,
    val_main_v1, val_main_v0, ffnRow, Ffn.hidden]

/-- The normalised row. -/
theorem ref_at (x0 : FVec Ideal S2048x1024 .f32) (x1 : FVec Ideal S1024x4096 .bf16) (x2 : FVec Ideal S4096x1024 .bf16) (x3 x4 : FVec Ideal S1x1024 .f32) (r : Fin 2048) (j : Fin 1024) :
    val_main_v34 (F := Ideal) x0 x1 x2 x3 x4 (ix2 r j)
      = lnRow (fun j => val_main_v8 (F := Ideal) x0 x1 x2 (ix2 r j)) (x3 (ix2 0 j)) (x4 (ix2 0 j)) j := by
  pointwise [val_main_v34, val_main_v33, val_main_v32, val_main_v31, val_main_v30, val_main_v29, val_main_v28, val_main_v27, val_main_v26, val_main_v25,
    val_main_v24, val_main_v23, val_main_v22, val_main_cst_4, val_main_v21, val_main_v20, val_main_v19, val_main_v18, val_main_cst_3, val_main_v17,
    val_main_v16, val_main_cst_2, val_main_v15, val_main_v14, val_main_v13, val_main_v12, val_main_v11, val_main_cst_1, val_main_v10, val_main_v9,
    val_main_cst_0, lnRow]

/-- The reference's result is `out`. -/
theorem ref_eq (x0 : FVec Ideal S2048x1024 .f32) (x1 : FVec Ideal S1024x4096 .bf16) (x2 : FVec Ideal S4096x1024 .bf16) (x3 x4 : FVec Ideal S1x1024 .f32) : val_main_v34 (F := Ideal) x0 x1 x2 x3 x4 = out x0 x1 x2 x3 x4 := by
  funext i
  idx_vars i
  rw [ref_at]
  simp only [ref_row]
  rfl

end

end Cert.FfnSample

end
-- ==== Proof.FfnSample.Equation.lean ====
/- The feed-forward call of the sample tokens and its reference leave the same result. -/
module

public import proofs.«01_k».proof.Defs
public import proofs.«01_k».proof.Proof.FfnSample.Array
public import proofs.«01_k».proof.Proof.FfnSample.Ref
public import Idealize.ShloMosaic.Lib.Claim

@[expose] public section

set_option maxRecDepth 16384

noncomputable section

namespace Cert.FfnSample

open Idealize.ShloMosaic Idealize.ShloMosaic.TcCoe Idealize.SL.Sem

/-- At Ideal, from equal arguments, both runs end and their result arrays are equal. -/
theorem algebraic : Cert.algebraic_Kernel7Ideal_Reference7Ideal := by
  pair_intro
  · run_from Cert.Kernel7Ideal.Gen.run_main m g
  · run_from Cert.Reference7Ideal.Value.run m' g'
    obtain ⟨h0, h1, h2, h3, h4⟩ := hagree c
    rw [Cert.Reference7Ideal.Read.val_main_v34_eq, h0, h1, h2, h3, h4, ref_eq]
    exact (final m c).symm

end Cert.FfnSample

end
-- ==== Proof.GlaSample.Chunk.lean ====
/- The one chunk of 16 positions that the recurrence makes for a sample sequence, as the kernel's body computes it: the
   tensor expressions of the new state and of the output of one head, and what they are at an index.
   Throughout, `l` is the masked log-decay, `k` the masked key, `q` the scaled query, `v` the value of the chunk's
   positions (all four heads side by side), and `s` the state of one head, stored value-dimension first. -/
module

public import proofs.«01_k».proof.Proof.Gla.Chunk
public import proofs.«01_k».proof.Proof.Gen.Kernel8Ideal.Value
public import Idealize.ShloMosaic.Lib.Pointwise
public import Idealize.ShloMosaic.Lib.Pipeline.ValueKit

@[expose] public section

set_option maxRecDepth 16384

noncomputable section

namespace Cert.GlaSample

open Idealize.ShloMosaic Idealize.ShloMosaic.TcCoe Idealize.SL.Sem
open Cert.Gla (rms hk hv)

/-! ## The mathematics of a chunk, over functions of a position and a coordinate -/

/-- The accumulated log-decay of a chunk up to and including position `i`. -/
def dec (l : Fin 16 → EReal) (i : Fin 16) : EReal := ∑ u : Fin 16, if u ≤ i then l u else 0

/-- The state entry after a chunk: the entry before it, decayed over the chunk, plus the chunk's products of value
    and key, each key decayed from its position to the end of the chunk. -/
def stNext (l k v : Fin 16 → EReal) (s : EReal) : EReal :=
  Ideal.exp (dec l 15) * s + ∑ u, v u * (k u * Ideal.exp (dec l 15 - dec l u))

/-- The output of one head at position `i` and one value coordinate: the causal products within the chunk and what
    the state from before the chunk contributes. -/
def outRaw (l k q : Fin 16 → Fin 128 → EReal) (v : Fin 16 → EReal) (s : Fin 128 → EReal) (i : Fin 16) : EReal :=
  (∑ u, (if u ≤ i then ∑ d, q i d * Ideal.exp (dec (fun x => l x d) i) * (k u d * Ideal.exp (0 - dec (fun x => l x d) u)) else 0) * v u)
    + ∑ d, q i d * Ideal.exp (dec (fun x => l x d) i) * s d

/-- The choice by the bit `x ≤ i`, of two positions of a chunk written as words. -/
theorem select_causal (i x : Fin 16) (X Y : EReal) :
    Scalar.select (IntOp.cmpi .sge (BitVec.ofNat 32 i.val) (BitVec.ofNat 32 x.val)) X Y = if x ≤ i then X else Y := by
  rw [WordCmp.cmpi_sge_ofNat (by omega) (by omega), WordCmp.select_ofBool]
  simp only [decide_eq_true_eq, Fin.le_def]

/-- The choice by the bit that position `i` is a real one. -/
theorem select_valid (i : ℕ) (h : i < 16) (X Y : EReal) :
    Scalar.select (IntOp.andi (IntOp.cmpi .sge (IntOp.addi (BitVec.ofNat 32 0) (BitVec.ofNat 32 i)) (BitVec.ofNat 32 0))
      (IntOp.cmpi .slt (IntOp.addi (BitVec.ofNat 32 0) (BitVec.ofNat 32 i)) (BitVec.ofNat 32 8))) X Y
      = if i < 8 then X else Y := by
  rw [WordCmp.addi_ofNat, WordCmp.cmpi_sge_ofNat (by omega) (by omega), WordCmp.cmpi_slt_ofNat (by omega) (by omega),
    WordCmp.andi_ofBool, WordCmp.select_ofBool]
  simp

section
open Cert.Kernel8Ideal Cert.Kernel8Ideal.Gen

/-! ## The kernel's tensor expressions -/

theorem slk (h : Fin 4) : S16x512.Slices ![0, 128 * h.val] S16x128 := by revert h; decide
theorem slk1 (h : Fin 4) : S1x512.Slices ![0, 128 * h.val] S1x128 := by revert h; decide
theorem slv (h : Fin 4) : S16x1024.Slices ![0, 256 * h.val] S16x256 := by revert h; decide

/-- The query times the scale. -/
def scaled (x : Vec Ideal S16x512 .f32) : FVec Ideal S16x512 .f32 :=
  mulf x (broadcast S16x512 (Scalar.ofBits .f32 0x3DB504F3#32 : Ideal .f32))

/-- The accumulated log-decay: the product with the lower triangular matrix of ones. -/
def cum (l : FVec Ideal S16x512 .f32) : FVec Ideal S16x512 .f32 :=
  matmul dot_S16x16_S16x512_S16x512_1_0_0_1_n_n (some .fp32) k0_pay10 l (constant S16x512 .f32 0x00000000#32)

/-- Its last row. -/
def cumLast (l : FVec Ideal S16x512 .f32) : FVec Ideal S1x512 .f32 :=
  extractStridedSlice S1x512 ![15, 0] (cum l) slices_S16x512_o15_0_S1x512

/-- The query times the decay from the chunk's start. -/
def qd (l : FVec Ideal S16x512 .f32) (q : FVec Ideal S16x512 .f32) : FVec Ideal S16x512 .bf16 :=
  truncf .bf16 (mulf q (exp (cum l))) bitsLt_bf16_f32

/-- The key over the decay from the chunk's start. -/
def kd (l k : FVec Ideal S16x512 .f32) : FVec Ideal S16x512 .bf16 :=
  truncf .bf16 (mulf k (exp (subf (broadcast S16x512 (Scalar.ofBits .f32 0x00000000#32 : Ideal .f32)) (cum l)))) bitsLt_bf16_f32

/-- The key times the decay to the chunk's end. -/
def ke (l k : FVec Ideal S16x512 .f32) : FVec Ideal S16x512 .bf16 :=
  truncf .bf16 (mulf k (exp (subf (broadcastTo S16x512 (cumLast l) broadcasts_S1x512_S16x512) (cum l)))) bitsLt_bf16_f32

/-- The state of head `h` after the chunk. -/
def nextS (h : Fin 4) (l k : FVec Ideal S16x512 .f32) (v : FVec Ideal S16x1024 .bf16) (s : Vec Ideal S1x256x128 .f32) : FVec Ideal S1x256x128 .f32 :=
  shapeCast S1x256x128
    (addf (mulf (broadcastTo S256x128 (extractStridedSlice S1x128 ![0, 128 * h.val] (exp (cumLast l)) (slk1 h)) broadcasts_S1x128_S256x128)
        (shapeCast S256x128 s shapeCasts_S1x256x128_S256x128))
      (matmul dot_S16x256_S16x128_S256x128_0_0_1_1_n_n none (extractStridedSlice S16x256 ![0, 256 * h.val] v (slv h))
        (extractStridedSlice S16x128 ![0, 128 * h.val] (ke l k) (slk h)) (constant S256x128 .f32 0x00000000#32)))
    shapeCasts_S256x128_S1x256x128

/-- The output of head `h` before normalisation. -/
def rawO (h : Fin 4) (l k : FVec Ideal S16x512 .f32) (q : FVec Ideal S16x512 .f32) (v : FVec Ideal S16x1024 .bf16) (s : Vec Ideal S1x256x128 .f32) :
    FVec Ideal S16x256 .f32 :=
  addf
    (matmul dot_S16x16_S16x256_S16x256_1_0_0_1_n_n none
      (truncf .bf16 (select k0_pay9 (matmul dot_S16x128_S16x128_S16x16_1_1_0_0_n_n none (extractStridedSlice S16x128 ![0, 128 * h.val] (qd l q) (slk h))
        (extractStridedSlice S16x128 ![0, 128 * h.val] (kd l k) (slk h)) (constant S16x16 .f32 0x00000000#32))
        (broadcast S16x16 (Scalar.ofBits .f32 0x00000000#32 : Ideal .f32))) bitsLt_bf16_f32)
      (extractStridedSlice S16x256 ![0, 256 * h.val] v (slv h)) (constant S16x256 .f32 0x00000000#32))
    (matmul dot_S16x128_S256x128_S16x256_1_1_0_0_n_n none (extractStridedSlice S16x128 ![0, 128 * h.val] (qd l q) (slk h))
      (truncf .bf16 (shapeCast S256x128 s shapeCasts_S1x256x128_S256x128) bitsLt_bf16_f32) (constant S16x256 .f32 0x00000000#32))

/-- The normalised output of a head. -/
def normO (g : Vec Ideal S1x256 .f32) (o : FVec Ideal S16x256 .f32) : FVec Ideal S16x256 .f32 :=
  mulf (mulf o (broadcastTo S16x256
      (rsqrt (addf (divf (shapeCast S16x1 (multiReduction .add [1] S16 (mulf o o) 0x00000000#32 reduces_S16x256_S16 (.inl rfl) rfl) shapeCasts_S16_S16x1)
        (broadcast S16x1 (Scalar.ofBits .f32 0x43800000#32 : Ideal .f32))) (broadcast S16x1 (Scalar.ofBits .f32 0x3727C5AC#32 : Ideal .f32))))
      broadcasts_S16x1_S16x256))
    (broadcastTo S16x256 g broadcasts_S1x256_S16x256)

/-- The four heads' outputs side by side, times the gate. -/
def gated (o : Fin 4 → FVec Ideal S16x256 .f32) (og : Vec Ideal S16x1024 .f32) : FVec Ideal S16x1024 .bf16 :=
  truncf .bf16 (mulf (concatenate S16x1024 1 [⟨S16x256, o 0⟩, ⟨S16x256, o 1⟩, ⟨S16x256, o 2⟩, ⟨S16x256, o 3⟩]
    concatenates_S16x256_S16x256_S16x256_S16x256_S16x1024_d1) (mulf og (logistic og))) bitsLt_bf16_f32

/-! ## Their entries -/

theorem cum_at (l : FVec Ideal S16x512 .f32) (i : Fin 16) (d : Fin 512) : cum l (ix2 i d) = dec (fun u => l (ix2 u d)) i := by
  pointwise [cum, k0_pay10, k0_pay9, dec]
  simp only [select_causal]

theorem cumLast_at (l : FVec Ideal S16x512 .f32) (d : Fin 512) : cumLast l (ix2 0 d) = dec (fun u => l (ix2 u d)) 15 := by
  rw [← cum_at]
  pointwise [cumLast]

theorem nextS_at (h : Fin 4) (l k : FVec Ideal S16x512 .f32) (v : FVec Ideal S16x1024 .bf16) (s : Vec Ideal S1x256x128 .f32) (e : Fin 256) (d : Fin 128) :
    nextS h l k v s (ix3 0 e d) = stNext (fun u => l (ix2 u (hk h d))) (fun u => k (ix2 u (hk h d))) (fun u => v (ix2 u (hv h e))) (s (ix3 0 e d)) := by
  simp only [stNext, ← cum_at, hk, hv]
  have e : ∀ y, cumLast l (ix2 0 y) = cum l (ix2 15 y) := fun y => by rw [cumLast_at, cum_at]
  pointwise [nextS, ke, e]

theorem rawO_at (h : Fin 4) (l k : FVec Ideal S16x512 .f32) (q : FVec Ideal S16x512 .f32) (v : FVec Ideal S16x1024 .bf16) (s : Vec Ideal S1x256x128 .f32)
    (i : Fin 16) (e : Fin 256) :
    rawO h l k q v s (ix2 i e) = outRaw (fun u d => l (ix2 u (hk h d))) (fun u d => k (ix2 u (hk h d))) (fun u d => q (ix2 u (hk h d)))
      (fun u => v (ix2 u (hv h e))) (fun d => s (ix3 0 e d)) i := by
  simp only [outRaw, ← cum_at, hk, hv]
  pointwise [rawO, qd, kd, k0_pay9]
  simp only [select_causal, ite_mul, zero_mul]

theorem normO_at (g : Vec Ideal S1x256 .f32) (o : FVec Ideal S16x256 .f32) (i : Fin 16) (e : Fin 256) :
    normO g o (ix2 i e) = rms (fun x => o (ix2 i x)) (g (ix2 0 e)) e := by
  pointwise [normO, rms]

theorem gated_at (o : Fin 4 → FVec Ideal S16x256 .f32) (og : Vec Ideal S16x1024 .f32) (i : Fin 16) (h : Fin 4) (e : Fin 256) :
    gated o og (ix2 i (hv h e)) = o h (ix2 i e) * (og (ix2 i (hv h e)) * Ideal.logistic (og (ix2 i (hv h e)))) := by
  pointwise [gated]
  have hh := h.isLt
  have he := e.isLt
  have key : ∀ (k : Fin 4) (n : Fin 256), 256 * k.val + n.val = 256 * h.val + e.val → o k (ix2 i n) = o h (ix2 i e) := by
    intro k n hn
    obtain rfl : k = h := Fin.ext (by omega)
    obtain rfl : n = e := Fin.ext (by omega)
    rfl
  congr 1
  split_ifs
  all_goals first
    | exact key 0 _ (by simp <;> omega)
    | exact key 1 _ (by simp <;> omega)
    | exact key 2 _ (by simp <;> omega)
    | exact key 3 _ (by simp <;> omega)

/-- The masked log-decay rows keep the first eight positions and are zero on the rest. -/
theorem masked_at (i : grid0.Coords) (x : Vec Ideal S16x512 .f32) (u : Fin 16) (d : Fin 512) :
    k0_pay12 i x (ix2 u d) = if u.val < 8 then x (ix2 u d) else 0 := by
  have h0 : (i 1).val = 0 := by have h : (i 1).val < 1 := (i 1).isLt; omega
  rw [← select_valid u.val u.isLt]
  simp only [k0_pay12, k0_pay11, h0]
  pointwise []
  rfl

/-- So do the masked key rows. -/
theorem masked_key_at (i : grid0.Coords) (x : Vec Ideal S16x512 .f32) (u : Fin 16) (d : Fin 512) :
    k0_pay13 i x (ix2 u d) = if u.val < 8 then x (ix2 u d) else 0 := masked_at i x u d

end

end Cert.GlaSample

end
-- ==== Proof.GlaSample.Point.lean ====
/- What one grid point of the sample sequences' recurrence leaves: the gated outputs of the sequence's chunk and the heads'
   states after it. -/
module

public import proofs.«01_k».proof.Proof.GlaSample.Chunk
public import proofs.«01_k».proof.Proof.Gla.Point
public import Idealize.ShloMosaic.Lib.Pipeline.ReadBack

@[expose] public section

set_option maxRecDepth 16384

noncomputable section

namespace Cert.GlaSample

open Idealize.ShloMosaic Idealize.ShloMosaic.TcCoe Idealize.SL.Sem
open Cert.Kernel8Ideal Cert.Kernel8Ideal.Gen
open Cert.Gla (inb7 emb7 turned canon_final)

/-- A head's old state turned value-dimension first, as the chunk takes it. -/
def turnIn (s : Vec Ideal S1x1x128x256 .f32) : Vec Ideal S1x256x128 .f32 :=
  shapeCast S1x256x128 (transpose S256x128 [1, 0] (shapeCast S128x256 s shapeCasts_S1x1x128x256_S128x256) transposes_S128x256_p1_0_S256x128)
    shapeCasts_S256x128_S1x256x128

theorem turnIn_at (s : Vec Ideal S1x1x128x256 .f32) (e : Fin 256) (d : Fin 128) : turnIn s (ix3 0 e d) = s (ix4 0 0 d e) := by
  pointwise [turnIn]

/-- The old state of head `h`, turned. -/
def old (x : Vec Ideal S1x4x128x256 .f32) (h : Fin 4) : Vec Ideal S1x256x128 .f32 :=
  turnIn (View.ld x (Rect.unit (s := S1x4x128x256) ![0, h.val, 0, 0] ![1, 1, 128, 256] (inb7 h)))

theorem old_at (x : Vec Ideal S1x4x128x256 .f32) (h : Fin 4) (e : Fin 256) (d : Fin 128) : old x h (ix3 0 e d) = x (ix4 0 h d e) := by
  rw [old, turnIn_at]
  exact congrArg x (emb7 h 0 0 d e)

/-- The state of head `h` after the chunk. -/
def newS (i : grid0.Coords) (xk : Vec Ideal S16x512 .f32) (xv : Vec Ideal S16x1024 .bf16) (xl : Vec Ideal S16x512 .f32) (xs : Vec Ideal S1x4x128x256 .f32)
    (h : Fin 4) : Vec Ideal S1x256x128 .f32 :=
  nextS h (k0_pay12 i xl) (k0_pay13 i xk) xv (old xs h)

/-- The stored rows. -/
def outRows (i : grid0.Coords) (xq xk : Vec Ideal S16x512 .f32) (xv : Vec Ideal S16x1024 .bf16) (xo : Vec Ideal S16x1024 .f32) (xl : Vec Ideal S16x512 .f32)
    (g : Vec Ideal S1x256 .f32) (xs : Vec Ideal S1x4x128x256 .f32) : FVec Ideal S16x1024 .bf16 :=
  gated (fun h => normO g (rawO h (k0_pay12 i xl) (k0_pay13 i xk) (scaled xq) xv (old xs h))) xo

variable (m : (ℓ : Loc nD τ sig) → Buf (Elt Ideal) ℓ)

set_option maxHeartbeats 1000000 in
/-- The output rows that a point stores. -/
theorem rows_at (c : Dev nD) (t : Fin cfg0.N) :
    (outsAt0 m c t).1 = outRows (grid0.coords t) (iblk m c 0 t) (iblk m c 1 t) (iblk m c 2 t) (iblk m c 3 t) (iblk m c 4 t) (iblk m c 5 t) (iblk m c 6 t) := by
  unfold outsAt0
  frame_open
  simp (discharger := decide) only [↓View.readCov_skip, ↓View.readCov_cons_toLoadRect]
  frame_out
  rfl

set_option maxHeartbeats 1000000 in
/-- The final state that a point stores: the state of each head after the chunk, turned back. -/
theorem final_at (c : Dev nD) (t : Fin cfg0.N) (h : Fin 4) (d : Fin 128) (e : Fin 256) :
    (outsAt0 m c t).2 (ix4 0 h d e) = newS (grid0.coords t) (iblk m c 1 t) (iblk m c 2 t) (iblk m c 4 t) (iblk m c 6 t) h (ix3 0 e d) := by
  unfold outsAt0
  frame_open
  simp (discharger := decide) only [↓View.readCov_skip, ↓View.readCov_cons_toLoadRect]
  frame_out
  exact canon_final (fun h => newS (grid0.coords t) (iblk m c 1 t) (iblk m c 2 t) (iblk m c 4 t) (iblk m c 6 t) h)
    _ _ _ _ rfl rfl rfl rfl h d e

end Cert.GlaSample

end
-- ==== Proof.GlaSample.Rec.lean ====
/- The recurrence's one chunk for each sample sequence, from the seven argument arrays: the state after it and the normalised,
   gated output. -/
module

public import proofs.«01_k».proof.Proof.GlaSample.Chunk

@[expose] public section

set_option maxRecDepth 16384

noncomputable section

namespace Cert.GlaSample

open Idealize.ShloMosaic Idealize.ShloMosaic.TcCoe Idealize.SL.Sem
open Cert.Kernel8Ideal
open Cert.Gla (rms hk hv)

/-- The row of position `i` of sequence `b`: sequences of 16 positions lie one after the other. -/
abbrev row (b : Fin 128) (i : Fin 16) : Fin 2048 := ⟨16 * b.val + i.val, by omega⟩

/-- An entry of the chunk, set to zero where its position is not among the first eight. -/
def real (x : FVec Ideal S2048x512 .f32) (b : Fin 128) (i : Fin 16) (d : Fin 512) : EReal :=
  if i.val < 8 then x (ix2 (row b i) d) else 0

/-- The state of head `h` after the chunk. -/
def st (gk la : FVec Ideal S2048x512 .f32) (gv : FVec Ideal S2048x1024 .bf16) (s0 : FVec Ideal S128x4x128x256 .f32)
    (b : Fin 128) (h : Fin 4) (d : Fin 128) (e : Fin 256) : EReal :=
  stNext (fun u => real la b u (hk h d)) (fun u => real gk b u (hk h d)) (fun u => gv (ix2 (row b u) (hv h e))) (s0 (ix4 b h d e))

/-- The scaled query. -/
def query (gq : FVec Ideal S2048x512 .f32) (b : Fin 128) (i : Fin 16) (d : Fin 512) : EReal :=
  gq (ix2 (row b i) d) * Ideal.ofBits FTy.f32 0x3DB504F3#32

/-- The output of head `h` before normalisation, at position `i`, value coordinate `e`. -/
def raw (gq gk la : FVec Ideal S2048x512 .f32) (gv : FVec Ideal S2048x1024 .bf16) (s0 : FVec Ideal S128x4x128x256 .f32) (b : Fin 128) (i : Fin 16) (h : Fin 4) (e : Fin 256) : EReal :=
  outRaw (fun u d => real la b u (hk h d)) (fun u d => real gk b u (hk h d)) (fun u d => query gq b u (hk h d))
    (fun u => gv (ix2 (row b u) (hv h e))) (fun d => s0 (ix4 b h d e)) i

/-- The result entry: the normalised output times the gate. -/
def res (gq gk la : FVec Ideal S2048x512 .f32) (gv : FVec Ideal S2048x1024 .bf16) (s0 : FVec Ideal S128x4x128x256 .f32) (og : FVec Ideal S2048x1024 .f32) (gn : FVec Ideal S1x256 .f32) (b : Fin 128) (i : Fin 16) (h : Fin 4) (e : Fin 256) : EReal :=
  rms (fun x => raw gq gk la gv s0 b i h x) (gn (ix2 0 e)) e
    * (og (ix2 (row b i) (hv h e)) * Ideal.logistic (og (ix2 (row b i) (hv h e))))

/-- The result array of gated outputs. -/
def outArr (gq gk la : FVec Ideal S2048x512 .f32) (gv : FVec Ideal S2048x1024 .bf16) (s0 : FVec Ideal S128x4x128x256 .f32) (og : FVec Ideal S2048x1024 .f32) (gn : FVec Ideal S1x256 .f32) : FVec Ideal S2048x1024 .bf16 := fun y =>
  res gq gk la gv s0 og gn ⟨(y 0).val / 16, Nat.div_lt_of_lt_mul (y 0).isLt⟩ ⟨(y 0).val % 16, by omega⟩
    ⟨(y 1).val / 256, Nat.div_lt_of_lt_mul (y 1).isLt⟩ ⟨(y 1).val % 256, by omega⟩

/-- The array of final states. -/
def stArr (gk la : FVec Ideal S2048x512 .f32) (gv : FVec Ideal S2048x1024 .bf16) (s0 : FVec Ideal S128x4x128x256 .f32) : FVec Ideal S128x4x128x256 .f32 := fun y =>
  st gk la gv s0 (y 0) (y 1) (y 2) (y 3)

theorem outArr_at (gq gk la : FVec Ideal S2048x512 .f32) (gv : FVec Ideal S2048x1024 .bf16) (s0 : FVec Ideal S128x4x128x256 .f32) (og : FVec Ideal S2048x1024 .f32) (gn : FVec Ideal S1x256 .f32) (b : Fin 128) (i : Fin 16) (h : Fin 4) (e : Fin 256)
    (r : Fin 2048) (k : Fin 1024) (hr : r = row b i) (hc : k = hv h e) :
    outArr gq gk la gv s0 og gn (ix2 r k) = res gq gk la gv s0 og gn b i h e := by
  subst hr hc
  have e1 : (16 * b.val + i.val) / 16 = b.val := by omega
  have e2 : (16 * b.val + i.val) % 16 = i.val := by omega
  have e3 : (256 * h.val + e.val) / 256 = h.val := by omega
  have e4 : (256 * h.val + e.val) % 256 = e.val := by omega
  show res gq gk la gv s0 og gn ⟨(16 * b.val + i.val) / 16, _⟩ ⟨(16 * b.val + i.val) % 16, _⟩ ⟨(256 * h.val + e.val) / 256, _⟩ ⟨(256 * h.val + e.val) % 256, _⟩ = _
  simp only [e1, e2, e3, e4]

/-- An index of the outputs is a position of a sequence and a coordinate of a head. -/
theorem split (y0 : Fin 2048) (y1 : Fin 1024) : ∃ (b : Fin 128) (i : Fin 16) (h : Fin 4) (e : Fin 256), y0 = row b i ∧ y1 = hv h e :=
  ⟨⟨y0.val / 16, by omega⟩, ⟨y0.val % 16, by omega⟩, ⟨y1.val / 256, by omega⟩, ⟨y1.val % 256, by omega⟩,
    Fin.ext (by show y0.val = 16 * (y0.val / 16) + y0.val % 16; omega), Fin.ext (by show y1.val = 256 * (y1.val / 256) + y1.val % 256; omega)⟩

end Cert.GlaSample

end
-- ==== Proof.GlaSample.Array.lean ====
/- The two result arrays of the sample sequences' recurrence after the run. -/
module

public import proofs.«01_k».proof.Proof.GlaSample.Point
public import proofs.«01_k».proof.Proof.GlaSample.Rec
public import Idealize.ShloMosaic.Lib.Claim

@[expose] public section

set_option maxRecDepth 16384

noncomputable section

namespace Cert.GlaSample

open Idealize.ShloMosaic Idealize.ShloMosaic.TcCoe Idealize.SL.Sem
open Idealize.ShloMosaic.Pipeline (Dat)
open Cert.Kernel8Ideal Cert.Kernel8Ideal.Gen
open Cert.Gla (rms hk hv)

variable (m : (ℓ : Loc nD τ sig) → Buf (Elt Ideal) ℓ)

/-- Where the windows stand at point `t`: block `t` of 16 rows, and sequence `t` of the states. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0, 0, 0]
    ∧ win0_7.index t = ![t.val, 0] ∧ win0_8.index t = ![t.val, 0, 0, 0] ∧ t.val < 128 :=
  (by decide +kernel : ∀ t : Fin grid0.N, _)

variable (c : Dev nD) (t : Fin cfg0.N)

theorem lt128 : t.val < 128 := (idx t).2.2.2.2.2.2.2.2.2

/-- The sequence that point `t` works on. -/
abbrev sq : Fin 128 := ⟨t.val, lt128 t⟩

theorem blk0 (u : Fin 16) (d : Fin 512) : iblk m c 0 t (ix2 u d) = m ((c : Thread nD τ).loc main_arg0) (ix2 (row (sq t) u) d) := by
  blk_point [iblk, V, idx t]
theorem blk1 (u : Fin 16) (d : Fin 512) : iblk m c 1 t (ix2 u d) = m ((c : Thread nD τ).loc main_arg1) (ix2 (row (sq t) u) d) := by
  blk_point [iblk, V, idx t]
theorem blk2 (u : Fin 16) (d : Fin 1024) : iblk m c 2 t (ix2 u d) = m ((c : Thread nD τ).loc main_arg2) (ix2 (row (sq t) u) d) := by
  blk_point [iblk, V, idx t]
theorem blk3 (u : Fin 16) (d : Fin 1024) : iblk m c 3 t (ix2 u d) = m ((c : Thread nD τ).loc main_arg3) (ix2 (row (sq t) u) d) := by
  blk_point [iblk, V, idx t]
theorem blk4 (u : Fin 16) (d : Fin 512) : iblk m c 4 t (ix2 u d) = m ((c : Thread nD τ).loc main_arg4) (ix2 (row (sq t) u) d) := by
  blk_point [iblk, V, idx t]
theorem blk5 (u : Fin 1) (d : Fin 256) : iblk m c 5 t (ix2 u d) = m ((c : Thread nD τ).loc main_arg5) (ix2 u d) := by
  blk_point [iblk, V, idx t]
theorem blk6 (h : Fin 4) (d : Fin 128) (e : Fin 256) : iblk m c 6 t (ix4 0 h d e) = m ((c : Thread nD τ).loc main_arg6) (ix4 (sq t) h d e) := by
  blk_point [iblk, V, idx t]

/-- The masked log-decay rows of a point. -/
theorem lm4 (u : Fin 16) (d : Fin 512) : k0_pay12 (grid0.coords t) (iblk m c 4 t) (ix2 u d) = real (m ((c : Thread nD τ).loc main_arg4)) (sq t) u d := by
  rw [masked_at, blk4, real]

/-- The masked key rows of a point. -/
theorem lm1 (u : Fin 16) (d : Fin 512) : k0_pay13 (grid0.coords t) (iblk m c 1 t) (ix2 u d) = real (m ((c : Thread nD τ).loc main_arg1)) (sq t) u d := by
  rw [masked_key_at, blk1, real]

/-- The scaled queries of a point. -/
theorem sc0 (u : Fin 16) (d : Fin 512) : scaled (iblk m c 0 t) (ix2 u d) = query (m ((c : Thread nD τ).loc main_arg0)) (sq t) u d := by
  rw [query]
  refine Eq.trans ?_ (congrArg (· * Ideal.ofBits FTy.f32 0x3DB504F3#32) (blk0 m c t u d))
  pointwise [scaled]

/-- A point's output block holds the gated outputs. -/
theorem block_at (i : Fin 16) (h : Fin 4) (e : Fin 256) :
    outRows (grid0.coords t) (iblk m c 0 t) (iblk m c 1 t) (iblk m c 2 t) (iblk m c 3 t) (iblk m c 4 t) (iblk m c 5 t) (iblk m c 6 t) (ix2 i (hv h e))
      = res (m ((c : Thread nD τ).loc main_arg0)) (m ((c : Thread nD τ).loc main_arg1)) (m ((c : Thread nD τ).loc main_arg4)) (m ((c : Thread nD τ).loc main_arg2)) (m ((c : Thread nD τ).loc main_arg6))
          (m ((c : Thread nD τ).loc main_arg3)) (m ((c : Thread nD τ).loc main_arg5)) (sq t) i h e := by
  rw [outRows, gated_at, normO_at]
  simp only [rawO_at, lm4, lm1, sc0, old_at, blk2, blk3, blk5, blk6]
  rfl

/-- A point's state block holds the states after the chunk. -/
theorem state_at (h : Fin 4) (d : Fin 128) (e : Fin 256) :
    newS (grid0.coords t) (iblk m c 1 t) (iblk m c 2 t) (iblk m c 4 t) (iblk m c 6 t) h (ix3 0 e d)
      = st (m ((c : Thread nD τ).loc main_arg1)) (m ((c : Thread nD τ).loc main_arg4)) (m ((c : Thread nD τ).loc main_arg2)) (m ((c : Thread nD τ).loc main_arg6)) (sq t) h d e := by
  rw [newS, nextS_at]
  simp only [lm4, lm1, old_at, blk2, blk6]
  rfl

/-- The result array of gated outputs after the run. -/
theorem final7 : (dats m 0 c).arrAt 7 (cfgs 0).N
    = outArr (m ((c : Thread nD τ).loc main_arg0)) (m ((c : Thread nD τ).loc main_arg1)) (m ((c : Thread nD τ).loc main_arg4)) (m ((c : Thread nD τ).loc main_arg2)) (m ((c : Thread nD τ).loc main_arg6))
        (m ((c : Thread nD τ).loc main_arg3)) (m ((c : Thread nD τ).loc main_arg5)) := by
  refine (dats m 0 c).arrAt_eq_of_covers 7 _ (by decide +kernel) fun t _ y => ?_
  blk_simp
  rw [after0_7]
  idx_vars y
  obtain ⟨h, e, he⟩ : ∃ (h : Fin 4) (e : Fin 256), y1 = hv h e :=
    ⟨⟨y1.val / 256, by omega⟩, ⟨y1.val % 256, by omega⟩, Fin.ext (by show y1.val = 256 * (y1.val / 256) + y1.val % 256; omega)⟩
  subst he
  rw [rows_at]
  have hemb : ((View.whole main_v0_0).slice (win0_7.rect t)).emb (ix2 y0 (hv h e)) = ix2 (row (sq t) y0) (hv h e) := by
    blk_point [idx t]
  rw [hemb, outArr_at _ _ _ _ _ _ _ (sq t) y0 h e _ _ rfl rfl]
  exact block_at m c t y0 h e

/-- The array of final states after the run. -/
theorem final8 : (dats m 0 c).arrAt 8 (cfgs 0).N = stArr (m ((c : Thread nD τ).loc main_arg1)) (m ((c : Thread nD τ).loc main_arg4)) (m ((c : Thread nD τ).loc main_arg2)) (m ((c : Thread nD τ).loc main_arg6)) := by
  refine (dats m 0 c).arrAt_eq_of_covers 8 _ (by decide +kernel) fun t _ y => ?_
  blk_simp
  rw [after0_8]
  idx_vars y
  obtain rfl : y0 = 0 := Subsingleton.elim _ _
  have hemb : ((View.whole main_v0_1).slice (win0_8.rect t)).emb (ix4 0 y1 y2 y3) = ix4 (sq t) y1 y2 y3 := by
    blk_point [idx t]
  rw [hemb, final_at, state_at]
  rfl

end Cert.GlaSample

end
-- ==== Proof.GlaSample.Cumsum.lean ====
/- The running sum along a sample sequence's chunk, as the reference takes it. -/
module

public import proofs.«01_k».proof.Proof.GlaSample.Rec
public import proofs.«01_k».proof.Proof.Gla.Cumsum
public import proofs.«01_k».proof.Reference8Ideal

@[expose] public section

set_option maxRecDepth 16384

noncomputable section

namespace Cert.GlaSample

open Idealize.ShloMosaic Idealize.ShloMosaic.TcCoe Idealize.SL.Sem
open Cert.Reference8Ideal

/-- The running sum of a chunk at position `i` is the sum of the entries up to `i`. -/
theorem cumsum_at (x : FVec Ideal S128x16x4x128 .f32) (z : FVec Ideal S_ .f32) (hz : ∀ j, z j = 0)
    (hw : S128x16x4x128.ReduceWindows ![1, 16, 1, 1] ![1, 1, 1, 1] ![0, 15, 0, 0] ![0, 0, 0, 0] S128x16x4x128) (hu : 0 < S_.numel)
    (b : Fin 128) (i : Fin 16) (h : Fin 4) (d : Fin 128) :
    Host.reduceWindowAdd ![1, 16, 1, 1] ![1, 1, 1, 1] ![0, 15, 0, 0] ![0, 0, 0, 0] x z hw hu (ix4 b i h d)
      = dec (fun u => x (ix4 b u h d)) i := by
  rw [Host.reduceWindowAdd, hz]
  show Ideal.hostReduceWindowAdd _ _ _ _ hw x 0 (ix4 b i h d) = _
  rw [Ideal.hostReduceWindowAdd, Host.reduceWindow]
  refine (Cert.Gla.foldl_add_eq _ _ _).trans ?_
  rw [zero_add]
  let W : Shape := ⟨4, ![1, 16, 1, 1]⟩
  let G : W.Idx → EReal := fun w =>
    if hin : 15 ≤ i.val + (w 1).val then x (ix4 b ⟨i.val + (w 1).val - 15, by have : (w 1).val < 16 := (w 1).isLt; omega⟩ h d) else 0
  refine (Finset.sum_congr (g := fun p => G (W.rowMajor.symm p)) rfl fun p _ => ?_).trans ((Equiv.sum_comp W.rowMajor.symm G).trans ?_)
  · show _ = G (W.rowMajor.symm p)
    let w : W.Idx := W.rowMajor.symm p
    show _ = G w
    have w0 : (w 0).val = 0 := by have : (w 0).val < 1 := (w 0).isLt; omega
    have w1 : (w 1).val < 16 := (w 1).isLt
    have w2 : (w 2).val = 0 := by have : (w 2).val < 1 := (w 2).isLt; omega
    have w3 : (w 3).val = 0 := by have : (w 3).val < 1 := (w 3).isLt; omega
    by_cases hc : 15 ≤ i.val + (w 1).val
    · refine Eq.trans ?_ (dif_pos (c := 15 ≤ i.val + (w 1).val) hc).symm
      refine (dif_pos ?_).trans ?_
      · intro a
        fin_cases a
        · show 0 ≤ b.val * 1 + (w 0).val ∧ b.val * 1 + (w 0).val - 0 < 128; omega
        · show 15 ≤ i.val * 1 + (w 1).val ∧ i.val * 1 + (w 1).val - 15 < 16; omega
        · show 0 ≤ h.val * 1 + (w 2).val ∧ h.val * 1 + (w 2).val - 0 < 4; omega
        · show 0 ≤ d.val * 1 + (w 3).val ∧ d.val * 1 + (w 3).val - 0 < 128; omega
      · refine congrArg x (funext fun a => Fin.ext ?_)
        fin_cases a
        · show b.val * 1 + (w 0).val - 0 = b.val; omega
        · show i.val * 1 + (w 1).val - 15 = i.val + (w 1).val - 15; omega
        · show h.val * 1 + (w 2).val - 0 = h.val; omega
        · show d.val * 1 + (w 3).val - 0 = d.val; omega
    · refine Eq.trans ?_ (dif_neg (c := 15 ≤ i.val + (w 1).val) hc).symm
      refine dif_neg ?_
      intro hin
      have h2 : 15 ≤ i.val * 1 + (w 1).val := (hin 1).1
      omega
  · rw [dec, ← Finset.sum_filter, ← Finset.sum_filter_add_sum_filter_not Finset.univ (fun w : W.Idx => 15 ≤ i.val + (w 1).val) G,
      Finset.sum_eq_zero (s := Finset.univ.filter fun w : W.Idx => ¬ 15 ≤ i.val + (w 1).val) (fun w hw => dif_neg (Finset.mem_filter.mp hw).2), add_zero]
    refine Finset.sum_bij' (fun w _ => ⟨i.val + (w 1).val - 15, by have : (w 1).val < 16 := (w 1).isLt; omega⟩)
      (fun u hu => (ix4 0 ⟨u.val + 15 - i.val, by have := (Finset.mem_filter.mp hu).2; have : u.val ≤ i.val := this; omega⟩ 0 0 : W.Idx)) ?_ ?_ ?_ ?_ ?_
    · intro w hw
      have : (w 1).val < 16 := (w 1).isLt
      exact Finset.mem_filter.mpr ⟨Finset.mem_univ _, show i.val + (w 1).val - 15 ≤ i.val by omega⟩
    · intro u hu
      have h1 : u.val ≤ i.val := (Finset.mem_filter.mp hu).2
      exact Finset.mem_filter.mpr ⟨Finset.mem_univ _, show 15 ≤ i.val + (u.val + 15 - i.val) by omega⟩
    · intro w hw
      have h1 : 15 ≤ i.val + (w 1).val := (Finset.mem_filter.mp hw).2
      have w1 : (w 1).val < 16 := (w 1).isLt
      funext a
      fin_cases a
      · exact Fin.ext (by have : (w 0).val < 1 := (w 0).isLt; show 0 = (w 0).val; omega)
      · exact Fin.ext (show i.val + (w 1).val - 15 + 15 - i.val = (w 1).val by omega)
      · exact Fin.ext (by have : (w 2).val < 1 := (w 2).isLt; show 0 = (w 2).val; omega)
      · exact Fin.ext (by have : (w 3).val < 1 := (w 3).isLt; show 0 = (w 3).val; omega)
    · intro u hu
      have h1 : u.val ≤ i.val := (Finset.mem_filter.mp hu).2
      exact Fin.ext (show i.val + (u.val + 15 - i.val) - 15 = u.val by omega)
    · intro w hw
      exact dif_pos (c := 15 ≤ i.val + (w 1).val) (Finset.mem_filter.mp hw).2

end Cert.GlaSample

end
-- ==== Proof.GlaSample.Ref.lean ====
/- What the reference of the sample sequences' recurrence holds: the states after the chunk and the gated, normalised outputs. -/
module

public import proofs.«01_k».proof.Proof.GlaSample.Cumsum
public import proofs.«01_k».proof.Proof.Gen.Reference8Ideal.Read

@[expose] public section

set_option maxRecDepth 16384

noncomputable section

namespace Cert.GlaSample

open Idealize.ShloMosaic Idealize.ShloMosaic.TcCoe Idealize.SL.Sem
open Cert.Reference8Ideal Cert.Reference8Ideal.Read
open Cert.Gla (rms hk hv)

/-- The first eight positions, as a one-bit tensor. -/
theorem valid_at (i : Fin 16) : val_main_v3 (F := Ideal) (ix4 0 i 0 0) = BitVec.ofBool (decide (i.val < 8)) := by
  pointwise [val_main_v3, val_main_v2, val_main_v1, val_main_v0, val_main_c]
  rw [show (8#32 : BitVec 32) = BitVec.ofNat 32 8 from rfl, WordCmp.cmpi_slt_ofNat (by omega) (by omega)]

/-- The scaled queries. -/
theorem ref_q (x0 : FVec Ideal S2048x512 .f32) (b : Fin 128) (i : Fin 16) (h : Fin 4) (d : Fin 128) :
    val_main_v6 (F := Ideal) x0 (ix4 b i h d) = query x0 b i (hk h d) := by
  have e1 : b.val * 16 + i.val = 16 * b.val + i.val := by omega
  have e2 : h.val * 128 + d.val = 128 * h.val + d.val := by omega
  simp only [query, row, hk, ← e1, ← e2]
  pointwise [val_main_v6, val_main_v5, val_main_v4, val_main_cst]

/-- The masked keys. -/
theorem ref_k (x1 : FVec Ideal S2048x512 .f32) (b : Fin 128) (i : Fin 16) (h : Fin 4) (d : Fin 128) :
    val_main_v8 (F := Ideal) x1 (ix4 b i h d) = real x1 b i (hk h d) := by
  have e1 : b.val * 16 + i.val = 16 * b.val + i.val := by omega
  have e2 : h.val * 128 + d.val = 128 * h.val + d.val := by omega
  simp only [real, row, hk, ← e1, ← e2]
  pointwise [val_main_v8, val_main_v7, val_main_call0_v2, val_main_call0_v1, val_main_call0_v0, val_main_cst_0]
  rw [valid_at, WordCmp.select_ofBool]
  simp only [decide_eq_true_eq]
  refine if_congr Iff.rfl rfl ?_
  pointwise [id]

/-- The values. -/
theorem ref_v (x2 : FVec Ideal S2048x1024 .bf16) (b : Fin 128) (i : Fin 16) (h : Fin 4) (e : Fin 256) :
    val_main_v10 (F := Ideal) x2 (ix4 b i h e) = x2 (ix2 (row b i) (hv h e)) := by
  have e1 : b.val * 16 + i.val = 16 * b.val + i.val := by omega
  have e2 : h.val * 256 + e.val = 256 * h.val + e.val := by omega
  simp only [row, hv, ← e1, ← e2]
  pointwise [val_main_v10, val_main_v9]

/-- The masked log decays: masked as the keys are. -/
theorem ref_l (x4 : FVec Ideal S2048x512 .f32) (b : Fin 128) (i : Fin 16) (h : Fin 4) (d : Fin 128) :
    val_main_v12 (F := Ideal) x4 (ix4 b i h d) = real x4 b i (hk h d) := ref_k x4 b i h d

/-- The running sums of the masked log decays. -/
theorem ref_b (x4 : FVec Ideal S2048x512 .f32) (b : Fin 128) (i : Fin 16) (h : Fin 4) (d : Fin 128) :
    val_main_v13 (F := Ideal) x4 (ix4 b i h d) = dec (fun u => real x4 b u (hk h d)) i := by
  rw [val_main_v13, cumsum_at _ _ (fun j => by pointwise [val_main_call2_call0_v0, val_main_call2_call0_cst])]
  simp only [ref_l]

/-- The last of them. -/
theorem ref_last (x4 : FVec Ideal S2048x512 .f32) (b : Fin 128) (h : Fin 4) (d : Fin 128) :
    val_main_v14 (F := Ideal) x4 (ix4 b 0 h d) = dec (fun u => real x4 b u (hk h d)) 15 := by
  rw [← ref_b]
  pointwise [val_main_v14]

/-- The causal mask. -/
theorem ref_m (i u : Fin 16) : val_main_v21 (F := Ideal) (ix2 i u) = BitVec.ofBool (decide (u ≤ i)) := by
  pointwise [val_main_v21, val_main_v20, val_main_c_2, val_main_call3_v5, val_main_call3_v4, val_main_call3_v3, val_main_call3_v2, val_main_call3_v1, val_main_call3_v0,
    val_main_call3_c, val_main_call3_c_0]
  rw [show (0#32 : BitVec 32) = BitVec.ofNat 32 0 from rfl, WordCmp.addi_ofNat, Nat.add_zero, WordCmp.cmpi_sge_ofNat (by omega) (by omega), WordCmp.select_ofBool]
  by_cases h : u ≤ i
  · simp [h]
  · simp [h]

/-- The query times the decay from the chunk's start. -/
theorem ref_qd (x0 x4 : FVec Ideal S2048x512 .f32) (b : Fin 128) (i : Fin 16) (h : Fin 4) (d : Fin 128) :
    val_main_v16 (F := Ideal) x0 x4 (ix4 b i h d) = query x0 b i (hk h d) * Ideal.exp (dec (fun u => real x4 b u (hk h d)) i) := by
  rw [← ref_q, ← ref_b]
  pointwise [val_main_v16, val_main_v15]

/-- The key over the decay from the chunk's start. -/
theorem ref_kd (x1 x4 : FVec Ideal S2048x512 .f32) (b : Fin 128) (i : Fin 16) (h : Fin 4) (d : Fin 128) :
    val_main_v19 (F := Ideal) x1 x4 (ix4 b i h d) = real x1 b i (hk h d) * Ideal.exp (0 - dec (fun u => real x4 b u (hk h d)) i) := by
  rw [← ref_k, ← ref_b, zero_sub]
  pointwise [val_main_v19, val_main_v18, val_main_v17]

/-- The key times the decay to the chunk's end. -/
theorem ref_ke (x1 x4 : FVec Ideal S2048x512 .f32) (b : Fin 128) (i : Fin 16) (h : Fin 4) (d : Fin 128) :
    val_main_v37 (F := Ideal) x1 x4 (ix4 b i h d)
      = real x1 b i (hk h d) * Ideal.exp (dec (fun u => real x4 b u (hk h d)) 15 - dec (fun u => real x4 b u (hk h d)) i) := by
  rw [← ref_k, ← ref_last, ← ref_b]
  pointwise [val_main_v37, val_main_v36, val_main_v35, val_main_v34]

/-- The causal products. -/
theorem ref_attn (x0 x1 x4 : FVec Ideal S2048x512 .f32) (b : Fin 128) (h : Fin 4) (i u : Fin 16) :
    val_main_v23 (F := Ideal) x0 x1 x4 (ix4 b h i u)
      = if u ≤ i then ∑ d : Fin 128, val_main_v16 (F := Ideal) x0 x4 (ix4 b i h d) * val_main_v19 (F := Ideal) x1 x4 (ix4 b u h d) else 0 := by
  pointwise [val_main_v23, val_main_v22, val_main_call4_v2, val_main_call4_v1, val_main_call4_v0, val_main_cst_3]
  rw [ref_m, WordCmp.select_ofBool]
  simp only [decide_eq_true_eq]
  refine if_congr Iff.rfl rfl ?_
  pointwise [id]

/-- The outputs before normalisation. -/
theorem ref_raw (x0 x1 x4 : FVec Ideal S2048x512 .f32) (x2 : FVec Ideal S2048x1024 .bf16) (x6 : FVec Ideal S128x4x128x256 .f32) (b : Fin 128) (i : Fin 16) (h : Fin 4) (e : Fin 256) :
    val_main_v28 (F := Ideal) x0 x1 x2 x4 x6 (ix4 b i h e) = raw x0 x1 x4 x2 x6 b i h e := by
  unfold raw outRaw
  simp only [← ref_qd, ← ref_kd, ← ref_v]
  refine Eq.trans ?_ (congrArg₂ (· + ·) (Finset.sum_congr rfl fun u _ => mul_comm _ _) (Finset.sum_congr rfl fun d _ => mul_comm _ _))
  pointwise [val_main_v28, val_main_v27, val_main_v26, val_main_v25, val_main_v24]
  simp only [ref_attn]

/-- The states after the chunk. -/
theorem stArr_eq (x1 x4 : FVec Ideal S2048x512 .f32) (x2 : FVec Ideal S2048x1024 .bf16) (x6 : FVec Ideal S128x4x128x256 .f32) :
    val_main_v39 (F := Ideal) x1 x2 x4 x6 = stArr x1 x4 x2 x6 := by
  funext y
  idx_vars y
  show _ = st x1 x4 x2 x6 y0 y1 y2 y3
  unfold st stNext
  simp only [← ref_v]
  refine Eq.trans ?_ (congrArg₂ (· + ·) rfl (Finset.sum_congr rfl fun u _ => mul_comm _ _))
  pointwise [val_main_v39, val_main_v38, val_main_v33, val_main_v32, val_main_v31, val_main_v30, val_main_v29]
  simp only [ref_ke, ref_last]

/-- The normalised outputs. -/
theorem ref_norm (x0 x1 x4 : FVec Ideal S2048x512 .f32) (x2 : FVec Ideal S2048x1024 .bf16) (x6 : FVec Ideal S128x4x128x256 .f32) (x5 : FVec Ideal S1x256 .f32) (b : Fin 128) (i : Fin 16) (h : Fin 4) (e : Fin 256) :
    val_main_v53 (F := Ideal) x0 x1 x2 x4 x5 x6 (ix4 b i h e) = rms (fun x => raw x0 x1 x4 x2 x6 b i h x) (x5 (ix2 0 e)) e := by
  simp only [← ref_raw]
  pointwise [val_main_v53, val_main_v52, val_main_v51, val_main_v50, val_main_v49, val_main_v48, val_main_v47, val_main_v46, val_main_v45, val_main_v44, val_main_v43,
    val_main_v42, val_main_v41, val_main_v40, val_main_cst_4, val_main_cst_5, val_main_cst_6, rms]

/-- The gate. -/
theorem ref_gate (x3 : FVec Ideal S2048x1024 .f32) (r : Fin 2048) (k : Fin 1024) :
    val_main_v55 (F := Ideal) x3 (ix2 r k) = x3 (ix2 r k) * Ideal.logistic (x3 (ix2 r k)) := by
  pointwise [val_main_v55, val_main_call5_v5, val_main_call5_v4, val_main_call5_v3, val_main_call5_v2, val_main_call5_v1, val_main_call5_v0, val_main_call5_cst,
    val_main_call5_cst_0]
  rfl

/-- The gated outputs. -/
theorem outArr_eq (x0 x1 x4 : FVec Ideal S2048x512 .f32) (x2 : FVec Ideal S2048x1024 .bf16) (x6 : FVec Ideal S128x4x128x256 .f32) (x3 : FVec Ideal S2048x1024 .f32) (x5 : FVec Ideal S1x256 .f32) :
    val_main_v57 (F := Ideal) x0 x1 x2 x3 x4 x5 x6 = outArr x0 x1 x4 x2 x6 x3 x5 := by
  funext y
  idx_vars y
  obtain ⟨b, i, h, e, hr, hc⟩ := split y0 y1
  rw [outArr_at _ _ _ _ _ _ _ b i h e y0 y1 hr hc, res, ← hr, ← hc, ← ref_gate, ← ref_norm]
  subst hr hc
  have e1 : b.val * 16 + i.val = 16 * b.val + i.val := by omega
  have e2 : h.val * 256 + e.val = 256 * h.val + e.val := by omega
  simp only [row, hv, ← e1, ← e2]
  pointwise [val_main_v57, val_main_v56, val_main_v54]

end Cert.GlaSample

end
-- ==== Proof.GlaSample.Equation.lean ====
/- The sample sequences' recurrence and its reference leave the same results. -/
module

public import proofs.«01_k».proof.Defs
public import proofs.«01_k».proof.Proof.GlaSample.Array
public import proofs.«01_k».proof.Proof.GlaSample.Ref
public import Idealize.ShloMosaic.Lib.Claim

@[expose] public section

set_option maxRecDepth 16384

noncomputable section

namespace Cert.GlaSample

open Idealize.ShloMosaic Idealize.ShloMosaic.TcCoe Idealize.SL.Sem

/-- At Ideal, from equal arguments, both runs end with equal gated outputs and equal final states. -/
theorem algebraic : Cert.algebraic_Kernel8Ideal_Reference8Ideal := by
  pair_intro
  · run_from Cert.Kernel8Ideal.Gen.run_main m g
  · run_from Cert.Reference8Ideal.Value.run m' g'
    all_goals obtain ⟨h0, h1, h2, h3, h4, h5, h6⟩ := hagree c
    · rw [Cert.Reference8Ideal.Read.val_main_v57_eq, outArr_eq, h0, h1, h2, h3, h4, h5, h6]
      exact (final7 m c).symm
    · refine (Cert.Reference8Ideal.Read.val_main_v39_eq (F := Ideal) _ _ _ _).trans ?_
      rw [stArr_eq]
      exact (final8 m c).symm

end Cert.GlaSample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gla.Equation
public import proofs.«01_k».proof.Proof.Ffn.Equation
public import proofs.«01_k».proof.Proof.Merge.Equation
public import proofs.«01_k».proof.Proof.ProjGla.Equation
public import proofs.«01_k».proof.Proof.ProjAttn.Equation
public import proofs.«01_k».proof.Proof.ProjSample.Equation
public import proofs.«01_k».proof.Proof.FfnSample.Equation
public import proofs.«01_k».proof.Proof.GlaSample.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, by
  refine ⟨fun m ρ _ => Cert.Kernel.Gen.frame m ρ, fun m ρ _ => Cert.KernelIdeal.Gen.frame m ρ, ?_,
    fun m ρ _ => Cert.Kernel2.Gen.frame m ρ, fun m ρ _ => Cert.Kernel2Ideal.Gen.frame m ρ, ?_,
    fun m ρ _ => Cert.Kernel3.Gen.frame m ρ, fun m ρ _ => Cert.Kernel3Ideal.Gen.frame m ρ, ?_,
    fun m ρ _ => Cert.Kernel4.Gen.frame m ρ, fun m ρ _ => Cert.Kernel4Ideal.Gen.frame m ρ, ?_,
    fun m ρ _ => Cert.Kernel5.Gen.frame m ρ, fun m ρ _ => Cert.Kernel5Ideal.Gen.frame m ρ, ?_,
    fun m ρ _ => Cert.Kernel6.Gen.frame m ρ, fun m ρ _ => Cert.Kernel6Ideal.Gen.frame m ρ, ?_,
    fun m ρ _ => Cert.Kernel7.Gen.frame m ρ, fun m ρ _ => Cert.Kernel7Ideal.Gen.frame m ρ, ?_,
    fun m ρ _ => Cert.Kernel8.Gen.frame m ρ, fun m ρ _ => Cert.Kernel8Ideal.Gen.frame m ρ, ?_,
    trivial, Cert.Gla.algebraic,
    trivial, Cert.Ffn.algebraic,
    trivial, Cert.Merge.algebraic,
    trivial, Cert.ProjGla.algebraic,
    trivial, Cert.ProjAttn.algebraic,
    trivial, Cert.ProjSample.algebraic,
    trivial, Cert.FfnSample.algebraic,
    trivial, Cert.GlaSample.algebraic⟩
  · exact fun m ρ _ => (θ_run Cert.ReferenceIdeal.defs _ _).mono
      (fun r h => ⟨fun c => (h c).2.2, sem_eq_zero_of_no_sems (by decide) r.2⟩) (Cert.ReferenceIdeal.Value.run m ρ)
  · exact fun m ρ _ => (θ_run Cert.Reference2Ideal.defs _ _).mono
      (fun r h => ⟨fun c => (h c).2, sem_eq_zero_of_no_sems (by decide) r.2⟩) (Cert.Reference2Ideal.Value.run m ρ)
  · exact fun m ρ _ => (θ_run Cert.Reference3Ideal.defs _ _).mono
      (fun r h => ⟨fun c => (h c).2, sem_eq_zero_of_no_sems (by decide) r.2⟩) (Cert.Reference3Ideal.Value.run m ρ)
  · exact fun m ρ _ => (θ_run Cert.Reference4Ideal.defs _ _).mono
      (fun r h => ⟨fun c => (h c).2.2.2.2.2.2, sem_eq_zero_of_no_sems (by decide) r.2⟩) (Cert.Reference4Ideal.Value.run m ρ)
  · exact fun m ρ _ => (θ_run Cert.Reference5Ideal.defs _ _).mono
      (fun r h => ⟨fun c => (h c).2.2.2.2.2.2.2.2.2, sem_eq_zero_of_no_sems (by decide) r.2⟩) (Cert.Reference5Ideal.Value.run m ρ)
  · exact fun m ρ _ => (θ_run Cert.Reference6Ideal.defs _ _).mono
      (fun r h => ⟨fun c => (h c).2.2.2.2.2, sem_eq_zero_of_no_sems (by decide) r.2⟩) (Cert.Reference6Ideal.Value.run m ρ)
  · exact fun m ρ _ => (θ_run Cert.Reference7Ideal.defs _ _).mono
      (fun r h => ⟨fun c => (h c).2, sem_eq_zero_of_no_sems (by decide) r.2⟩) (Cert.Reference7Ideal.Value.run m ρ)
  · exact fun m ρ _ => (θ_run Cert.Reference8Ideal.defs _ _).mono
      (fun r h => ⟨fun c => (h c).2.2, sem_eq_zero_of_no_sems (by decide) r.2⟩) (Cert.Reference8Ideal.Value.run m ρ)⟩

end Cert.Proof

end
